-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_fall [hPre_decays_fall : Cert.Pre_decays_fall.Facts] (m : (ℓ : Loc Cert.KernelIdeal.nD Cert.KernelIdeal.τ Cert.KernelIdeal.sig) → Buf (Elt Ideal) ℓ) : Prop :=
  ∀ c : Dev Cert.KernelIdeal.nD,
    (Cert.Pre_decays_fall.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_fall [hPre_decays_fall : Cert.Pre_decays_fall.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_fall.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_decays_fall [hKernelIdeal : Cert.KernelIdeal.Facts] [hPre_decays_fall : Cert.Pre_decays_fall.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_fall m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_decays_fall [hReferenceIdeal : Cert.ReferenceIdeal.Facts] [hPre_decays_fall : Cert.Pre_decays_fall.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_fall m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7))
      ∧ r.2.sem = fun _ => 0)

def preserves_Kernel_KernelIdeal : Prop :=
  True

def algebraic_KernelIdeal_ReferenceIdeal_pre_decays_fall [hKernelIdeal : Cert.KernelIdeal.Facts] [hReferenceIdeal : Cert.ReferenceIdeal.Facts] [hPre_decays_fall : Cert.Pre_decays_fall.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_fall m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v70_0)) (v1 : (c : Dev Cert.ProjectIdeal.nD) → Buf (Elt Ideal) ((c.tc : Thread Cert.ProjectIdeal.nD Cert.ProjectIdeal.τ).loc Cert.ProjectIdeal.main_v70_1)) (v2 : (c : Dev Cert.ProjectIdeal.nD) → Buf (Elt Ideal) ((c.tc : Thread Cert.ProjectIdeal.nD Cert.ProjectIdeal.τ).loc Cert.ProjectIdeal.main_v70_2)) (v3 : (c : Dev Cert.ProjectIdeal.nD) → Buf (Elt Ideal) ((c.tc : Thread Cert.ProjectIdeal.nD Cert.ProjectIdeal.τ).loc Cert.ProjectIdeal.main_v70_3)) (v4 : (c : Dev Cert.ProjectIdeal.nD) → Buf (Elt Ideal) ((c.tc : Thread Cert.ProjectIdeal.nD Cert.ProjectIdeal.τ).loc Cert.ProjectIdeal.main_v70_4)) (v5 : (c : Dev Cert.ProjectIdeal.nD) → Buf (Elt Ideal) ((c.tc : Thread Cert.ProjectIdeal.nD Cert.ProjectIdeal.τ).loc Cert.ProjectIdeal.main_v70_5)) (v6 : (c : Dev Cert.ProjectIdeal.nD) → Buf (Elt Ideal) ((c.tc : Thread Cert.ProjectIdeal.nD Cert.ProjectIdeal.τ).loc Cert.ProjectIdeal.main_v70_6)) (v7 : (c : Dev Cert.ProjectIdeal.nD) → Buf (Elt Ideal) ((c.tc : Thread Cert.ProjectIdeal.nD Cert.ProjectIdeal.τ).loc Cert.ProjectIdeal.main_v70_7)) (v8 : (c : Dev Cert.ProjectIdeal.nD) → Buf (Elt Ideal) ((c.tc : Thread Cert.ProjectIdeal.nD Cert.ProjectIdeal.τ).loc Cert.ProjectIdeal.main_v70_8)) (v9 : (c : Dev Cert.ProjectIdeal.nD) → Buf (Elt Ideal) ((c.tc : Thread Cert.ProjectIdeal.nD Cert.ProjectIdeal.τ).loc Cert.ProjectIdeal.main_v70_9)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v70_0) = v0 c
          ∧ r.2.mem ((c.tc : Thread Cert.ProjectIdeal.nD Cert.ProjectIdeal.τ).loc Cert.ProjectIdeal.main_v70_1) = v1 c
          ∧ r.2.mem ((c.tc : Thread Cert.ProjectIdeal.nD Cert.ProjectIdeal.τ).loc Cert.ProjectIdeal.main_v70_2) = v2 c
          ∧ r.2.mem ((c.tc : Thread Cert.ProjectIdeal.nD Cert.ProjectIdeal.τ).loc Cert.ProjectIdeal.main_v70_3) = v3 c
          ∧ r.2.mem ((c.tc : Thread Cert.ProjectIdeal.nD Cert.ProjectIdeal.τ).loc Cert.ProjectIdeal.main_v70_4) = v4 c
          ∧ r.2.mem ((c.tc : Thread Cert.ProjectIdeal.nD Cert.ProjectIdeal.τ).loc Cert.ProjectIdeal.main_v70_5) = v5 c
          ∧ r.2.mem ((c.tc : Thread Cert.ProjectIdeal.nD Cert.ProjectIdeal.τ).loc Cert.ProjectIdeal.main_v70_6) = v6 c
          ∧ r.2.mem ((c.tc : Thread Cert.ProjectIdeal.nD Cert.ProjectIdeal.τ).loc Cert.ProjectIdeal.main_v70_7) = v7 c
          ∧ r.2.mem ((c.tc : Thread Cert.ProjectIdeal.nD Cert.ProjectIdeal.τ).loc Cert.ProjectIdeal.main_v70_8) = v8 c
          ∧ r.2.mem ((c.tc : Thread Cert.ProjectIdeal.nD Cert.ProjectIdeal.τ).loc Cert.ProjectIdeal.main_v70_9) = v9 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v173) = v0 c
          ∧ r.2.mem ((c.tc : Thread Cert.ProjectReferenceIdeal.nD Cert.ProjectReferenceIdeal.τ).loc Cert.ProjectReferenceIdeal.main_v174) = v1 c
          ∧ r.2.mem ((c.tc : Thread Cert.ProjectReferenceIdeal.nD Cert.ProjectReferenceIdeal.τ).loc Cert.ProjectReferenceIdeal.main_v175) = v2 c
          ∧ r.2.mem ((c.tc : Thread Cert.ProjectReferenceIdeal.nD Cert.ProjectReferenceIdeal.τ).loc Cert.ProjectReferenceIdeal.main_v176) = v3 c
          ∧ r.2.mem ((c.tc : Thread Cert.ProjectReferenceIdeal.nD Cert.ProjectReferenceIdeal.τ).loc Cert.ProjectReferenceIdeal.main_v177) = v4 c
          ∧ r.2.mem ((c.tc : Thread Cert.ProjectReferenceIdeal.nD Cert.ProjectReferenceIdeal.τ).loc Cert.ProjectReferenceIdeal.main_v178) = v5 c
          ∧ r.2.mem ((c.tc : Thread Cert.ProjectReferenceIdeal.nD Cert.ProjectReferenceIdeal.τ).loc Cert.ProjectReferenceIdeal.main_v179) = v6 c
          ∧ r.2.mem ((c.tc : Thread Cert.ProjectReferenceIdeal.nD Cert.ProjectReferenceIdeal.τ).loc Cert.ProjectReferenceIdeal.main_v180) = v7 c
          ∧ r.2.mem ((c.tc : Thread Cert.ProjectReferenceIdeal.nD Cert.ProjectReferenceIdeal.τ).loc Cert.ProjectReferenceIdeal.main_v158) = v8 c
          ∧ r.2.mem ((c.tc : Thread Cert.ProjectReferenceIdeal.nD Cert.ProjectReferenceIdeal.τ).loc Cert.ProjectReferenceIdeal.main_v172) = v9 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hPre_decays_fall : Cert.Pre_decays_fall.Facts),
    quiescent_Kernel (hKernel := hKernel)
    ∧ quiescent_KernelIdeal (hKernelIdeal := hKernelIdeal)
    ∧ quiescent_KernelIdeal_pre_decays_fall (hKernelIdeal := hKernelIdeal) (hPre_decays_fall := hPre_decays_fall)
    ∧ quiescent_ReferenceIdeal (hReferenceIdeal := hReferenceIdeal)
    ∧ quiescent_ReferenceIdeal_pre_decays_fall (hReferenceIdeal := hReferenceIdeal) (hPre_decays_fall := hPre_decays_fall)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_decays_fall (hKernelIdeal := hKernelIdeal) (hReferenceIdeal := hReferenceIdeal) (hPre_decays_fall := hPre_decays_fall)
    ∧ preserves_Project_ProjectIdeal
    ∧ algebraic_ProjectIdeal_ProjectReferenceIdeal (hProjectIdeal := hProjectIdeal) (hProjectReferenceIdeal := hProjectReferenceIdeal)
-- ==== Pre_decays_fall.lean ====
abbrev S128 : Shape := ⟨1, ![128]⟩
abbrev S8x4096x512 : Shape := ⟨3, ![8, 4096, 512]⟩
abbrev S8x4096x1024 : Shape := ⟨3, ![8, 4096, 1024]⟩
abbrev S8x4x128x256 : Shape := ⟨4, ![8, 4, 128, 256]⟩
abbrev S1x256 : Shape := ⟨2, ![1, 256]⟩
abbrev S8x64x64x512 : Shape := ⟨4, ![8, 64, 64, 512]⟩
abbrev S8x64x63x512 : Shape := ⟨4, ![8, 64, 63, 512]⟩

class Facts : Prop where
  shapeCasts_S8x4096x512_S8x64x64x512 : S8x4096x512.ShapeCasts S8x64x64x512
  slices_S8x64x64x512_S8x64x63x512_0_0_1_0 : S8x64x64x512.Slices ![0, 0, 1, 0] S8x64x63x512
  slices_S8x64x64x512_S8x64x63x512_0_0_0_0 : S8x64x64x512.Slices ![0, 0, 0, 0] S8x64x63x512

variable [Facts]

def fn {F : FTy → Type} [FloatOps F] (main_arg0 : IVec S128 32) (main_arg1 : FVec F S8x4096x512 .bf16) (main_arg2 : FVec F S8x4096x512 .bf16) (main_arg3 : FVec F S8x4096x1024 .bf16) (main_arg4 : FVec F S8x4096x512 .f32) (main_arg5 : FVec F S8x4x128x256 .f32) (main_arg6 : FVec F S8x4096x1024 .f32) (main_arg7 : FVec F S8x4096x1024 .bf16) (main_arg8 : FVec F S1x256 .f32) : IVec S8x64x63x512 1 :=
  let main_v0 : FVec F S8x64x64x512 .f32 := shapeCast S8x64x64x512 main_arg4 shapeCasts_S8x4096x512_S8x64x64x512
  let main_v1 : FVec F S8x64x63x512 .f32 := (extractStridedSlice S8x64x63x512 ![0, 0, 1, 0] · slices_S8x64x64x512_S8x64x63x512_0_0_1_0) main_v0
  let main_v2 : FVec F S8x64x63x512 .f32 := (extractStridedSlice S8x64x63x512 ![0, 0, 0, 0] · slices_S8x64x64x512_S8x64x63x512_0_0_0_0) main_v0
  let main_v3 : IVec S8x64x63x512 1 := cmpf .ole main_v1 main_v2
  main_v3
-- ==== Kernel.lean ====
abbrev S128 : Shape := ⟨1, ![128]⟩
abbrev S8x4096x512 : Shape := ⟨3, ![8, 4096, 512]⟩
abbrev S8x4096x1024 : Shape := ⟨3, ![8, 4096, 1024]⟩
abbrev S8x4x128x256 : Shape := ⟨4, ![8, 4, 128, 256]⟩
abbrev S1x256 : Shape := ⟨2, ![1, 256]⟩
abbrev S1x256x512 : Shape := ⟨3, ![1, 256, 512]⟩
abbrev S1x256x1024 : Shape := ⟨3, ![1, 256, 1024]⟩
abbrev S1x4x128x256 : Shape := ⟨4, ![1, 4, 128, 256]⟩
abbrev S4x128x256 : Shape := ⟨3, ![4, 128, 256]⟩
abbrev S64x64 : Shape := ⟨2, ![64, 64]⟩
abbrev S64x128 : Shape := ⟨2, ![64, 128]⟩
abbrev S1 : Shape := ⟨1, ![1]⟩
abbrev S1x64x128 : Shape := ⟨3, ![1, 64, 128]⟩
abbrev S1x64x256 : Shape := ⟨3, ![1, 64, 256]⟩
abbrev S64x256 : Shape := ⟨2, ![64, 256]⟩
abbrev S128x64 : Shape := ⟨2, ![128, 64]⟩
abbrev S128x1 : Shape := ⟨2, ![128, 1]⟩
abbrev S1x128x256 : Shape := ⟨3, ![1, 128, 256]⟩
abbrev S128x256 : Shape := ⟨2, ![128, 256]⟩
abbrev S1x128 : Shape := ⟨2, ![1, 128]⟩
abbrev S64 : Shape := ⟨1, ![64]⟩
abbrev S64x1 : Shape := ⟨2, ![64, 1]⟩

abbrev nBuf : Space → Nat
  | .hbm => 10
  | .vmem => 23
  | .smem => 1
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .bf16⟩
  | .hbm, ⟨3, _⟩ => ⟨S8x4096x512, .f32⟩
  | .hbm, ⟨4, _⟩ => ⟨S8x4x128x256, .f32⟩
  | .hbm, ⟨5, _⟩ => ⟨S8x4096x1024, .f32⟩
  | .hbm, ⟨6, _⟩ => ⟨S8x4096x1024, .bf16⟩
  | .hbm, ⟨7, _⟩ => ⟨S1x256, .f32⟩
  | .hbm, ⟨8, _⟩ => ⟨S8x4096x1024, .bf16⟩
  | .hbm, ⟨9, _⟩ => ⟨S8x4x128x256, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .f32⟩
  | .local _ .vmem, ⟨7, _⟩ => ⟨S1x256x512, .f32⟩
  | .local _ .vmem, ⟨8, _⟩ => ⟨S1x4x128x256, .f32⟩
  | .local _ .vmem, ⟨9, _⟩ => ⟨S1x4x128x256, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256, .f32⟩
  | .local _ .vmem, ⟨15, _⟩ => ⟨S1x256x1024, .bf16⟩
  | .local _ .vmem, ⟨16, _⟩ => ⟨S1x256x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x128x256, .f32⟩
  | .local _ .vmem, ⟨20, _⟩ => ⟨S64x64, .f32⟩
  | .local _ .vmem, ⟨21, _⟩ => ⟨S64x128, .f32⟩
  | .local _ .vmem, ⟨22, _⟩ => ⟨S64x128, .f32⟩
  | .local _ .smem, ⟨0, _⟩ => ⟨S128, .i32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let v5 : Index := Scalar.indexCast v4
  ![v5.toNat]
@[reducible] def k0_t1_loop : Scf.Loop 32 :=
  let c0_i32_2 : BitVec 32 := 0#32
  let c4_i32 : BitVec 32 := 4#32
  let v11 : BitVec 32 := Scalar.addi c0_i32_2 c4_i32
  let c1_i32 : BitVec 32 := 1#32
  ⟨c0_i32_2, v11, c1_i32⟩
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  v15
def k0_off2 (k0_t1 : Fin k0_t1_loop.trips) : Fin 3 → Nat :=
  let c0 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v17 : Index := Scalar.indexCast v16
  let c0_5 : Index := 0#32
  ![0, v17.toNat, 0]
def k0_off3 (k0_t1 : Fin k0_t1_loop.trips) : Fin 3 → Nat :=
  let c0_8 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v25 : Index := Scalar.indexCast v16
  let c0_9 : Index := 0#32
  ![0, v25.toNat, 0]
@[reducible] def k0_t2_loop : Scf.Loop 32 :=
  let c0_i32_135 : BitVec 32 := 0#32
  let c64_i32_136 : BitVec 32 := 64#32
  let v332 : BitVec 32 := Scalar.addi c0_i32_135 c64_i32_136
  let c1_i32_137 : BitVec 32 := 1#32
  ⟨c0_i32_135, v332, c1_i32_137⟩
def k0_off4 (k0_t2 : Fin k0_t2_loop.trips) : Fin 2 → Nat :=
  let c0_i32_135 : BitVec 32 := 0#32
  let c1_i32_137 : BitVec 32 := 1#32
  let arg18 : BitVec 32 := Scf.iv c0_i32_135 c1_i32_137 k0_t2
  let v337 : Index := Scalar.indexCast arg18
  let c0_141 : Index := 0#32
  ![v337.toNat, 0]
def k0_off5 (k0_t1 : Fin k0_t1_loop.trips) : Fin 3 → Nat :=
  let c0_25 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v65 : Index := Scalar.indexCast v16
  let c0_26 : Index := 0#32
  ![0, v65.toNat, 0]
def k0_off6 (k0_t1 : Fin k0_t1_loop.trips) : Fin 3 → Nat :=
  let c0_36 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v94 : Index := Scalar.indexCast v16
  let c128 : Index := 128#32
  ![0, v94.toNat, 128]
def k0_off7 (k0_t1 : Fin k0_t1_loop.trips) : Fin 3 → Nat :=
  let c0_39 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v102 : Index := Scalar.indexCast v16
  let c256 : Index := 256#32
  ![0, v102.toNat, 256]
@[reducible] def k0_t3_loop : Scf.Loop 32 :=
  let c0_i32_135 : BitVec 32 := 0#32
  let c64_i32_136 : BitVec 32 := 64#32
  let v332 : BitVec 32 := Scalar.addi c0_i32_135 c64_i32_136
  let c1_i32_137 : BitVec 32 := 1#32
  ⟨c0_i32_135, v332, c1_i32_137⟩
def k0_off8 (k0_t3 : Fin k0_t3_loop.trips) : Fin 2 → Nat :=
  let c0_i32_135 : BitVec 32 := 0#32
  let c1_i32_137 : BitVec 32 := 1#32
  let arg18 : BitVec 32 := Scf.iv c0_i32_135 c1_i32_137 k0_t3
  let v337 : Index := Scalar.indexCast arg18
  let c0_141 : Index := 0#32
  ![v337.toNat, 0]
def k0_off9 (k0_t1 : Fin k0_t1_loop.trips) : Fin 3 → Nat :=
  let c0_67 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v171 : Index := Scalar.indexCast v16
  let c256_68 : Index := 256#32
  ![0, v171.toNat, 256]
def k0_off10 (k0_t1 : Fin k0_t1_loop.trips) : Fin 3 → Nat :=
  let c0_71 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v179 : Index := Scalar.indexCast v16
  let c512 : Index := 512#32
  ![0, v179.toNat, 512]
@[reducible] def k0_t4_loop : Scf.Loop 32 :=
  let c0_i32_135 : BitVec 32 := 0#32
  let c64_i32_136 : BitVec 32 := 64#32
  let v332 : BitVec 32 := Scalar.addi c0_i32_135 c64_i32_136
  let c1_i32_137 : BitVec 32 := 1#32
  ⟨c0_i32_135, v332, c1_i32_137⟩
def k0_off11 (k0_t4 : Fin k0_t4_loop.trips) : Fin 2 → Nat :=
  let c0_i32_135 : BitVec 32 := 0#32
  let c1_i32_137 : BitVec 32 := 1#32
  let arg18 : BitVec 32 := Scf.iv c0_i32_135 c1_i32_137 k0_t4
  let v337 : Index := Scalar.indexCast arg18
  let c0_141 : Index := 0#32
  ![v337.toNat, 0]
def k0_off12 (k0_t1 : Fin k0_t1_loop.trips) : Fin 3 → Nat :=
  let c0_99 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v248 : Index := Scalar.indexCast v16
  let c384 : Index := 384#32
  ![0, v248.toNat, 384]
def k0_off13 (k0_t1 : Fin k0_t1_loop.trips) : Fin 3 → Nat :=
  let c0_102 : Index := 0#32
  let c0_i32_2 : BitVec 32 := 0#32
  let c1_i32 : BitVec 32 := 1#32
  let arg17 : BitVec 32 := Scf.iv c0_i32_2 c1_i32 k0_t1
  let c64_i32 : BitVec 32 := 64#32
  let v15 : BitVec 32 := Scalar.muli arg17 c64_i32
  let v16 : BitVec 32 := v15
  let v256 : Index := Scalar.indexCast v16
  let c768 : Index := 768#32
  ![0, v256.toNat, 768]
@[reducible] def k0_t5_loop : Scf.Loop 32 :=
  let c0_i32_135 : BitVec 32 := 0#32
  let c64_i32_136 : BitVec 32 := 64#32
  let v332 : BitVec 32 := Scalar.addi c0_i32_135 c64_i32_136
  let c1_i32_137 : BitVec 32 := 1#32
  ⟨c0_i32_135, v332, c1_i32_137⟩
def k0_off14 (k0_t5 : Fin k0_t5_loop.trips) : Fin 2 → Nat :=
  let c0_i32_135 : BitVec 32 := 0#32
  let c1_i32_137 : BitVec 32 := 1#32
  let arg18 : BitVec 32 := Scf.iv c0_i32_135 c1_i32_137 k0_t5
  let v337 : Index := Scalar.indexCast arg18
  let c0_141 : Index := 0#32
  ![v337.toNat, 0]
def k0_cond10 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_4 : BitVec 32 := 0#32
  let v14 : BitVec 1 := Scalar.cmpi .ne v13 c0_i32_4
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S128 : Shape := ⟨1, ![128]⟩
abbrev S8x4096x512 : Shape := ⟨3, ![8, 4096, 512]⟩
abbrev S8x4096x1024 : Shape := ⟨3, ![8, 4096, 1024]⟩
abbrev S8x4x128x256 : Shape := ⟨4, ![8, 4, 128, 256]⟩
abbrev S1x256 : Shape := ⟨2, ![1, 256]⟩
abbrev S_ : Shape := ⟨0, ![]⟩
abbrev S64x64 : Shape := ⟨2, ![64, 64]⟩
abbrev S8x64x64x4x128 : Shape := ⟨5, ![8, 64, 64, 4, 128]⟩
abbrev S64x8x4x64x128 : Shape := ⟨5, ![64, 8, 4, 64, 128]⟩
abbrev S8x64x64x4x256 : Shape := ⟨5, ![8, 64, 64, 4, 256]⟩
abbrev S64x8x4x64x256 : Shape := ⟨5, ![64, 8, 4, 64, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S64x64x1 : Shape := ⟨3, ![64, 64, 1]⟩
abbrev S8x4x64x64 : Shape := ⟨4, ![8, 4, 64, 64]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S256 : Shape := ⟨1, ![256]⟩
abbrev S1x1x1x256 : Shape := ⟨4, ![1, 1, 1, 256]⟩

abbrev nBuf : Space → Nat
  | .hbm => 147
  | .vmem => 0
  | .smem => 0
  | _ => 0

abbrev hbmTy0_0 (i : Nat) : BufTy := match i % 128 with
  | 0 => ⟨S128, .i32⟩
  | 1 => ⟨S8x4096x512, .bf16⟩
  | 2 => ⟨S8x4096x512, .bf16⟩
  | 3 => ⟨S8x4096x1024, .bf16⟩
  | 4 => ⟨S8x4096x512, .f32⟩
  | 5 => ⟨S8x4x128x256, .f32⟩
  | 6 => ⟨S8x4096x1024, .f32⟩
  | 7 => ⟨S8x4096x1024, .bf16⟩
  | 8 => ⟨S1x256, .f32⟩
  | 9 => ⟨S_, .i1⟩
  | 10 => ⟨S64x64, .i1⟩
  | 11 => ⟨S64x64, .i32⟩
  | 12 => ⟨S_, .i32⟩
  | 13 => ⟨S64x64, .i32⟩
  | 14 => ⟨S64x64, .i32⟩
  | 15 => ⟨S64x64, .i32⟩
  | 16 => ⟨S64x64, .i1⟩
  | 17 => ⟨S_, .i1⟩
  | 18 => ⟨S64x64, .i1⟩
  | 19 => ⟨S64x64, .i1⟩
  | 20 => ⟨S8x4096x512, .f32⟩
  | 21 => ⟨S8x64x64x4x128, .f32⟩
  | 22 => ⟨S64x8x4x64x128, .f32⟩
  | 23 => ⟨S8x4096x512, .f32⟩
  | 24 => ⟨S8x64x64x4x128, .f32⟩
  | 25 => ⟨S64x8x4x64x128, .f32⟩
  | 26 => ⟨S8x4096x1024, .f32⟩
  | 27 => ⟨S8x64x64x4x256, .f32⟩
  | 28 => ⟨S64x8x4x64x256, .f32⟩
  | 29 => ⟨S8x64x64x4x128, .f32⟩
  | 30 => ⟨S64x8x4x64x128, .f32⟩
  | 31 => ⟨S_, .f32⟩
  | 32 => ⟨S64x8x4x64x256, .f32⟩
  | 33 => ⟨S_, .i32⟩
  | 34 => ⟨S64x8x4x64x128, .f32⟩
  | 35 => ⟨S64x8x4x64x128, .f32⟩
  | 36 => ⟨S64x8x4x64x256, .f32⟩
  | 37 => ⟨S64x8x4x64x128, .f32⟩
  | 38 => ⟨S64x64, .i1⟩
  | 39 => ⟨S_, .i32⟩
  | 40 => ⟨S8x4x128x256, .f32⟩
  | 41 => ⟨S64x8x4x64x256, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x8x4x64x128, .f32⟩
  | 49 => ⟨S8x4x64x128, .f32⟩
  | 50 => ⟨S_, .i32⟩
  | 51 => ⟨S_, .i32⟩
  | 52 => ⟨S_, .i32⟩
  | 53 => ⟨S_, .i32⟩
  | 54 => ⟨S1x8x4x64x128, .f32⟩
  | 55 => ⟨S8x4x64x128, .f32⟩
  | 56 => ⟨S_, .i32⟩
  | 57 => ⟨S_, .i32⟩
  | 58 => ⟨S_, .i32⟩
  | 59 => ⟨S_, .i32⟩
  | 60 => ⟨S1x8x4x64x256, .f32⟩
  | 61 => ⟨S8x4x64x256, .f32⟩
  | 62 => ⟨S_, .i32⟩
  | 63 => ⟨S_, .i32⟩
  | 64 => ⟨S_, .i32⟩
  | 65 => ⟨S_, .i32⟩
  | 66 => ⟨S1x8x4x64x128, .f32⟩
  | 67 => ⟨S8x4x64x128, .f32⟩
  | 68 => ⟨S8x4x1x128, .f32⟩
  | 69 => ⟨S8x4x128, .f32⟩
  | 70 => ⟨S8x4x128x1, .f32⟩
  | 71 => ⟨S8x4x128x1, .f32⟩
  | 72 => ⟨S8x4x128x256, .f32⟩
  | 73 => ⟨S8x4x128x256, .f32⟩
  | 74 => ⟨S8x4x64x128, .f32⟩
  | 75 => ⟨S8x4x64x128, .f32⟩
  | 76 => ⟨S8x4x64x128, .f32⟩
  | 77 => ⟨S8x4x64x128, .f32⟩
  | 78 => ⟨S8x4x128x256, .f32⟩
  | 79 => ⟨S8x4x128x256, .f32⟩
  | 80 => ⟨S8x4x64x1x128, .f32⟩
  | 81 => ⟨S8x4x1x64x128, .f32⟩
  | 82 => ⟨S8x4x64x64x128, .f32⟩
  | 83 => ⟨S8x4x64x64x128, .f32⟩
  | 84 => ⟨S8x4x64x64x128, .f32⟩
  | 85 => ⟨S64x64x1, .i1⟩
  | 86 => ⟨S_, .f32⟩
  | 87 => ⟨S_, .f32⟩
  | 88 => ⟨S8x4x64x64x128, .i1⟩
  | 89 => ⟨S8x4x64x64x128, .f32⟩
  | 90 => ⟨S8x4x64x64x128, .f32⟩
  | 91 => ⟨S8x4x64x64x128, .f32⟩
  | 92 => ⟨S8x4x64x1x128, .f32⟩
  | 93 => ⟨S8x4x1x64x128, .f32⟩
  | 94 => ⟨S8x4x64x64x128, .f32⟩
  | 95 => ⟨S8x4x64x64x128, .f32⟩
  | 96 => ⟨S8x4x64x64x128, .f32⟩
  | 97 => ⟨S8x4x64x64x128, .f32⟩
  | 98 => ⟨S_, .f32⟩
  | 99 => ⟨S8x4x64x64, .f32⟩
  | 100 => ⟨S8x4x64x256, .f32⟩
  | 101 => ⟨S8x4x64x128, .f32⟩
  | 102 => ⟨S8x4x64x128, .f32⟩
  | 103 => ⟨S8x4x64x256, .f32⟩
  | 104 => ⟨S8x4x64x256, .f32⟩
  | 105 => ⟨S1x8x4x64x256, .f32⟩
  | 106 => ⟨S_, .i32⟩
  | 107 => ⟨S_, .i32⟩
  | 108 => ⟨S_, .i32⟩
  | 109 => ⟨S_, .i32⟩
  | 110 => ⟨S64x8x4x64x256, .f32⟩
  | 111 => ⟨S_, .i32⟩
  | 112 => ⟨S_, .i32⟩
  | 113 => ⟨S8x64x64x4x256, .f32⟩
  | 114 => ⟨S8x4096x4x256, .f32⟩
  | 115 => ⟨S8x4096x4x256, .f32⟩
  | 116 => ⟨S8x4096x4x256, .f32⟩
  | 117 => ⟨S8x4096x4x256, .f32⟩
  | 118 => ⟨S_, .f32⟩
  | 119 => ⟨S8x4096x4, .f32⟩
  | 120 => ⟨S8x4096x4x1, .f32⟩
  | 121 => ⟨S_, .f32⟩
  | 122 => ⟨S8x4096x4x1, .f32⟩
  | 123 => ⟨S8x4096x4x1, .f32⟩
  | 124 => ⟨S_, .f32⟩
  | 125 => ⟨S8x4096x4x1, .f32⟩
  | 126 => ⟨S8x4096x4x1, .f32⟩
  | 127 => ⟨S8x4096x4x1, .f32⟩
  | _ => ⟨S128, .i32⟩

abbrev hbmTy0_1 (i : Nat) : BufTy := match i % 128 with
  | 0 => ⟨S8x4096x4x256, .f32⟩
  | 1 => ⟨S8x4096x4x256, .f32⟩
  | 2 => ⟨S256, .f32⟩
  | 3 => ⟨S1x1x1x256, .f32⟩
  | 4 => ⟨S8x4096x4x256, .f32⟩
  | 5 => ⟨S8x4096x4x256, .f32⟩
  | 6 => ⟨S8x4096x1024, .f32⟩
  | 7 => ⟨S8x4096x1024, .f32⟩
  | 8 => ⟨S8x4096x1024, .f32⟩
  | 9 => ⟨S8x4096x1024, .f32⟩
  | 10 => ⟨S_, .f32⟩
  | 11 => ⟨S8x4096x1024, .f32⟩
  | 12 => ⟨S8x4096x1024, .f32⟩
  | 13 => ⟨S_, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .bf16⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_c_0 : Ref sig .tc := ⟨.hbm, 33, rfl⟩
abbrev main_v14_0 : Ref sig .tc := ⟨.hbm, 34, rfl⟩
abbrev main_v14_1 : Ref sig .tc := ⟨.hbm, 35, rfl⟩
abbrev main_v14_2 : Ref sig .tc := ⟨.hbm, 36, rfl⟩
abbrev main_v14_3 : Ref sig .tc := ⟨.hbm, 37, rfl⟩
abbrev main_v14_4 : Ref sig .tc := ⟨.hbm, 38, rfl⟩
abbrev main_v14_5 : Ref sig .tc := ⟨.hbm, 39, rfl⟩
abbrev main_v14_6 : Ref sig .tc := ⟨.hbm, 40, rfl⟩
abbrev main_v14_7 : Ref sig .tc := ⟨.hbm, 41, rfl⟩
abbrev main_while0c_c_11 : Ref sig .tc := ⟨.hbm, 42, rfl⟩
abbrev main_while0c_v38 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v38 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v39 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v40 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_v58 : Ref sig .tc := ⟨.hbm, 84, rfl⟩
abbrev main_while0b_v59 : Ref sig .tc := ⟨.hbm, 85, rfl⟩
abbrev main_while0b_cst_11 : Ref sig .tc := ⟨.hbm, 86, rfl⟩
abbrev main_while0b_call5_v0 : Ref sig .tc := ⟨.hbm, 87, rfl⟩
abbrev main_while0b_call5_v1 : Ref sig .tc := ⟨.hbm, 88, rfl⟩
abbrev main_while0b_call5_v2 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_v66 : Ref sig .tc := ⟨.hbm, 96, rfl⟩
abbrev main_while0b_v67 : Ref sig .tc := ⟨.hbm, 97, rfl⟩
abbrev main_while0b_cst_12 : Ref sig .tc := ⟨.hbm, 98, rfl⟩
abbrev main_while0b_v68 : Ref sig .tc := ⟨.hbm, 99, rfl⟩
abbrev main_while0b_v69 : Ref sig .tc := ⟨.hbm, 100, rfl⟩
abbrev main_while0b_v70 : Ref sig .tc := ⟨.hbm, 101, rfl⟩
abbrev main_while0b_v71 : Ref sig .tc := ⟨.hbm, 102, rfl⟩
abbrev main_while0b_v72 : Ref sig .tc := ⟨.hbm, 103, rfl⟩
abbrev main_while0b_v73 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_c_2 : Ref sig .tc := ⟨.hbm, 109, rfl⟩
abbrev main_while0b_v74 : Ref sig .tc := ⟨.hbm, 110, rfl⟩
abbrev main_while0b_c_13 : Ref sig .tc := ⟨.hbm, 111, rfl⟩
abbrev main_while0b_v75 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_cst_1 : Ref sig .tc := ⟨.hbm, 118, rfl⟩
abbrev main_v20 : Ref sig .tc := ⟨.hbm, 119, rfl⟩
abbrev main_v21 : Ref sig .tc := ⟨.hbm, 120, rfl⟩
abbrev main_cst_2 : Ref sig .tc := ⟨.hbm, 121, rfl⟩
abbrev main_v22 : Ref sig .tc := ⟨.hbm, 122, rfl⟩
abbrev main_v23 : Ref sig .tc := ⟨.hbm, 123, rfl⟩
abbrev main_cst_3 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_call7_v0 : Ref sig .tc := ⟨.hbm, 136, rfl⟩
abbrev main_call7_v1 : Ref sig .tc := ⟨.hbm, 137, rfl⟩
abbrev main_call7_cst : Ref sig .tc := ⟨.hbm, 138, rfl⟩
abbrev main_call7_v2 : Ref sig .tc := ⟨.hbm, 139, rfl⟩
abbrev main_call7_v3 : Ref sig .tc := ⟨.hbm, 140, rfl⟩
abbrev main_call7_cst_0 : Ref sig .tc := ⟨.hbm, 141, rfl⟩
abbrev main_call7_v4 : Ref sig .tc := ⟨.hbm, 142, rfl⟩
abbrev main_call7_v5 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩

abbrev nD : Nat := 1
abbrev τ : Topo := Topo.v7x

variable {F : FTy → Type} [FloatOps F]

abbrev main_while0_count : Scf.Loop 32 := ⟨0#32, 64#32, 1#32⟩
-- ==== Project.lean ====
abbrev S8x4096x1024 : Shape := ⟨3, ![8, 4096, 1024]⟩
abbrev S16x1x3072 : Shape := ⟨3, ![16, 1, 3072]⟩
abbrev S1x1024 : Shape := ⟨2, ![1, 1024]⟩
abbrev S1x1024x7200 : Shape := ⟨3, ![1, 1024, 7200]⟩
abbrev S1x16x512 : Shape := ⟨3, ![1, 16, 512]⟩
abbrev S1x512 : Shape := ⟨2, ![1, 512]⟩
abbrev S1024x7200 : Shape := ⟨2, ![1024, 7200]⟩
abbrev S1024x3072 : Shape := ⟨2, ![1024, 3072]⟩
abbrev S1024x4096 : Shape := ⟨2, ![1024, 4096]⟩
abbrev S1024x7168 : Shape := ⟨2, ![1024, 7168]⟩
abbrev S1024x32 : Shape := ⟨2, ![1024, 32]⟩
abbrev S_ : Shape := ⟨0, ![]⟩
abbrev S1024x128 : Shape := ⟨2, ![1024, 128]⟩
abbrev S128x1024 : Shape := ⟨2, ![128, 1024]⟩
abbrev S16x512 : Shape := ⟨2, ![16, 512]⟩
abbrev S1 : Shape := ⟨1, ![1]⟩
abbrev S2 : Shape := ⟨1, ![2]⟩
abbrev S512 : Shape := ⟨1, ![512]⟩
abbrev S1024 : Shape := ⟨1, ![1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128 : Shape := ⟨1, ![128]⟩
abbrev S1x4096x128 : Shape := ⟨3, ![1, 4096, 128]⟩
abbrev S6x4096x128 : Shape := ⟨3, ![6, 4096, 128]⟩
abbrev S8x4096x512 : Shape := ⟨3, ![8, 4096, 512]⟩
abbrev S128x8x128 : Shape := ⟨3, ![128, 8, 128]⟩
abbrev S1x256x1024 : Shape := ⟨3, ![1, 256, 1024]⟩
abbrev S1x1x1024 : Shape := ⟨3, ![1, 1, 1024]⟩
abbrev S6x256x128 : Shape := ⟨3, ![6, 256, 128]⟩
abbrev S1x256x512 : Shape := ⟨3, ![1, 256, 512]⟩
abbrev S1x8x128 : Shape := ⟨3, ![1, 8, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x128 : Shape := ⟨3, ![1, 256, 128]⟩
abbrev S256x128 : Shape := ⟨2, ![256, 128]⟩
abbrev S1024x1024 : Shape := ⟨2, ![1024, 1024]⟩
abbrev S1x1 : Shape := ⟨2, ![1, 1]⟩
abbrev S8x128 : Shape := ⟨2, ![8, 128]⟩

abbrev nBuf : Space → Nat
  | .hbm => 169
  | .vmem => 35
  | .smem => 0
  | _ => 0

abbrev hbmTy0_0 (i : Nat) : BufTy := match i % 128 with
  | 0 => ⟨S8x4096x1024, .f32⟩
  | 1 => ⟨S16x1x3072, .f32⟩
  | 2 => ⟨S1x1024, .f32⟩
  | 3 => ⟨S1x1024x7200, .f32⟩
  | 4 => ⟨S1x16x512, .f32⟩
  | 5 => ⟨S1x512, .f32⟩
  | 6 => ⟨S1x16x512, .f32⟩
  | 7 => ⟨S1x512, .f32⟩
  | 8 => ⟨S1024x7200, .f32⟩
  | 9 => ⟨S1024x3072, .f32⟩
  | 10 => ⟨S1024x4096, .f32⟩
  | 11 => ⟨S1024x7168, .f32⟩
  | 12 => ⟨S1024x7168, .bf16⟩
  | 13 => ⟨S1024x32, .f32⟩
  | 14 => ⟨S_, .i32⟩
  | 15 => ⟨S_, .f32⟩
  | 16 => ⟨S1024x128, .f32⟩
  | 17 => ⟨S1024x128, .bf16⟩
  | 18 => ⟨S_, .f32⟩
  | 19 => ⟨S128x1024, .f32⟩
  | 20 => ⟨S16x512, .f32⟩
  | 21 => ⟨S_, .i32⟩
  | 22 => ⟨S1, .i32⟩
  | 23 => ⟨S_, .i32⟩
  | 24 => ⟨S1, .i32⟩
  | 25 => ⟨S2, .i32⟩
  | 26 => ⟨S128x1024, .f32⟩
  | 27 => ⟨S16x512, .f32⟩
  | 28 => ⟨S_, .i32⟩
  | 29 => ⟨S1, .i32⟩
  | 30 => ⟨S_, .i32⟩
  | 31 => ⟨S1, .i32⟩
  | 32 => ⟨S2, .i32⟩
  | 33 => ⟨S128x1024, .f32⟩
  | 34 => ⟨S128x1024, .bf16⟩
  | 35 => ⟨S512, .f32⟩
  | 36 => ⟨S512, .f32⟩
  | 37 => ⟨S1024, .f32⟩
  | 38 => ⟨S1x1024, .f32⟩
  | 39 => ⟨S1024, .f32⟩
  | 40 => ⟨S1x1024, .f32⟩
  | 41 => ⟨S4096, .i32⟩
  | 42 => ⟨S_, .i32⟩
  | 43 => ⟨S_, .i32⟩
  | 44 => ⟨S4096, .i32⟩
  | 45 => ⟨S4096, .i32⟩
  | 46 => ⟨S4096, .i32⟩
  | 47 => ⟨S_, .i32⟩
  | 48 => ⟨S4096, .i32⟩
  | 49 => ⟨S4096, .i1⟩
  | 50 => ⟨S4096, .i32⟩
  | 51 => ⟨S4096, .i32⟩
  | 52 => ⟨S_, .i32⟩
  | 53 => ⟨S4096, .i32⟩
  | 54 => ⟨S4096, .i1⟩
  | 55 => ⟨S4096, .i1⟩
  | 56 => ⟨S_, .i32⟩
  | 57 => ⟨S4096, .i32⟩
  | 58 => ⟨S4096, .i32⟩
  | 59 => ⟨S4096, .i32⟩
  | 60 => ⟨S4096, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i1⟩
  | 72 => ⟨S_, .i32⟩
  | 73 => ⟨S4096, .i32⟩
  | 74 => ⟨S4096, .i1⟩
  | 75 => ⟨S_, .i32⟩
  | 76 => ⟨S_, .i1⟩
  | 77 => ⟨S4096, .i1⟩
  | 78 => ⟨S4096, .i1⟩
  | 79 => ⟨S4096, .i1⟩
  | 80 => ⟨S4096, .i32⟩
  | 81 => ⟨S4096, .i32⟩
  | 82 => ⟨S4096, .i32⟩
  | 83 => ⟨S4096, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S4096x1, .f32⟩
  | 93 => ⟨S1x32, .f32⟩
  | 94 => ⟨S4096x32, .f32⟩
  | 95 => ⟨S4096x32, .f32⟩
  | 96 => ⟨S4096x32, .f32⟩
  | 97 => ⟨S4096x1, .f32⟩
  | 98 => ⟨S1x32, .f32⟩
  | 99 => ⟨S4096x32, .f32⟩
  | 100 => ⟨S4096x32, .f32⟩
  | 101 => ⟨S4096x32, .f32⟩
  | 102 => ⟨S4096x128, .f32⟩
  | 103 => ⟨S4096x128, .f32⟩
  | 104 => ⟨S4096x128, .f32⟩
  | 105 => ⟨S128, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i1⟩
  | 120 => ⟨S_, .i32⟩
  | 121 => ⟨S_, .i1⟩
  | 122 => ⟨S128, .i1⟩
  | 123 => ⟨S128, .i1⟩
  | 124 => ⟨S128, .i1⟩
  | 125 => ⟨S128, .i32⟩
  | 126 => ⟨S128, .i32⟩
  | 127 => ⟨S128, .i32⟩
  | _ => ⟨S8x4096x1024, .f32⟩

abbrev hbmTy0_1 (i : Nat) : BufTy := match i % 128 with
  | 0 => ⟨S_, .i32⟩
  | 1 => ⟨S128, .i32⟩
  | 2 => ⟨S128, .i1⟩
  | 3 => ⟨S4096x128, .f32⟩
  | 4 => ⟨S_, .f32⟩
  | 5 => ⟨S_, .f32⟩
  | 6 => ⟨S4096x128, .i1⟩
  | 7 => ⟨S4096x128, .f32⟩
  | 8 => ⟨S4096x128, .f32⟩
  | 9 => ⟨S_, .f32⟩
  | 10 => ⟨S_, .f32⟩
  | 11 => ⟨S4096x128, .i1⟩
  | 12 => ⟨S4096x128, .f32⟩
  | 13 => ⟨S4096x128, .f32⟩
  | 14 => ⟨S_, .f32⟩
  | 15 => ⟨S4096x128, .f32⟩
  | 16 => ⟨S4096x128, .f32⟩
  | 17 => ⟨S_, .f32⟩
  | 18 => ⟨S4096x128, .f32⟩
  | 19 => ⟨S4096x128, .f32⟩
  | 20 => ⟨S_, .f32⟩
  | 21 => ⟨S4096x128, .f32⟩
  | 22 => ⟨S4096x128, .f32⟩
  | 23 => ⟨S1x4096x128, .f32⟩
  | 24 => ⟨S1x4096x128, .f32⟩
  | 25 => ⟨S1x4096x128, .f32⟩
  | 26 => ⟨S1x4096x128, .f32⟩
  | 27 => ⟨S1x4096x128, .f32⟩
  | 28 => ⟨S1x4096x128, .f32⟩
  | 29 => ⟨S6x4096x128, .f32⟩
  | 30 => ⟨S8x4096x512, .bf16⟩
  | 31 => ⟨S8x4096x512, .bf16⟩
  | 32 => ⟨S8x4096x1024, .bf16⟩
  | 33 => ⟨S8x4096x1024, .bf16⟩
  | 34 => ⟨S8x4096x1024, .bf16⟩
  | 35 => ⟨S8x4096x1024, .bf16⟩
  | 36 => ⟨S8x4096x1024, .bf16⟩
  | 37 => ⟨S8x4096x1024, .bf16⟩
  | 38 => ⟨S8x4096x512, .f32⟩
  | 39 => ⟨S8x4096x512, .f32⟩
  | 40 => ⟨S128x8x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S6x256x128, .f32⟩
  | .local _ .vmem, ⟨8, _⟩ => ⟨S6x256x128, .f32⟩
  | .local _ .vmem, ⟨9, _⟩ => ⟨S1024x7168, .bf16⟩
  | .local _ .vmem, ⟨10, _⟩ => ⟨S1024x128, .bf16⟩
  | .local _ .vmem, ⟨11, _⟩ => ⟨S128x1024, .bf16⟩
  | .local _ .vmem, ⟨12, _⟩ => ⟨S1x1024, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x8x128, .f32⟩
  | .local _ .vmem, ⟨34, _⟩ => ⟨S1x8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_6 : Ref sig .tc := ⟨.hbm, 86, rfl⟩
abbrev main_v33 : Ref sig .tc := ⟨.hbm, 87, rfl⟩
abbrev main_v34 : Ref sig .tc := ⟨.hbm, 88, rfl⟩
abbrev main_cst_7 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_c_8 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_c_1 : Ref sig .tc := ⟨.hbm, 114, rfl⟩
abbrev main_call3_v5 : Ref sig .tc := ⟨.hbm, 115, rfl⟩
abbrev main_call3_v6 : Ref sig .tc := ⟨.hbm, 116, rfl⟩
abbrev main_call3_c_2 : Ref sig .tc := ⟨.hbm, 117, rfl⟩
abbrev main_call3_v7 : Ref sig .tc := ⟨.hbm, 118, rfl⟩
abbrev main_call3_v8 : Ref sig .tc := ⟨.hbm, 119, rfl⟩
abbrev main_call3_c_3 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_v51 : Ref sig .tc := ⟨.hbm, 127, rfl⟩
abbrev main_c_9 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_cst_10 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v55 : Ref sig .tc := ⟨.hbm, 136, rfl⟩
abbrev main_cst_11 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_v56 : Ref sig .tc := ⟨.hbm, 141, rfl⟩
abbrev main_cst_12 : Ref sig .tc := ⟨.hbm, 142, rfl⟩
abbrev main_v57 : Ref sig .tc := ⟨.hbm, 143, rfl⟩
abbrev main_v58 : Ref sig .tc := ⟨.hbm, 144, rfl⟩
abbrev main_cst_13 : Ref sig .tc := ⟨.hbm, 145, rfl⟩
abbrev main_v59 : Ref sig .tc := ⟨.hbm, 146, rfl⟩
abbrev main_v60 : Ref sig .tc := ⟨.hbm, 147, rfl⟩
abbrev main_cst_14 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70_0 : Ref sig .tc := ⟨.hbm, 158, rfl⟩
abbrev main_v70_1 : Ref sig .tc := ⟨.hbm, 159, rfl⟩
abbrev main_v70_2 : Ref sig .tc := ⟨.hbm, 160, rfl⟩
abbrev main_v70_3 : Ref sig .tc := ⟨.hbm, 161, rfl⟩
abbrev main_v70_4 : Ref sig .tc := ⟨.hbm, 162, rfl⟩
abbrev main_v70_5 : Ref sig .tc := ⟨.hbm, 163, rfl⟩
abbrev main_v70_6 : Ref sig .tc := ⟨.hbm, 164, rfl⟩
abbrev main_v70_7 : Ref sig .tc := ⟨.hbm, 165, rfl⟩
abbrev main_v70_8 : Ref sig .tc := ⟨.hbm, 166, rfl⟩
abbrev main_v70_9 : Ref sig .tc := ⟨.hbm, 167, rfl⟩
abbrev main_v70_10 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S6x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ProjectReferenceIdeal.lean ====
abbrev S8x4096x1024 : Shape := ⟨3, ![8, 4096, 1024]⟩
abbrev S16x1x3072 : Shape := ⟨3, ![16, 1, 3072]⟩
abbrev S1x1024 : Shape := ⟨2, ![1, 1024]⟩
abbrev S1x1024x7200 : Shape := ⟨3, ![1, 1024, 7200]⟩
abbrev S1x16x512 : Shape := ⟨3, ![1, 16, 512]⟩
abbrev S1x512 : Shape := ⟨2, ![1, 512]⟩
abbrev S4096 : Shape := ⟨1, ![4096]⟩
abbrev S_ : Shape := ⟨0, ![]⟩
abbrev S8x1x3072 : Shape := ⟨3, ![8, 1, 3072]⟩
abbrev S8x1x1024 : Shape := ⟨3, ![8, 1, 1024]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x7200 : Shape := ⟨2, ![1024, 7200]⟩
abbrev S8x4096x7200 : Shape := ⟨3, ![8, 4096, 7200]⟩
abbrev S8x4096x512 : Shape := ⟨3, ![8, 4096, 512]⟩
abbrev S8x4096x16 : Shape := ⟨3, ![8, 4096, 16]⟩
abbrev S32 : Shape := ⟨1, ![32]⟩
abbrev S8x4096x4x128 : Shape := ⟨4, ![8, 4096, 4, 128]⟩
abbrev S8x4096x4x64 : Shape := ⟨4, ![8, 4096, 4, 64]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x4x32 : Shape := ⟨4, ![8, 4096, 4, 32]⟩
abbrev S16x512 : Shape := ⟨2, ![16, 512]⟩
abbrev S512 : Shape := ⟨1, ![512]⟩
abbrev S1x1x512 : Shape := ⟨3, ![1, 1, 512]⟩
abbrev S8x64x64x512 : Shape := ⟨4, ![8, 64, 64, 512]⟩

abbrev nBuf : Space → Nat
  | .hbm => 270
  | .vmem => 0
  | .smem => 0
  | _ => 0

abbrev hbmTy0_0 (i : Nat) : BufTy := match i % 128 with
  | 0 => ⟨S8x4096x1024, .f32⟩
  | 1 => ⟨S16x1x3072, .f32⟩
  | 2 => ⟨S1x1024, .f32⟩
  | 3 => ⟨S1x1024x7200, .f32⟩
  | 4 => ⟨S1x16x512, .f32⟩
  | 5 => ⟨S1x512, .f32⟩
  | 6 => ⟨S1x16x512, .f32⟩
  | 7 => ⟨S1x512, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S4096, .f32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i1⟩
  | 42 => ⟨S_, .i32⟩
  | 43 => ⟨S_, .i1⟩
  | 44 => ⟨S4096, .i1⟩
  | 45 => ⟨S4096, .i1⟩
  | 46 => ⟨S4096, .i1⟩
  | 47 => ⟨S4096, .i32⟩
  | 48 => ⟨S4096, .i32⟩
  | 49 => ⟨S4096, .i32⟩
  | 50 => ⟨S4096, .f32⟩
  | 51 => ⟨S8x1x3072, .f32⟩
  | 52 => ⟨S8x1x1024, .f32⟩
  | 53 => ⟨S8x1x1024, .f32⟩
  | 54 => ⟨S8x1x1024, .f32⟩
  | 55 => ⟨S8x4096x1024, .f32⟩
  | 56 => ⟨S_, .f32⟩
  | 57 => ⟨S8x4096, .f32⟩
  | 58 => ⟨S8x4096x1, .f32⟩
  | 59 => ⟨S_, .f32⟩
  | 60 => ⟨S8x4096x1, .f32⟩
  | 61 => ⟨S8x4096x1, .f32⟩
  | 62 => ⟨S_, .f32⟩
  | 63 => ⟨S8x4096x1, .f32⟩
  | 64 => ⟨S8x4096x1, .f32⟩
  | 65 => ⟨S8x4096x1, .f32⟩
  | 66 => ⟨S8x4096x1024, .f32⟩
  | 67 => ⟨S8x4096x1024, .f32⟩
  | 68 => ⟨S1024, .f32⟩
  | 69 => ⟨S1x1x1024, .f32⟩
  | 70 => ⟨S8x4096x1024, .f32⟩
  | 71 => ⟨S8x4096x1024, .f32⟩
  | 72 => ⟨S_, .f32⟩
  | 73 => ⟨S8x1x1024, .f32⟩
  | 74 => ⟨S8x1x1024, .f32⟩
  | 75 => ⟨S8x4096x1024, .f32⟩
  | 76 => ⟨S8x4096x1024, .f32⟩
  | 77 => ⟨S8x4096x1024, .f32⟩
  | 78 => ⟨S8x4096x1024, .f32⟩
  | 79 => ⟨S1024x7200, .f32⟩
  | 80 => ⟨S8x4096x7200, .f32⟩
  | 81 => ⟨S8x4096x512, .f32⟩
  | 82 => ⟨S8x4096x512, .f32⟩
  | 83 => ⟨S8x4096x1024, .f32⟩
  | 84 => ⟨S8x4096x1024, .f32⟩
  | 85 => ⟨S8x4096x16, .f32⟩
  | 86 => ⟨S8x4096x16, .f32⟩
  | 87 => ⟨S8x4096x1024, .f32⟩
  | 88 => ⟨S8x4096x1024, .f32⟩
  | 89 => ⟨S8x4096x1024, .f32⟩
  | 90 => ⟨S8x4096x1024, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S8x4096x4x128, .f32⟩
  | 100 => ⟨S_, .f32⟩
  | 101 => ⟨S8x4096x4x128, .f32⟩
  | 102 => ⟨S8x4096x4x128, .f32⟩
  | 103 => ⟨S8x4096x4x64, .f32⟩
  | 104 => ⟨S4096x1, .f32⟩
  | 105 => ⟨S1x32, .f32⟩
  | 106 => ⟨S4096x32, .f32⟩
  | 107 => ⟨S4096x32, .f32⟩
  | 108 => ⟨S4096x32, .f32⟩
  | 109 => ⟨S4096x32, .f32⟩
  | 110 => ⟨S1x4096x1x32, .f32⟩
  | 111 => ⟨S4096x32, .f32⟩
  | 112 => ⟨S1x4096x1x32, .f32⟩
  | 113 => ⟨S8x4096x4x32, .f32⟩
  | 114 => ⟨S8x4096x4x32, .f32⟩
  | 115 => ⟨S8x4096x4x32, .f32⟩
  | 116 => ⟨S8x4096x4x32, .f32⟩
  | 117 => ⟨S8x4096x4x32, .f32⟩
  | 118 => ⟨S8x4096x4x32, .f32⟩
  | 119 => ⟨S8x4096x4x32, .f32⟩
  | 120 => ⟨S8x4096x4x32, .f32⟩
  | 121 => ⟨S8x4096x4x32, .f32⟩
  | 122 => ⟨S8x4096x4x32, .f32⟩
  | 123 => ⟨S8x4096x4x32, .f32⟩
  | 124 => ⟨S8x4096x4x32, .f32⟩
  | 125 => ⟨S8x4096x4x64, .f32⟩
  | 126 => ⟨S8x4096x4x64, .f32⟩
  | 127 => ⟨S4096x1, .f32⟩
  | _ => ⟨S8x4096x1024, .f32⟩

abbrev hbmTy0_1 (i : Nat) : BufTy := match i % 128 with
  | 0 => ⟨S1x32, .f32⟩
  | 1 => ⟨S4096x32, .f32⟩
  | 2 => ⟨S4096x32, .f32⟩
  | 3 => ⟨S4096x32, .f32⟩
  | 4 => ⟨S4096x32, .f32⟩
  | 5 => ⟨S1x4096x1x32, .f32⟩
  | 6 => ⟨S4096x32, .f32⟩
  | 7 => ⟨S1x4096x1x32, .f32⟩
  | 8 => ⟨S8x4096x4x32, .f32⟩
  | 9 => ⟨S8x4096x4x32, .f32⟩
  | 10 => ⟨S8x4096x4x32, .f32⟩
  | 11 => ⟨S8x4096x4x32, .f32⟩
  | 12 => ⟨S8x4096x4x32, .f32⟩
  | 13 => ⟨S8x4096x4x32, .f32⟩
  | 14 => ⟨S8x4096x4x32, .f32⟩
  | 15 => ⟨S8x4096x4x32, .f32⟩
  | 16 => ⟨S8x4096x4x32, .f32⟩
  | 17 => ⟨S8x4096x4x32, .f32⟩
  | 18 => ⟨S8x4096x4x32, .f32⟩
  | 19 => ⟨S8x4096x4x32, .f32⟩
  | 20 => ⟨S8x4096x4x64, .f32⟩
  | 21 => ⟨S8x4096x4x128, .f32⟩
  | 22 => ⟨S8x4096x512, .f32⟩
  | 23 => ⟨S8x4096x4x128, .f32⟩
  | 24 => ⟨S8x4096x4x64, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x32, .f32⟩
  | 31 => ⟨S1x4096x1x32, .f32⟩
  | 32 => ⟨S4096x32, .f32⟩
  | 33 => ⟨S1x4096x1x32, .f32⟩
  | 34 => ⟨S8x4096x4x32, .f32⟩
  | 35 => ⟨S8x4096x4x32, .f32⟩
  | 36 => ⟨S8x4096x4x32, .f32⟩
  | 37 => ⟨S8x4096x4x32, .f32⟩
  | 38 => ⟨S8x4096x4x32, .f32⟩
  | 39 => ⟨S8x4096x4x32, .f32⟩
  | 40 => ⟨S8x4096x4x32, .f32⟩
  | 41 => ⟨S8x4096x4x32, .f32⟩
  | 42 => ⟨S8x4096x4x32, .f32⟩
  | 43 => ⟨S8x4096x4x32, .f32⟩
  | 44 => ⟨S8x4096x4x32, .f32⟩
  | 45 => ⟨S8x4096x4x32, .f32⟩
  | 46 => ⟨S8x4096x4x64, .f32⟩
  | 47 => ⟨S8x4096x4x64, .f32⟩
  | 48 => ⟨S4096x1, .f32⟩
  | 49 => ⟨S1x32, .f32⟩
  | 50 => ⟨S4096x32, .f32⟩
  | 51 => ⟨S4096x32, .f32⟩
  | 52 => ⟨S4096x32, .f32⟩
  | 53 => ⟨S4096x32, .f32⟩
  | 54 => ⟨S1x4096x1x32, .f32⟩
  | 55 => ⟨S4096x32, .f32⟩
  | 56 => ⟨S1x4096x1x32, .f32⟩
  | 57 => ⟨S8x4096x4x32, .f32⟩
  | 58 => ⟨S8x4096x4x32, .f32⟩
  | 59 => ⟨S8x4096x4x32, .f32⟩
  | 60 => ⟨S8x4096x4x32, .f32⟩
  | 61 => ⟨S8x4096x4x32, .f32⟩
  | 62 => ⟨S8x4096x4x32, .f32⟩
  | 63 => ⟨S8x4096x4x32, .f32⟩
  | 64 => ⟨S8x4096x4x32, .f32⟩
  | 65 => ⟨S8x4096x4x32, .f32⟩
  | 66 => ⟨S8x4096x4x32, .f32⟩
  | 67 => ⟨S8x4096x4x32, .f32⟩
  | 68 => ⟨S8x4096x4x32, .f32⟩
  | 69 => ⟨S8x4096x4x64, .f32⟩
  | 70 => ⟨S8x4096x4x128, .f32⟩
  | 71 => ⟨S8x4096x512, .f32⟩
  | 72 => ⟨S16x512, .f32⟩
  | 73 => ⟨S512, .f32⟩
  | 74 => ⟨S8x4096x512, .f32⟩
  | 75 => ⟨S1x1x512, .f32⟩
  | 76 => ⟨S8x4096x512, .f32⟩
  | 77 => ⟨S8x4096x512, .f32⟩
  | 78 => ⟨S8x4096x512, .f32⟩
  | 79 => ⟨S_, .f32⟩
  | 80 => ⟨S8x4096x512, .f32⟩
  | 81 => ⟨S8x4096x512, .f32⟩
  | 82 => ⟨S8x4096x512, .f32⟩
  | 83 => ⟨S8x4096x512, .f32⟩
  | 84 => ⟨S8x4096x512, .i1⟩
  | 85 => ⟨S8x4096x512, .f32⟩
  | 86 => ⟨S8x4096x512, .f32⟩
  | 87 => ⟨S8x4096x512, .f32⟩
  | 88 => ⟨S8x4096x512, .f32⟩
  | 89 => ⟨S8x4096x512, .f32⟩
  | 90 => ⟨S8x4096x512, .f32⟩
  | 91 => ⟨S8x4096x512, .f32⟩
  | 92 => ⟨S8x4096x512, .f32⟩
  | 93 => ⟨S8x4096x512, .f32⟩
  | 94 => ⟨S_, .f32⟩
  | 95 => ⟨S8x4096x512, .f32⟩
  | 96 => ⟨S8x4096x512, .f32⟩
  | 97 => ⟨S8x64x64x512, .f32⟩
  | 98 => ⟨S_, .f32⟩
  | 99 => ⟨S_, .f32⟩
  | 100 => ⟨S8x64x64x512, .f32⟩
  | 101 => ⟨S8x4096x512, .f32⟩
  | 102 => ⟨S16x512, .f32⟩
  | 103 => ⟨S512, .f32⟩
  | 104 => ⟨S8x4096x512, .f32⟩
  | 105 => ⟨S1x1x512, .f32⟩
  | 106 => ⟨S8x4096x512, .f32⟩
  | 107 => ⟨S8x4096x512, .f32⟩
  | 108 => ⟨S8x4096x512, .f32⟩
  | 109 => ⟨S_, .f32⟩
  | 110 => ⟨S8x4096x512, .f32⟩
  | 111 => ⟨S8x4096x512, .f32⟩
  | 112 => ⟨S8x4096x512, .f32⟩
  | 113 => ⟨S8x4096x512, .f32⟩
  | 114 => ⟨S8x4096x512, .i1⟩
  | 115 => ⟨S8x4096x512, .f32⟩
  | 116 => ⟨S8x4096x512, .f32⟩
  | 117 => ⟨S8x4096x512, .f32⟩
  | 118 => ⟨S8x4096x512, .f32⟩
  | 119 => ⟨S8x4096x512, .f32⟩
  | 120 => ⟨S8x4096x512, .f32⟩
  | 121 => ⟨S8x4096x512, .f32⟩
  | 122 => ⟨S8x4096x512, .f32⟩
  | 123 => ⟨S8x4096x512, .f32⟩
  | 124 => ⟨S_, .f32⟩
  | 125 => ⟨S8x4096x512, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x64x64x512, .f32⟩
  | 1 => ⟨S_, .f32⟩
  | 2 => ⟨S_, .f32⟩
  | 3 => ⟨S8x64x64x512, .f32⟩
  | 4 => ⟨S8x4096x512, .f32⟩
  | 5 => ⟨S8x4096x512, .f32⟩
  | 6 => ⟨S8x4096x512, .bf16⟩
  | 7 => ⟨S8x4096x512, .bf16⟩
  | 8 => ⟨S8x4096x1024, .bf16⟩
  | 9 => ⟨S8x4096x1024, .bf16⟩
  | 10 => ⟨S8x4096x1024, .bf16⟩
  | 11 => ⟨S8x4096x1024, .bf16⟩
  | 12 => ⟨S8x4096x1024, .bf16⟩
  | 13 => ⟨S8x4096x1024, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_cst : Ref sig .tc := ⟨.hbm, 56, rfl⟩
abbrev main_v10 : Ref sig .tc := ⟨.hbm, 57, rfl⟩
abbrev main_v11 : Ref sig .tc := ⟨.hbm, 58, rfl⟩
abbrev main_cst_1 : Ref sig .tc := ⟨.hbm, 59, rfl⟩
abbrev main_v12 : Ref sig .tc := ⟨.hbm, 60, rfl⟩
abbrev main_v13 : Ref sig .tc := ⟨.hbm, 61, rfl⟩
abbrev main_cst_2 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_3 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_4 : Ref sig .tc := ⟨.hbm, 93, rfl⟩
abbrev main_v43 : Ref sig .tc := ⟨.hbm, 94, rfl⟩
abbrev main_v44 : Ref sig .tc := ⟨.hbm, 95, rfl⟩
abbrev main_cst_5 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_6 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_call2_v0 : Ref sig .tc := ⟨.hbm, 206, rfl⟩
abbrev main_call2_call0_cst : Ref sig .tc := ⟨.hbm, 207, rfl⟩
abbrev main_call2_call0_v0 : Ref sig .tc := ⟨.hbm, 208, rfl⟩
abbrev main_call2_call0_v1 : Ref sig .tc := ⟨.hbm, 209, rfl⟩
abbrev main_call2_call0_v2 : Ref sig .tc := ⟨.hbm, 210, rfl⟩
abbrev main_call2_call0_v3 : Ref sig .tc := ⟨.hbm, 211, rfl⟩
abbrev main_call2_call0_v4 : Ref sig .tc := ⟨.hbm, 212, rfl⟩
abbrev main_call2_call0_v5 : Ref sig .tc := ⟨.hbm, 213, rfl⟩
abbrev main_call2_call0_v6 : Ref sig .tc := ⟨.hbm, 214, rfl⟩
abbrev main_call2_call0_v7 : Ref sig .tc := ⟨.hbm, 215, rfl⟩
abbrev main_call2_call0_v8 : Ref sig .tc := ⟨.hbm, 216, rfl⟩
abbrev main_call2_call0_v9 : Ref sig .tc := ⟨.hbm, 217, rfl⟩
abbrev main_call2_call0_v10 : Ref sig .tc := ⟨.hbm, 218, rfl⟩
abbrev main_call2_call0_v11 : Ref sig .tc := ⟨.hbm, 219, rfl⟩
abbrev main_call2_v1 : Ref sig .tc := ⟨.hbm, 220, rfl⟩
abbrev main_v153 : Ref sig .tc := ⟨.hbm, 221, rfl⟩
abbrev main_cst_7 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_call3_call0_cst : Ref sig .tc := ⟨.hbm, 226, rfl⟩
abbrev main_call3_call0_v0 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_call4_v0 : Ref sig .tc := ⟨.hbm, 236, rfl⟩
abbrev main_call4_call0_cst : Ref sig .tc := ⟨.hbm, 237, rfl⟩
abbrev main_call4_call0_v0 : Ref sig .tc := ⟨.hbm, 238, rfl⟩
abbrev main_call4_call0_v1 : Ref sig .tc := ⟨.hbm, 239, rfl⟩
abbrev main_call4_call0_v2 : Ref sig .tc := ⟨.hbm, 240, rfl⟩
abbrev main_call4_call0_v3 : Ref sig .tc := ⟨.hbm, 241, rfl⟩
abbrev main_call4_call0_v4 : Ref sig .tc := ⟨.hbm, 242, rfl⟩
abbrev main_call4_call0_v5 : Ref sig .tc := ⟨.hbm, 243, rfl⟩
abbrev main_call4_call0_v6 : Ref sig .tc := ⟨.hbm, 244, rfl⟩
abbrev main_call4_call0_v7 : Ref sig .tc := ⟨.hbm, 245, rfl⟩
abbrev main_call4_call0_v8 : Ref sig .tc := ⟨.hbm, 246, rfl⟩
abbrev main_call4_call0_v9 : Ref sig .tc := ⟨.hbm, 247, rfl⟩
abbrev main_call4_call0_v10 : Ref sig .tc := ⟨.hbm, 248, rfl⟩
abbrev main_call4_call0_v11 : Ref sig .tc := ⟨.hbm, 249, rfl⟩
abbrev main_call4_v1 : Ref sig .tc := ⟨.hbm, 250, rfl⟩
abbrev main_v165 : Ref sig .tc := ⟨.hbm, 251, rfl⟩
abbrev main_cst_8 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_call5_call0_cst : Ref sig .tc := ⟨.hbm, 257, rfl⟩
abbrev main_call5_call0_v0 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩

abbrev nD : Nat := 1
abbrev τ : Topo := Topo.v7x

variable {F : FTy → Type} [FloatOps F]
-- ==== Proof.Trip.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
local notation "𝕄" => MT nD τ sig Unit (Elt F) ℕ (UR sig nD τ) ℕ

/-- One trip's buffers: those it reads, at their contents, and those it writes. -/
abbrev Trip (c : Dev nD) (arg3 : Memref sig .tc .vmem S1x256x512 .bf16) (arg4 : Memref sig .tc .vmem S1x256x512 .bf16) (arg5 : Memref sig .tc .vmem S1x256x1024 .bf16) (arg6 : Memref sig .tc .vmem S1x256x512 .f32) (arg8 : Memref sig .tc .vmem S1x256x1024 .f32) (arg9 : Memref sig .tc .vmem S1x256x1024 .bf16) (arg10 : Memref sig .tc .vmem S1x256 .f32) (arg11 : Memref sig .tc .vmem S1x256x1024 .bf16) (arg13 : Memref sig .tc .vmem S4x128x256 .f32) (arg14 : Memref sig .tc .vmem S64x64 .f32) (arg15 : Memref sig .tc .vmem S64x128 .f32) (arg16 : Memref sig .tc .vmem S64x128 .f32)
    (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty)
    (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxRecDepth 65536 in
set_option maxHeartbeats 4000000 in
@[irreducible] def trip0 (c : Dev nD) (i : grid0.Coords)
    (arg2 : Memref sig .tc .smem S128 .i32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x256x1024 .bf16) (harg5 : arg5.IsWhole)
    (arg6 : Memref sig .tc .vmem S1x256x512 .f32) (harg6 : arg6.IsWhole)
    (arg7 : Memref sig .tc .vmem S1x4x128x256 .f32) (harg7 : arg7.IsWhole)
    (arg8 : Memref sig .tc .vmem S1x256x1024 .f32) (harg8 : arg8.IsWhole)
    (arg9 : Memref sig .tc .vmem S1x256x1024 .bf16) (harg9 : arg9.IsWhole)
    (arg10 : Memref sig .tc .vmem S1x256 .f32) (harg10 : arg10.IsWhole)
    (arg11 : Memref sig .tc .vmem S1x256x1024 .bf16) (harg11 : arg11.IsWhole)
    (arg12 : Memref sig .tc .vmem S1x4x128x256 .f32) (harg12 : arg12.IsWhole)
    (arg13 : Memref sig .tc .vmem S4x128x256 .f32) (harg13 : arg13.IsWhole)
    (arg14 : Memref sig .tc .vmem S64x64 .f32) (harg14 : arg14.IsWhole)
    (arg15 : Memref sig .tc .vmem S64x128 .f32) (harg15 : arg15.IsWhole)
    (arg16 : Memref sig .tc .vmem S64x128 .f32) (harg16 : arg16.IsWhole)
    (v9 : IVec S64x64 32)
    (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty)
    (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (k : Fin k0_t1_loop.trips) :
    Σ' (L11 : List (View.Piece (Elt F) S1x256x1024 .bf16)) (L13 : List (View.Piece (Elt F) S4x128x256 .f32)), { L14 : List (View.Piece (Elt F) S64x64 .f32) // ∀ (E : Set ℕ),
      Trip (F := F) c arg3 arg4 arg5 arg6 arg8 arg9 arg10 arg11 arg13 arg14 arg15 arg16 X3 X4 X5 X6 X8 X9 X10 f11 f13 f14 f15 f16
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 0#1 v9 k ())
          (fun _ => Trip (F := F) c arg3 arg4 arg5 arg6 arg8 arg9 arg10 arg11 arg13 arg14 arg15 arg16 X3 X4 X5 X6 X8 X9 X10 (arg11.view.writes (Elt F) f11 L11) (arg13.view.writes (Elt F) f13 L13) (arg14.view.writes (Elt F) f14 L14) f15 f16) } := by
  have hk : k.val < 4 := Nat.lt_of_lt_of_le k.isLt k0_t1_abs.2.1
  refine ⟨?_, ?_, ?_,  fun E => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton]
    unfold Trip
    iintro ⟨H3, H4, H5, H6, H8, H9, H10, H11, H13, H14, H15, H16⟩
    sl_exec_parts
    sl_step
    sl_close

set_option maxRecDepth 65536 in
set_option maxHeartbeats 4000000 in
@[irreducible] def trip1 (c : Dev nD) (i : grid0.Coords)
    (arg2 : Memref sig .tc .smem S128 .i32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x256x1024 .bf16) (harg5 : arg5.IsWhole)
    (arg6 : Memref sig .tc .vmem S1x256x512 .f32) (harg6 : arg6.IsWhole)
    (arg7 : Memref sig .tc .vmem S1x4x128x256 .f32) (harg7 : arg7.IsWhole)
    (arg8 : Memref sig .tc .vmem S1x256x1024 .f32) (harg8 : arg8.IsWhole)
    (arg9 : Memref sig .tc .vmem S1x256x1024 .bf16) (harg9 : arg9.IsWhole)
    (arg10 : Memref sig .tc .vmem S1x256 .f32) (harg10 : arg10.IsWhole)
    (arg11 : Memref sig .tc .vmem S1x256x1024 .bf16) (harg11 : arg11.IsWhole)
    (arg12 : Memref sig .tc .vmem S1x4x128x256 .f32) (harg12 : arg12.IsWhole)
    (arg13 : Memref sig .tc .vmem S4x128x256 .f32) (harg13 : arg13.IsWhole)
    (arg14 : Memref sig .tc .vmem S64x64 .f32) (harg14 : arg14.IsWhole)
    (arg15 : Memref sig .tc .vmem S64x128 .f32) (harg15 : arg15.IsWhole)
    (arg16 : Memref sig .tc .vmem S64x128 .f32) (harg16 : arg16.IsWhole)
    (v9 : IVec S64x64 32)
    (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty)
    (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (k : Fin k0_t1_loop.trips) :
    Σ' (L11 : List (View.Piece (Elt F) S1x256x1024 .bf16)) (L13 : List (View.Piece (Elt F) S4x128x256 .f32)) (L14 : List (View.Piece (Elt F) S64x64 .f32)) (L15 : List (View.Piece (Elt F) S64x128 .f32)), { L16 : List (View.Piece (Elt F) S64x128 .f32) // ∀ (E : Set ℕ),
      Trip (F := F) c arg3 arg4 arg5 arg6 arg8 arg9 arg10 arg11 arg13 arg14 arg15 arg16 X3 X4 X5 X6 X8 X9 X10 f11 f13 f14 f15 f16
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 1#1 v9 k ())
          (fun _ => Trip (F := F) c arg3 arg4 arg5 arg6 arg8 arg9 arg10 arg11 arg13 arg14 arg15 arg16 X3 X4 X5 X6 X8 X9 X10 (arg11.view.writes (Elt F) f11 L11) (arg13.view.writes (Elt F) arg13.view.junk L13) (arg14.view.writes (Elt F) arg14.view.junk L14) (arg15.view.writes (Elt F) arg15.view.junk L15) (arg16.view.writes (Elt F) arg16.view.junk L16)) } := by
  have hk : k.val < 4 := Nat.lt_of_lt_of_le k.isLt k0_t1_abs.2.1
  refine ⟨?_, ?_, ?_, ?_, ?_,  fun E => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton]
    unfold Trip
    iintro ⟨H3, H4, H5, H6, H8, H9, H10, H11, H13, H14, H15, H16⟩
    sl_exec_parts
    sl_step
    sl_close

end Cert.Proof.KernelIdeal

end
-- ==== Proof.Head.lean ====
module

public import proofs.«01_k».proof.Proof.Gen.KernelIdeal
public import proofs.«01_k».proof.Proof.Gen.KernelIdeal.Skeleton
public import Idealize.ShloMosaic.Lib.VecWindow
public import Idealize.ShloMosaic.Lib.ValueIdxCore

@[expose] public section

/-! What one grid point of the kernel computes, as functions of the blocks it is given: per chunk of 64 tokens
and per head the new state and the head's output rows, and over the four chunks the state and the output block. -/

noncomputable section

namespace Cert.Proof.KernelIdeal

open Cert.KernelIdeal Cert.KernelIdeal.Gen
open Idealize.ShloMosaic

variable {F : FTy → Type} [FloatOps F]

/-- Chunk `k`, head `h` of a key-wide block. -/
def bk {e : EltTy} (x : Vec F S1x256x512 e) (k h : Fin 4) : Vec F S1x64x128 e :=
  VecWindow.window x ![0, 64 * k.val, 128 * h.val] S1x64x128.size
    (by intro a; have := k.isLt; have := h.isLt; match a with | 0 => show 0 + 1 ≤ 1; omega | 1 => show 64 * k.val + 64 ≤ 256; omega | 2 => show 128 * h.val + 128 ≤ 512; omega)

/-- Chunk `k`, head `h` of a value-wide block. -/
def bv {e : EltTy} (x : Vec F S1x256x1024 e) (k h : Fin 4) : Vec F S1x64x256 e :=
  VecWindow.window x ![0, 64 * k.val, 256 * h.val] S1x64x256.size
    (by intro a; have := k.isLt; have := h.isLt; match a with | 0 => show 0 + 1 ≤ 1; omega | 1 => show 64 * k.val + 64 ≤ 256; omega | 2 => show 256 * h.val + 256 ≤ 1024; omega)

/-- Head `h` of the state. -/
def bs (s : Vec F S4x128x256 .f32) (h : Fin 4) : Vec F S1x128x256 .f32 :=
  VecWindow.window s ![h.val, 0, 0] S1x128x256.size
    (by intro a; have := h.isLt; match a with | 0 => show h.val + 1 ≤ 4; omega | 1 => show 0 + 128 ≤ 128; omega | 2 => show 0 + 256 ≤ 256; omega)

/-- Row `j` of a 64-row buffer. -/
def brow (x : Vec F S64x128 .f32) (j : ℕ) (hj : j < 64) : Vec F S1x128 .f32 :=
  VecWindow.window x ![j, 0] S1x128.size
    (by intro a; match a with | 0 => show j + 1 ≤ 64; omega | 1 => show 0 + 128 ≤ 128; omega)

/-- A head's state after a chunk. -/
def headState (k : Vec F S1x64x128 .bf16) (v : Vec F S1x64x256 .bf16) (b : Vec F S1x64x128 .f32) (s : Vec F S1x128x256 .f32) :
    Vec F S1x128x256 .f32 := k0_pay10 k v b s

/-- A head's scores in a chunk, as one product. -/
def scoresPlain (q k : Vec F S1x64x128 .bf16) (b : Vec F S1x64x128 .f32) : Vec F S64x64 .f32 :=
  k0_pay12 (k0_pay6 k) (k0_pay8 b) (k0_pay11 q b)

theorem trips2 : k0_t2_loop.trips = 64 := by decide +kernel

/-- The scores' columns below `n`, one at a time. -/
def cols (v9 : IVec S64x64 32) (q b : FVec F S64x128 .f32) (K B : Vec F S64x128 .f32) (init : FVec F S64x64 .f32) : ℕ → FVec F S64x64 .f32
  | 0 => init
  | n + 1 => if h : n < 64 then k0_pay16 v9 q b ⟨n, by rw [trips2]; exact h⟩ (cols v9 q b K B init n) (brow K n h) (brow B n h)
      else cols v9 q b K B init n

/-- A head's scores in a chunk, column by column. -/
def scoresExact (v9 : IVec S64x64 32) (q k : Vec F S1x64x128 .bf16) (b : Vec F S1x64x128 .f32) : Vec F S64x64 .f32 :=
  k0_pay17 (cols v9 (k0_pay5 q) (k0_pay8 b) (k0_pay13 (k0_pay6 k)) (k0_pay14 (k0_pay8 b)) k0_pay15 64)

/-- A head's output rows in a chunk, from its scores. -/
def headOut (q : Vec F S1x64x128 .bf16) (v : Vec F S1x64x256 .bf16) (b : Vec F S1x64x128 .f32) (s : Vec F S1x128x256 .f32)
    (sc : Vec F S64x64 .f32) (o : Vec F S1x64x256 .f32) (g : Vec F S1x256 .f32) (z : Vec F S1x64x256 .bf16) : Vec F S1x64x256 .bf16 :=
  k0_pay18 k0_pay2 (k0_pay7 v) (k0_pay9 s) (k0_pay11 q b) sc o g z

/-- The head a row of the output block belongs to. -/
abbrev hd (j : Fin 1024) : Fin 4 := ⟨j.val / 256, by have := j.isLt; omega⟩
/-- Its chunk. -/
abbrev ck (i : Fin 256) : Fin 4 := ⟨i.val / 64, by have := i.isLt; omega⟩

section Block
variable (v7 : BitVec 1) (v9 : IVec S64x64 32) (x0 x1 : Vec F S1x256x512 .bf16) (x2 : Vec F S1x256x1024 .bf16) (x3 : Vec F S1x256x512 .f32)
  (x5 : Vec F S1x256x1024 .f32) (x6 : Vec F S1x256x1024 .bf16) (x7 : Vec F S1x256 .f32)

/-- The state after chunk `k`, from the state before it. -/
def stepS (k : Fin 4) (s : Vec F S4x128x256 .f32) : Vec F S4x128x256 .f32 :=
  fun y => headState (bk x1 k (y 0)) (bv x2 k (y 0)) (bk x3 k (y 0)) (bs s (y 0)) (ValueIdx.ix3 0 (y 1) (y 2))

/-- The state before chunk `n`. -/
def stS (s : Vec F S4x128x256 .f32) : ℕ → Vec F S4x128x256 .f32
  | 0 => s
  | n + 1 => if h : n < 4 then stepS x1 x2 x3 ⟨n, h⟩ (stS s n) else stS s n

/-- The scores the flag selects. -/
def scoresOf (q k : Vec F S1x64x128 .bf16) (b : Vec F S1x64x128 .f32) : Vec F S64x64 .f32 :=
  if v7 = 1#1 then scoresExact v9 q k b else scoresPlain q k b

/-- Chunk `k`, head `h` of the output block, from the state before the chunk. -/
def outH (k h : Fin 4) (s : Vec F S4x128x256 .f32) : Vec F S1x64x256 .bf16 :=
  headOut (bk x0 k h) (bv x2 k h) (bk x3 k h) (bs s h) (scoresOf v7 v9 (bk x0 k h) (bk x1 k h) (bk x3 k h)) (bv x5 k h) x7 (bv x6 k h)

/-- The output block. -/
def outV (s : Vec F S4x128x256 .f32) : Vec F S1x256x1024 .bf16 :=
  fun y => outH v7 v9 x0 x1 x2 x3 x5 x6 x7 (ck (y 1)) (hd (y 2)) (stS x1 x2 x3 s (ck (y 1)).val)
    (ValueIdx.ix3 0 ⟨(y 1).val % 64, Nat.mod_lt _ (by decide)⟩ ⟨(y 2).val % 256, Nat.mod_lt _ (by decide)⟩)

end Block

end Cert.Proof.KernelIdeal
-- ==== Proof.TripVal.lean ====
module

public import proofs.«01_k».proof.Proof.Trip
public import proofs.«01_k».proof.Proof.Head
public import Idealize.ShloMosaic.Lib.Pipeline.ValueKit.Acc

@[expose] public section

noncomputable section

namespace Cert.Proof.KernelIdeal

open Cert.KernelIdeal Cert.KernelIdeal.Gen
open Idealize.ShloMosaic Idealize.ShloMosaic.TcCoe

variable {F : FTy → Type} [FloatOps F]

/-- What a load of the sizes `size` at `off` reads. -/
abbrev rd {s : Shape} {e : EltTy} (a : Memref sig .tc .vmem s e) (X : BufTy.Contents (Elt F) a.view.ty) (off size : Fin s.rank → ℕ)
    (inb : ∀ x, off x + size x ≤ s.size x) : (Rect.unit off size inb).shape.Idx → Elt F e :=
  a.view.readAt (Elt F) (Rect.unit off size inb).toLoadRect X

section
variable
    (arg2 : Memref sig .tc .smem S128 .i32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x256x1024 .bf16) (harg5 : arg5.IsWhole)
    (arg6 : Memref sig .tc .vmem S1x256x512 .f32) (harg6 : arg6.IsWhole)
    (arg7 : Memref sig .tc .vmem S1x4x128x256 .f32) (harg7 : arg7.IsWhole)
    (arg8 : Memref sig .tc .vmem S1x256x1024 .f32) (harg8 : arg8.IsWhole)
    (arg9 : Memref sig .tc .vmem S1x256x1024 .bf16) (harg9 : arg9.IsWhole)
    (arg10 : Memref sig .tc .vmem S1x256 .f32) (harg10 : arg10.IsWhole)
    (arg11 : Memref sig .tc .vmem S1x256x1024 .bf16) (harg11 : arg11.IsWhole)
    (arg12 : Memref sig .tc .vmem S1x4x128x256 .f32) (harg12 : arg12.IsWhole)
    (arg13 : Memref sig .tc .vmem S4x128x256 .f32) (harg13 : arg13.IsWhole)
    (arg14 : Memref sig .tc .vmem S64x64 .f32) (harg14 : arg14.IsWhole)
    (arg15 : Memref sig .tc .vmem S64x128 .f32) (harg15 : arg15.IsWhole)
    (arg16 : Memref sig .tc .vmem S64x128 .f32) (harg16 : arg16.IsWhole)
    (v9 : IVec S64x64 32)
    (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty)
    (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (k : Fin k0_t1_loop.trips)

theorem sc0_0 : trip0.sl.v57 (F := F) arg3 arg4 arg6 arg14 X3 X4 X6 k = scoresPlain (rd arg3 X3 (k0_off2 k) S1x64x128.size (k0_off2_inb k)) (rd arg4 X4 (k0_off2 k) S1x64x128.size (k0_off2_inb k)) (rd arg6 X6 (k0_off2 k) S1x64x128.size (k0_off2_inb k)) := by
  unfold trip0.sl.v57
  exact (View.readCov_cons_unit_lit' _ _ _ _ _ (by decide) (by decide)).trans rfl

theorem sc0_1 : trip0.sl.v134 (F := F) arg3 arg4 arg6 arg14 X3 X4 X6 k = scoresPlain (rd arg3 X3 (k0_off6 k) S1x64x128.size (k0_off6_inb k)) (rd arg4 X4 (k0_off6 k) S1x64x128.size (k0_off6_inb k)) (rd arg6 X6 (k0_off6 k) S1x64x128.size (k0_off6_inb k)) := by
  unfold trip0.sl.v134
  exact (View.readCov_cons_unit_lit' _ _ _ _ _ (by decide) (by decide)).trans rfl

theorem sc0_2 : trip0.sl.v211 (F := F) arg3 arg4 arg6 arg14 X3 X4 X6 k = scoresPlain (rd arg3 X3 (k0_off9 k) S1x64x128.size (k0_off9_inb k)) (rd arg4 X4 (k0_off9 k) S1x64x128.size (k0_off9_inb k)) (rd arg6 X6 (k0_off9 k) S1x64x128.size (k0_off9_inb k)) := by
  unfold trip0.sl.v211
  exact (View.readCov_cons_unit_lit' _ _ _ _ _ (by decide) (by decide)).trans rfl

theorem sc0_3 : trip0.sl.v288 (F := F) arg3 arg4 arg6 arg14 X3 X4 X6 k = scoresPlain (rd arg3 X3 (k0_off12 k) S1x64x128.size (k0_off12_inb k)) (rd arg4 X4 (k0_off12 k) S1x64x128.size (k0_off12_inb k)) (rd arg6 X6 (k0_off12 k) S1x64x128.size (k0_off12_inb k)) := by
  unfold trip0.sl.v288
  exact (View.readCov_cons_unit_lit' _ _ _ _ _ (by decide) (by decide)).trans rfl

set_option maxRecDepth 65536 in
theorem trip0_13 (c : Dev nD) (i : grid0.Coords) : (trip0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).2.1 =
      [⟨Rect.unit ![3, 0, 0] S1x128x256.size (by decide), headState (rd arg4 X4 (k0_off12 k) S1x64x128.size (k0_off12_inb k)) (rd arg5 X5 (k0_off13 k) S1x64x256.size (k0_off13_inb k)) (rd arg6 X6 (k0_off12 k) S1x64x128.size (k0_off12_inb k)) (rd arg13 f13 ![3, 0, 0] S1x128x256.size (by decide))⟩,
        ⟨Rect.unit ![2, 0, 0] S1x128x256.size (by decide), headState (rd arg4 X4 (k0_off9 k) S1x64x128.size (k0_off9_inb k)) (rd arg5 X5 (k0_off10 k) S1x64x256.size (k0_off10_inb k)) (rd arg6 X6 (k0_off9 k) S1x64x128.size (k0_off9_inb k)) (rd arg13 f13 ![2, 0, 0] S1x128x256.size (by decide))⟩,
        ⟨Rect.unit ![1, 0, 0] S1x128x256.size (by decide), headState (rd arg4 X4 (k0_off6 k) S1x64x128.size (k0_off6_inb k)) (rd arg5 X5 (k0_off7 k) S1x64x256.size (k0_off7_inb k)) (rd arg6 X6 (k0_off6 k) S1x64x128.size (k0_off6_inb k)) (rd arg13 f13 ![1, 0, 0] S1x128x256.size (by decide))⟩,
        ⟨Rect.unit ![0, 0, 0] S1x128x256.size (by decide), headState (rd arg4 X4 (k0_off2 k) S1x64x128.size (k0_off2_inb k)) (rd arg5 X5 (k0_off3 k) S1x64x256.size (k0_off3_inb k)) (rd arg6 X6 (k0_off2 k) S1x64x128.size (k0_off2_inb k)) (rd arg13 f13 ![0, 0, 0] S1x128x256.size (by decide))⟩] := by
  unfold trip0; rfl

set_option maxRecDepth 65536 in
theorem trip0_11 (c : Dev nD) (i : grid0.Coords) : (trip0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).1 =
      [⟨Rect.unit (k0_off13 k) S1x64x256.size (k0_off13_inb k), headOut (rd arg3 X3 (k0_off12 k) S1x64x128.size (k0_off12_inb k)) (rd arg5 X5 (k0_off13 k) S1x64x256.size (k0_off13_inb k)) (rd arg6 X6 (k0_off12 k) S1x64x128.size (k0_off12_inb k)) (rd arg13 f13 ![3, 0, 0] S1x128x256.size (by decide)) (scoresPlain (rd arg3 X3 (k0_off12 k) S1x64x128.size (k0_off12_inb k)) (rd arg4 X4 (k0_off12 k) S1x64x128.size (k0_off12_inb k)) (rd arg6 X6 (k0_off12 k) S1x64x128.size (k0_off12_inb k))) (rd arg8 X8 (k0_off13 k) S1x64x256.size (k0_off13_inb k)) (rd arg10 X10 ![0, 0] S1x256.size (by decide)) (rd arg9 X9 (k0_off13 k) S1x64x256.size (k0_off13_inb k))⟩,
        ⟨Rect.unit (k0_off10 k) S1x64x256.size (k0_off10_inb k), headOut (rd arg3 X3 (k0_off9 k) S1x64x128.size (k0_off9_inb k)) (rd arg5 X5 (k0_off10 k) S1x64x256.size (k0_off10_inb k)) (rd arg6 X6 (k0_off9 k) S1x64x128.size (k0_off9_inb k)) (rd arg13 f13 ![2, 0, 0] S1x128x256.size (by decide)) (scoresPlain (rd arg3 X3 (k0_off9 k) S1x64x128.size (k0_off9_inb k)) (rd arg4 X4 (k0_off9 k) S1x64x128.size (k0_off9_inb k)) (rd arg6 X6 (k0_off9 k) S1x64x128.size (k0_off9_inb k))) (rd arg8 X8 (k0_off10 k) S1x64x256.size (k0_off10_inb k)) (rd arg10 X10 ![0, 0] S1x256.size (by decide)) (rd arg9 X9 (k0_off10 k) S1x64x256.size (k0_off10_inb k))⟩,
        ⟨Rect.unit (k0_off7 k) S1x64x256.size (k0_off7_inb k), headOut (rd arg3 X3 (k0_off6 k) S1x64x128.size (k0_off6_inb k)) (rd arg5 X5 (k0_off7 k) S1x64x256.size (k0_off7_inb k)) (rd arg6 X6 (k0_off6 k) S1x64x128.size (k0_off6_inb k)) (rd arg13 f13 ![1, 0, 0] S1x128x256.size (by decide)) (scoresPlain (rd arg3 X3 (k0_off6 k) S1x64x128.size (k0_off6_inb k)) (rd arg4 X4 (k0_off6 k) S1x64x128.size (k0_off6_inb k)) (rd arg6 X6 (k0_off6 k) S1x64x128.size (k0_off6_inb k))) (rd arg8 X8 (k0_off7 k) S1x64x256.size (k0_off7_inb k)) (rd arg10 X10 ![0, 0] S1x256.size (by decide)) (rd arg9 X9 (k0_off7 k) S1x64x256.size (k0_off7_inb k))⟩,
        ⟨Rect.unit (k0_off5 k) S1x64x256.size (k0_off5_inb k), headOut (rd arg3 X3 (k0_off2 k) S1x64x128.size (k0_off2_inb k)) (rd arg5 X5 (k0_off3 k) S1x64x256.size (k0_off3_inb k)) (rd arg6 X6 (k0_off2 k) S1x64x128.size (k0_off2_inb k)) (rd arg13 f13 ![0, 0, 0] S1x128x256.size (by decide)) (scoresPlain (rd arg3 X3 (k0_off2 k) S1x64x128.size (k0_off2_inb k)) (rd arg4 X4 (k0_off2 k) S1x64x128.size (k0_off2_inb k)) (rd arg6 X6 (k0_off2 k) S1x64x128.size (k0_off2_inb k))) (rd arg8 X8 (k0_off5 k) S1x64x256.size (k0_off5_inb k)) (rd arg10 X10 ![0, 0] S1x256.size (by decide)) (rd arg9 X9 (k0_off5 k) S1x64x256.size (k0_off5_inb k))⟩] := by
  unfold trip0
  simp only [trip0.sl.H11_3, trip0.sl.H11_2, trip0.sl.H11_1, trip0.sl.r_16, sc0_0, sc0_1, sc0_2, sc0_3]
  rfl

theorem cols_of (st : ℕ → FVec F S64x64 .f32) (v9 : IVec S64x64 32) (q b : FVec F S64x128 .f32) (K B : Vec F S64x128 .f32) (init : FVec F S64x64 .f32)
    (h0 : st 0 = init)
    (hs : ∀ k : Fin k0_t2_loop.trips, st (k.val + 1) = k0_pay16 v9 q b k (st k.val) (brow K k.val (Nat.lt_of_lt_of_eq k.isLt trips2)) (brow B k.val (Nat.lt_of_lt_of_eq k.isLt trips2))) :
    ∀ n, n ≤ 64 → st n = cols v9 q b K B init n
  | 0, _ => h0
  | n + 1, h => by
    have hn : n < 64 := h
    rw [cols, dif_pos hn, ← cols_of st v9 q b K B init h0 hs n (by omega)]
    exact hs ⟨n, Nat.lt_of_lt_of_eq hn trips2.symm⟩

theorem row_of {e : EltTy} (a : Memref sig .tc .vmem S64x128 e) (f : BufTy.Contents (Elt F) a.view.ty) (L : List (View.Piece (Elt F) S64x128 e)) (w : Vec F S64x128 e)
    (inb : ∀ x, (![0, 0] : Fin 2 → ℕ) x + S64x128.size x ≤ S64x128.size x)
    (off : Fin 2 → ℕ) (j : ℕ) (inb' : ∀ x, off x + S1x128.size x ≤ S64x128.size x) (h : off = ![j, 0])
    (inb'' : ∀ x, (![j, 0] : Fin 2 → ℕ) x + S1x128.size x ≤ S64x128.size x) :
    a.view.readAt (Elt F) (Rect.unit (s := S64x128) off S1x128.size inb').toLoadRect (a.view.writes (Elt F) f (⟨Rect.unit ![0, 0] S64x128.size inb, w⟩ :: L))
      = VecWindow.window (s := S64x128) w ![j, 0] S1x128.size inb'' := by
  rw [View.readAt_unit _ _ inb' h inb'']
  congr 1
  exact View.read_writes_full a.view f inb w L

set_option maxRecDepth 65536 in
theorem sc1_0 (c : Dev nD) (i : grid0.Coords) : trip1.sl.v57 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 f13 k = scoresExact v9 (rd arg3 X3 (k0_off2 k) S1x64x128.size (k0_off2_inb k)) (rd arg4 X4 (k0_off2 k) S1x64x128.size (k0_off2_inb k)) (rd arg6 X6 (k0_off2 k) S1x64x128.size (k0_off2_inb k)) := by
  unfold trip1.sl.v57
  refine (View.readCov_cons_unit_lit' _ _ _ _ _ (by decide) (by decide)).trans ?_
  unfold scoresExact
  refine congrArg k0_pay17 (cols_of (st_k0_t2 (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _) _ _ _ _ _ _ rfl ?_ 64 (le_refl _))
  intro j
  refine (st_k0_t2_succ (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ j).trans ?_
  unfold tripR_k0_t2 trip_k0_t2
  exact congr (congrArg (k0_pay16 _ _ _ _ _) (row_of _ _ _ _ _ _ j.val _ (k0_off4_eq j) _)) (row_of _ _ _ _ _ _ j.val _ (k0_off4_eq j) _)

set_option maxRecDepth 65536 in
theorem sc1_1 (c : Dev nD) (i : grid0.Coords) : trip1.sl.v134 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 f13 k = scoresExact v9 (rd arg3 X3 (k0_off6 k) S1x64x128.size (k0_off6_inb k)) (rd arg4 X4 (k0_off6 k) S1x64x128.size (k0_off6_inb k)) (rd arg6 X6 (k0_off6 k) S1x64x128.size (k0_off6_inb k)) := by
  unfold trip1.sl.v134
  refine (View.readCov_cons_unit_lit' _ _ _ _ _ (by decide) (by decide)).trans ?_
  unfold scoresExact
  refine congrArg k0_pay17 (cols_of (st_k0_t3 (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _) _ _ _ _ _ _ rfl ?_ 64 (le_refl _))
  intro j
  refine (st_k0_t3_succ (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ j).trans ?_
  unfold tripR_k0_t3 trip_k0_t3
  exact congr (congrArg (k0_pay16 _ _ _ _ _) (row_of _ _ _ _ _ _ j.val _ (k0_off8_eq j) _)) (row_of _ _ _ _ _ _ j.val _ (k0_off8_eq j) _)

set_option maxRecDepth 65536 in
theorem sc1_2 (c : Dev nD) (i : grid0.Coords) : trip1.sl.v211 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 f13 k = scoresExact v9 (rd arg3 X3 (k0_off9 k) S1x64x128.size (k0_off9_inb k)) (rd arg4 X4 (k0_off9 k) S1x64x128.size (k0_off9_inb k)) (rd arg6 X6 (k0_off9 k) S1x64x128.size (k0_off9_inb k)) := by
  unfold trip1.sl.v211
  refine (View.readCov_cons_unit_lit' _ _ _ _ _ (by decide) (by decide)).trans ?_
  unfold scoresExact
  refine congrArg k0_pay17 (cols_of (st_k0_t4 (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _) _ _ _ _ _ _ rfl ?_ 64 (le_refl _))
  intro j
  refine (st_k0_t4_succ (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ j).trans ?_
  unfold tripR_k0_t4 trip_k0_t4
  exact congr (congrArg (k0_pay16 _ _ _ _ _) (row_of _ _ _ _ _ _ j.val _ (k0_off11_eq j) _)) (row_of _ _ _ _ _ _ j.val _ (k0_off11_eq j) _)

set_option maxRecDepth 65536 in
theorem sc1_3 (c : Dev nD) (i : grid0.Coords) : trip1.sl.v288 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 f13 k = scoresExact v9 (rd arg3 X3 (k0_off12 k) S1x64x128.size (k0_off12_inb k)) (rd arg4 X4 (k0_off12 k) S1x64x128.size (k0_off12_inb k)) (rd arg6 X6 (k0_off12 k) S1x64x128.size (k0_off12_inb k)) := by
  unfold trip1.sl.v288
  refine (View.readCov_cons_unit_lit' _ _ _ _ _ (by decide) (by decide)).trans ?_
  unfold scoresExact
  refine congrArg k0_pay17 (cols_of (st_k0_t5 (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _) _ _ _ _ _ _ rfl ?_ 64 (le_refl _))
  intro j
  refine (st_k0_t5_succ (F := F) _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ j).trans ?_
  unfold tripR_k0_t5 trip_k0_t5
  exact congr (congrArg (k0_pay16 _ _ _ _ _) (row_of _ _ _ _ _ _ j.val _ (k0_off14_eq j) _)) (row_of _ _ _ _ _ _ j.val _ (k0_off14_eq j) _)

set_option maxRecDepth 65536 in
theorem trip1_13 (c : Dev nD) (i : grid0.Coords) : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).2.1 =
      [⟨Rect.unit ![3, 0, 0] S1x128x256.size (by decide), headState (rd arg4 X4 (k0_off12 k) S1x64x128.size (k0_off12_inb k)) (rd arg5 X5 (k0_off13 k) S1x64x256.size (k0_off13_inb k)) (rd arg6 X6 (k0_off12 k) S1x64x128.size (k0_off12_inb k)) (rd arg13 f13 ![3, 0, 0] S1x128x256.size (by decide))⟩,
        ⟨Rect.unit ![2, 0, 0] S1x128x256.size (by decide), headState (rd arg4 X4 (k0_off9 k) S1x64x128.size (k0_off9_inb k)) (rd arg5 X5 (k0_off10 k) S1x64x256.size (k0_off10_inb k)) (rd arg6 X6 (k0_off9 k) S1x64x128.size (k0_off9_inb k)) (rd arg13 f13 ![2, 0, 0] S1x128x256.size (by decide))⟩,
        ⟨Rect.unit ![1, 0, 0] S1x128x256.size (by decide), headState (rd arg4 X4 (k0_off6 k) S1x64x128.size (k0_off6_inb k)) (rd arg5 X5 (k0_off7 k) S1x64x256.size (k0_off7_inb k)) (rd arg6 X6 (k0_off6 k) S1x64x128.size (k0_off6_inb k)) (rd arg13 f13 ![1, 0, 0] S1x128x256.size (by decide))⟩,
        ⟨Rect.unit ![0, 0, 0] S1x128x256.size (by decide), headState (rd arg4 X4 (k0_off2 k) S1x64x128.size (k0_off2_inb k)) (rd arg5 X5 (k0_off3 k) S1x64x256.size (k0_off3_inb k)) (rd arg6 X6 (k0_off2 k) S1x64x128.size (k0_off2_inb k)) (rd arg13 f13 ![0, 0, 0] S1x128x256.size (by decide))⟩] := by
  unfold trip1; rfl

set_option maxRecDepth 65536 in
theorem trip1_11 (c : Dev nD) (i : grid0.Coords) : (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).1 =
      [⟨Rect.unit (k0_off13 k) S1x64x256.size (k0_off13_inb k), headOut (rd arg3 X3 (k0_off12 k) S1x64x128.size (k0_off12_inb k)) (rd arg5 X5 (k0_off13 k) S1x64x256.size (k0_off13_inb k)) (rd arg6 X6 (k0_off12 k) S1x64x128.size (k0_off12_inb k)) (rd arg13 f13 ![3, 0, 0] S1x128x256.size (by decide)) (scoresExact v9 (rd arg3 X3 (k0_off12 k) S1x64x128.size (k0_off12_inb k)) (rd arg4 X4 (k0_off12 k) S1x64x128.size (k0_off12_inb k)) (rd arg6 X6 (k0_off12 k) S1x64x128.size (k0_off12_inb k))) (rd arg8 X8 (k0_off13 k) S1x64x256.size (k0_off13_inb k)) (rd arg10 X10 ![0, 0] S1x256.size (by decide)) (rd arg9 X9 (k0_off13 k) S1x64x256.size (k0_off13_inb k))⟩,
        ⟨Rect.unit (k0_off10 k) S1x64x256.size (k0_off10_inb k), headOut (rd arg3 X3 (k0_off9 k) S1x64x128.size (k0_off9_inb k)) (rd arg5 X5 (k0_off10 k) S1x64x256.size (k0_off10_inb k)) (rd arg6 X6 (k0_off9 k) S1x64x128.size (k0_off9_inb k)) (rd arg13 f13 ![2, 0, 0] S1x128x256.size (by decide)) (scoresExact v9 (rd arg3 X3 (k0_off9 k) S1x64x128.size (k0_off9_inb k)) (rd arg4 X4 (k0_off9 k) S1x64x128.size (k0_off9_inb k)) (rd arg6 X6 (k0_off9 k) S1x64x128.size (k0_off9_inb k))) (rd arg8 X8 (k0_off10 k) S1x64x256.size (k0_off10_inb k)) (rd arg10 X10 ![0, 0] S1x256.size (by decide)) (rd arg9 X9 (k0_off10 k) S1x64x256.size (k0_off10_inb k))⟩,
        ⟨Rect.unit (k0_off7 k) S1x64x256.size (k0_off7_inb k), headOut (rd arg3 X3 (k0_off6 k) S1x64x128.size (k0_off6_inb k)) (rd arg5 X5 (k0_off7 k) S1x64x256.size (k0_off7_inb k)) (rd arg6 X6 (k0_off6 k) S1x64x128.size (k0_off6_inb k)) (rd arg13 f13 ![1, 0, 0] S1x128x256.size (by decide)) (scoresExact v9 (rd arg3 X3 (k0_off6 k) S1x64x128.size (k0_off6_inb k)) (rd arg4 X4 (k0_off6 k) S1x64x128.size (k0_off6_inb k)) (rd arg6 X6 (k0_off6 k) S1x64x128.size (k0_off6_inb k))) (rd arg8 X8 (k0_off7 k) S1x64x256.size (k0_off7_inb k)) (rd arg10 X10 ![0, 0] S1x256.size (by decide)) (rd arg9 X9 (k0_off7 k) S1x64x256.size (k0_off7_inb k))⟩,
        ⟨Rect.unit (k0_off5 k) S1x64x256.size (k0_off5_inb k), headOut (rd arg3 X3 (k0_off2 k) S1x64x128.size (k0_off2_inb k)) (rd arg5 X5 (k0_off3 k) S1x64x256.size (k0_off3_inb k)) (rd arg6 X6 (k0_off2 k) S1x64x128.size (k0_off2_inb k)) (rd arg13 f13 ![0, 0, 0] S1x128x256.size (by decide)) (scoresExact v9 (rd arg3 X3 (k0_off2 k) S1x64x128.size (k0_off2_inb k)) (rd arg4 X4 (k0_off2 k) S1x64x128.size (k0_off2_inb k)) (rd arg6 X6 (k0_off2 k) S1x64x128.size (k0_off2_inb k))) (rd arg8 X8 (k0_off5 k) S1x64x256.size (k0_off5_inb k)) (rd arg10 X10 ![0, 0] S1x256.size (by decide)) (rd arg9 X9 (k0_off5 k) S1x64x256.size (k0_off5_inb k))⟩] := by
  unfold trip1
  simp only [trip1.sl.H11_3, trip1.sl.H11_2, trip1.sl.H11_1, trip1.sl.r_16, sc1_0, sc1_1, sc1_2, sc1_3]
  rfl

end

end Cert.Proof.KernelIdeal
-- ==== Proof.Reads.lean ====
module

public import proofs.«01_k».proof.Proof.TripVal

@[expose] public section

/-! What the state buffer and the output block hold after one chunk. -/

noncomputable section

namespace Cert.Proof.KernelIdeal

open Cert.KernelIdeal Cert.KernelIdeal.Gen
open Idealize.ShloMosaic Idealize.ShloMosaic.TcCoe

variable {F : FTy → Type} [FloatOps F]

theorem trips1 : k0_t1_loop.trips = 4 := by decide +kernel

/-- A trip of the chunk loop as a chunk. -/
abbrev kk (k : Fin k0_t1_loop.trips) : Fin 4 := ⟨k.val, Nat.lt_of_lt_of_eq k.isLt trips1⟩

theorem rd_bk {e : EltTy} (a : Memref sig .tc .vmem S1x256x512 e) (X : BufTy.Contents (Elt F) a.view.ty) (k h : Fin 4) (off : Fin 3 → ℕ)
    (inb : ∀ x, off x + S1x64x128.size x ≤ S1x256x512.size x) (ho : off = ![0, 64 * k.val, 128 * h.val]) :
    rd a X off S1x64x128.size inb = bk (a.view.read (Elt F) X) k h := View.readAt_unit _ _ _ ho _

theorem rd_bv {e : EltTy} (a : Memref sig .tc .vmem S1x256x1024 e) (X : BufTy.Contents (Elt F) a.view.ty) (k h : Fin 4) (off : Fin 3 → ℕ)
    (inb : ∀ x, off x + S1x64x256.size x ≤ S1x256x1024.size x) (ho : off = ![0, 64 * k.val, 256 * h.val]) :
    rd a X off S1x64x256.size inb = bv (a.view.read (Elt F) X) k h := View.readAt_unit _ _ _ ho _

theorem rd_bs (a : Memref sig .tc .vmem S4x128x256 .f32) (X : BufTy.Contents (Elt F) a.view.ty) (h : Fin 4) (off : Fin 3 → ℕ)
    (inb : ∀ x, off x + S1x128x256.size x ≤ S4x128x256.size x) (ho : off = ![h.val, 0, 0]) :
    rd a X off S1x128x256.size inb = bs (a.view.read (Elt F) X) h := View.readAt_unit _ _ _ ho _

theorem rd_g (a : Memref sig .tc .vmem S1x256 .f32) (X : BufTy.Contents (Elt F) a.view.ty) (inb : ∀ x, (![0, 0] : Fin 2 → ℕ) x + S1x256.size x ≤ S1x256.size x) :
    rd a X ![0, 0] S1x256.size inb = a.view.read (Elt F) X := by
  exact View.readAt_full _ _ _

theorem cons_s {e : EltTy} (a : Memref sig .tc .vmem S4x128x256 e) (f : BufTy.Contents (Elt F) a.view.ty) (h : Fin 4) (off : Fin 3 → ℕ)
    (inb : ∀ x, off x + S1x128x256.size x ≤ S4x128x256.size x) (ho : off = ![h.val, 0, 0]) (w : Vec F S1x128x256 e)
    (L : List (View.Piece (Elt F) S4x128x256 e)) (y : S4x128x256.Idx) :
    a.view.read (Elt F) (a.view.writes (Elt F) f (⟨Rect.unit off S1x128x256.size inb, w⟩ :: L)) y
      = if (y 0).val = h.val then w (ValueIdx.ix3 0 (y 1) (y 2)) else a.view.read (Elt F) (a.view.writes (Elt F) f L) y := by
  rw [View.read_writes_cons_unit a.view f inb w L y ho]
  have h1 : (y 1).val < 128 := (y 1).isLt
  have h2 : (y 2).val < 256 := (y 2).isLt
  by_cases hc : (y 0).val = h.val
  · have hm : ∀ d, (![h.val, 0, 0] : Fin 3 → ℕ) d ≤ (y d).val ∧ (y d).val < (![h.val, 0, 0] : Fin 3 → ℕ) d + S1x128x256.size d := by
      intro d
      match d with
      | 0 => show h.val ≤ (y 0).val ∧ (y 0).val < h.val + 1; rw [hc]; omega
      | 1 => show 0 ≤ (y 1).val ∧ (y 1).val < 0 + 128; omega
      | 2 => show 0 ≤ (y 2).val ∧ (y 2).val < 0 + 256; omega
    rw [dif_pos hm, if_pos hc]
    refine congrArg w (funext fun d => Fin.ext ?_)
    rw [Rect.unitLocal_val]
    match d with
    | 0 => show (y 0).val - h.val = 0; rw [hc]; omega
    | 1 => show (y 1).val - 0 = (y 1).val; omega
    | 2 => show (y 2).val - 0 = (y 2).val; omega
  · rw [if_neg hc, dif_neg]
    intro hm
    have := hm 0
    have h0 : h.val ≤ (y 0).val ∧ (y 0).val < h.val + 1 := this
    exact hc (by omega)

theorem cons_o {e : EltTy} (a : Memref sig .tc .vmem S1x256x1024 e) (f : BufTy.Contents (Elt F) a.view.ty) (k h : Fin 4) (off : Fin 3 → ℕ)
    (inb : ∀ x, off x + S1x64x256.size x ≤ S1x256x1024.size x) (ho : off = ![0, 64 * k.val, 256 * h.val]) (w : Vec F S1x64x256 e)
    (L : List (View.Piece (Elt F) S1x256x1024 e)) (y : S1x256x1024.Idx) :
    a.view.read (Elt F) (a.view.writes (Elt F) f (⟨Rect.unit off S1x64x256.size inb, w⟩ :: L)) y
      = if ck (y 1) = k ∧ hd (y 2) = h then w (ValueIdx.ix3 0 ⟨(y 1).val % 64, Nat.mod_lt _ (by decide)⟩ ⟨(y 2).val % 256, Nat.mod_lt _ (by decide)⟩)
        else a.view.read (Elt F) (a.view.writes (Elt F) f L) y := by
  rw [View.read_writes_cons_unit a.view f inb w L y ho]
  have h0 : (y 0).val < 1 := (y 0).isLt
  by_cases hc : ck (y 1) = k ∧ hd (y 2) = h
  · have e1 : (y 1).val / 64 = k.val := congrArg Fin.val hc.1
    have e2 : (y 2).val / 256 = h.val := congrArg Fin.val hc.2
    have hm : ∀ d, (![0, 64 * k.val, 256 * h.val] : Fin 3 → ℕ) d ≤ (y d).val ∧ (y d).val < (![0, 64 * k.val, 256 * h.val] : Fin 3 → ℕ) d + S1x64x256.size d := by
      intro d
      match d with
      | 0 => show 0 ≤ (y 0).val ∧ (y 0).val < 0 + 1; omega
      | 1 => show 64 * k.val ≤ (y 1).val ∧ (y 1).val < 64 * k.val + 64; omega
      | 2 => show 256 * h.val ≤ (y 2).val ∧ (y 2).val < 256 * h.val + 256; omega
    rw [dif_pos hm, if_pos hc]
    refine congrArg w (funext fun d => Fin.ext ?_)
    rw [Rect.unitLocal_val]
    match d with
    | 0 => show (y 0).val - 0 = 0; omega
    | 1 => show (y 1).val - 64 * k.val = (y 1).val % 64; omega
    | 2 => show (y 2).val - 256 * h.val = (y 2).val % 256; omega
  · rw [if_neg hc, dif_neg]
    intro hm
    have m1 : 64 * k.val ≤ (y 1).val ∧ (y 1).val < 64 * k.val + 64 := hm 1
    have m2 : 256 * h.val ≤ (y 2).val ∧ (y 2).val < 256 * h.val + 256 := hm 2
    exact hc ⟨Fin.ext (by show (y 1).val / 64 = k.val; omega), Fin.ext (by show (y 2).val / 256 = h.val; omega)⟩

/-- Four stores, one per head, of the state. -/
theorem four_s {e : EltTy} (a : Memref sig .tc .vmem S4x128x256 e) (f : BufTy.Contents (Elt F) a.view.ty) (w : Fin 4 → Vec F S1x128x256 e)
    (i3 i2 i1 i0) (y : S4x128x256.Idx) :
    a.view.read (Elt F) (a.view.writes (Elt F) f [⟨Rect.unit ![3, 0, 0] S1x128x256.size i3, w 3⟩, ⟨Rect.unit ![2, 0, 0] S1x128x256.size i2, w 2⟩,
        ⟨Rect.unit ![1, 0, 0] S1x128x256.size i1, w 1⟩, ⟨Rect.unit ![0, 0, 0] S1x128x256.size i0, w 0⟩]) y
      = w (y 0) (ValueIdx.ix3 0 (y 1) (y 2)) := by
  rw [cons_s a f 3 ![3, 0, 0] _ rfl, cons_s a f 2 ![2, 0, 0] _ rfl, cons_s a f 1 ![1, 0, 0] _ rfl, cons_s a f 0 ![0, 0, 0] _ rfl]
  have hz : ∀ z : Fin 4, (if z.val = (3 : Fin 4).val then w 3 else if z.val = (2 : Fin 4).val then w 2 else if z.val = (1 : Fin 4).val then w 1 else if z.val = (0 : Fin 4).val then w 0 else w 0) = w z := by
    intro z
    match z with
    | 0 => rfl
    | 1 => rfl
    | 2 => rfl
    | 3 => rfl
  have h4 : (y 0).val < 4 := (y 0).isLt
  have hy := congrFun (hz (y 0)) (ValueIdx.ix3 0 (y 1) (y 2))
  refine Eq.trans ?_ hy
  by_cases e3 : (y 0).val = (3 : Fin 4).val
  · simp only [e3, if_true]
  · by_cases e2 : (y 0).val = (2 : Fin 4).val
    · simp only [e2]; rfl
    · by_cases e1 : (y 0).val = (1 : Fin 4).val
      · simp only [e1]; rfl
      · have e0 : (y 0).val = (0 : Fin 4).val := by
          have : (y 0).val ≠ 3 := e3
          have : (y 0).val ≠ 2 := e2
          have : (y 0).val ≠ 1 := e1
          show (y 0).val = 0
          omega
        simp only [e0]; rfl

/-- Four stores, one per head, of a chunk of the output block. -/
theorem four_o {e : EltTy} (a : Memref sig .tc .vmem S1x256x1024 e) (f : BufTy.Contents (Elt F) a.view.ty) (k : Fin 4) (w : Fin 4 → Vec F S1x64x256 e)
    (o3 o2 o1 o0 : Fin 3 → ℕ) (i3 i2 i1 i0) (h3 : o3 = ![0, 64 * k.val, 256 * (3 : Fin 4).val]) (h2 : o2 = ![0, 64 * k.val, 256 * (2 : Fin 4).val])
    (h1 : o1 = ![0, 64 * k.val, 256 * (1 : Fin 4).val]) (h0 : o0 = ![0, 64 * k.val, 256 * (0 : Fin 4).val]) (y : S1x256x1024.Idx) :
    a.view.read (Elt F) (a.view.writes (Elt F) f [⟨Rect.unit o3 S1x64x256.size i3, w 3⟩, ⟨Rect.unit o2 S1x64x256.size i2, w 2⟩,
        ⟨Rect.unit o1 S1x64x256.size i1, w 1⟩, ⟨Rect.unit o0 S1x64x256.size i0, w 0⟩]) y
      = if ck (y 1) = k then w (hd (y 2)) (ValueIdx.ix3 0 ⟨(y 1).val % 64, Nat.mod_lt _ (by decide)⟩ ⟨(y 2).val % 256, Nat.mod_lt _ (by decide)⟩)
        else a.view.read (Elt F) f y := by
  rw [cons_o a f k 3 _ _ h3, cons_o a f k 2 _ _ h2, cons_o a f k 1 _ _ h1, cons_o a f k 0 _ _ h0]
  by_cases hk : ck (y 1) = k
  · have h : hd (y 2) = (3 : Fin 4) ∨ hd (y 2) = (2 : Fin 4) ∨ hd (y 2) = (1 : Fin 4) ∨ hd (y 2) = (0 : Fin 4) := by
      have : ∀ z : Fin 4, z = 3 ∨ z = 2 ∨ z = 1 ∨ z = 0 := by decide
      exact this (hd (y 2))
    rcases h with h | h | h | h <;> rw [h] <;> simp [hk]
  · simp [hk]

section
variable
    (arg2 : Memref sig .tc .smem S128 .i32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x256x1024 .bf16) (harg5 : arg5.IsWhole)
    (arg6 : Memref sig .tc .vmem S1x256x512 .f32) (harg6 : arg6.IsWhole)
    (arg7 : Memref sig .tc .vmem S1x4x128x256 .f32) (harg7 : arg7.IsWhole)
    (arg8 : Memref sig .tc .vmem S1x256x1024 .f32) (harg8 : arg8.IsWhole)
    (arg9 : Memref sig .tc .vmem S1x256x1024 .bf16) (harg9 : arg9.IsWhole)
    (arg10 : Memref sig .tc .vmem S1x256 .f32) (harg10 : arg10.IsWhole)
    (arg11 : Memref sig .tc .vmem S1x256x1024 .bf16) (harg11 : arg11.IsWhole)
    (arg12 : Memref sig .tc .vmem S1x4x128x256 .f32) (harg12 : arg12.IsWhole)
    (arg13 : Memref sig .tc .vmem S4x128x256 .f32) (harg13 : arg13.IsWhole)
    (arg14 : Memref sig .tc .vmem S64x64 .f32) (harg14 : arg14.IsWhole)
    (arg15 : Memref sig .tc .vmem S64x128 .f32) (harg15 : arg15.IsWhole)
    (arg16 : Memref sig .tc .vmem S64x128 .f32) (harg16 : arg16.IsWhole)
    (v9 : IVec S64x64 32)
    (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty)
    (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (k : Fin k0_t1_loop.trips)

theorem read13_0 (c : Dev nD) (i : grid0.Coords) (b : BufTy.Contents (Elt F) arg13.view.ty) :
    arg13.view.read (Elt F) (arg13.view.writes (Elt F) b (trip0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).2.1)
      = stepS (arg4.view.read (Elt F) X4) (arg5.view.read (Elt F) X5) (arg6.view.read (Elt F) X6) (kk k) (arg13.view.read (Elt F) f13) := by
  rw [trip0_13]
  rw [rd_bk arg4 X4 (kk k) 3 _ _ (k0_off12_eq k), rd_bk arg4 X4 (kk k) 2 _ _ (k0_off9_eq k), rd_bk arg4 X4 (kk k) 1 _ _ (k0_off6_eq k), rd_bk arg4 X4 (kk k) 0 _ _ (k0_off2_eq k)]
  rw [rd_bk arg6 X6 (kk k) 3 _ _ (k0_off12_eq k), rd_bk arg6 X6 (kk k) 2 _ _ (k0_off9_eq k), rd_bk arg6 X6 (kk k) 1 _ _ (k0_off6_eq k), rd_bk arg6 X6 (kk k) 0 _ _ (k0_off2_eq k)]
  rw [rd_bv arg5 X5 (kk k) 3 _ _ (k0_off13_eq k), rd_bv arg5 X5 (kk k) 2 _ _ (k0_off10_eq k), rd_bv arg5 X5 (kk k) 1 _ _ (k0_off7_eq k), rd_bv arg5 X5 (kk k) 0 _ _ (k0_off3_eq k)]
  rw [rd_bs arg13 f13 3 ![3, 0, 0] _ rfl, rd_bs arg13 f13 2 ![2, 0, 0] _ rfl, rd_bs arg13 f13 1 ![1, 0, 0] _ rfl, rd_bs arg13 f13 0 ![0, 0, 0] _ rfl]
  funext y
  exact four_s arg13 b (fun h => headState (bk (arg4.view.read (Elt F) X4) (kk k) h) (bv (arg5.view.read (Elt F) X5) (kk k) h)
    (bk (arg6.view.read (Elt F) X6) (kk k) h) (bs (arg13.view.read (Elt F) f13) h)) _ _ _ _ y

theorem read11_0 (c : Dev nD) (i : grid0.Coords) (y : S1x256x1024.Idx) :
    arg11.view.read (Elt F) (arg11.view.writes (Elt F) f11 (trip0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).1) y
      = if ck (y 1) = kk k then outH 0#1 v9 (arg3.view.read (Elt F) X3) (arg4.view.read (Elt F) X4) (arg5.view.read (Elt F) X5) (arg6.view.read (Elt F) X6) (arg8.view.read (Elt F) X8) (arg9.view.read (Elt F) X9) (arg10.view.read (Elt F) X10) (kk k) (hd (y 2)) (arg13.view.read (Elt F) f13)
          (ValueIdx.ix3 0 ⟨(y 1).val % 64, Nat.mod_lt _ (by decide)⟩ ⟨(y 2).val % 256, Nat.mod_lt _ (by decide)⟩)
        else arg11.view.read (Elt F) f11 y := by
  rw [trip0_11]
  rw [rd_bk arg3 X3 (kk k) 3 _ _ (k0_off12_eq k), rd_bk arg3 X3 (kk k) 2 _ _ (k0_off9_eq k), rd_bk arg3 X3 (kk k) 1 _ _ (k0_off6_eq k), rd_bk arg3 X3 (kk k) 0 _ _ (k0_off2_eq k)]
  rw [rd_bk arg4 X4 (kk k) 3 _ _ (k0_off12_eq k), rd_bk arg4 X4 (kk k) 2 _ _ (k0_off9_eq k), rd_bk arg4 X4 (kk k) 1 _ _ (k0_off6_eq k), rd_bk arg4 X4 (kk k) 0 _ _ (k0_off2_eq k)]
  rw [rd_bk arg6 X6 (kk k) 3 _ _ (k0_off12_eq k), rd_bk arg6 X6 (kk k) 2 _ _ (k0_off9_eq k), rd_bk arg6 X6 (kk k) 1 _ _ (k0_off6_eq k), rd_bk arg6 X6 (kk k) 0 _ _ (k0_off2_eq k)]
  rw [rd_bv arg5 X5 (kk k) 3 _ _ (k0_off13_eq k), rd_bv arg5 X5 (kk k) 2 _ _ (k0_off10_eq k), rd_bv arg5 X5 (kk k) 1 _ _ (k0_off7_eq k), rd_bv arg5 X5 (kk k) 0 _ _ (k0_off3_eq k)]
  rw [rd_bv arg8 X8 (kk k) 3 _ _ (k0_off13_eq k), rd_bv arg8 X8 (kk k) 2 _ _ (k0_off10_eq k), rd_bv arg8 X8 (kk k) 1 _ _ (k0_off7_eq k), rd_bv arg8 X8 (kk k) 0 _ _ (k0_off5_eq k)]
  rw [rd_bv arg9 X9 (kk k) 3 _ _ (k0_off13_eq k), rd_bv arg9 X9 (kk k) 2 _ _ (k0_off10_eq k), rd_bv arg9 X9 (kk k) 1 _ _ (k0_off7_eq k), rd_bv arg9 X9 (kk k) 0 _ _ (k0_off5_eq k)]
  rw [rd_bs arg13 f13 3 ![3, 0, 0] _ rfl, rd_bs arg13 f13 2 ![2, 0, 0] _ rfl, rd_bs arg13 f13 1 ![1, 0, 0] _ rfl, rd_bs arg13 f13 0 ![0, 0, 0] _ rfl, rd_g arg10 X10]
  exact four_o arg11 f11 (kk k) (fun h => outH 0#1 v9 (arg3.view.read (Elt F) X3) (arg4.view.read (Elt F) X4) (arg5.view.read (Elt F) X5) (arg6.view.read (Elt F) X6) (arg8.view.read (Elt F) X8) (arg9.view.read (Elt F) X9) (arg10.view.read (Elt F) X10) (kk k) h (arg13.view.read (Elt F) f13))
    _ _ _ _ _ _ _ _ (k0_off13_eq k) (k0_off10_eq k) (k0_off7_eq k) (k0_off5_eq k) y

theorem read13_1 (c : Dev nD) (i : grid0.Coords) (b : BufTy.Contents (Elt F) arg13.view.ty) :
    arg13.view.read (Elt F) (arg13.view.writes (Elt F) b (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).2.1)
      = stepS (arg4.view.read (Elt F) X4) (arg5.view.read (Elt F) X5) (arg6.view.read (Elt F) X6) (kk k) (arg13.view.read (Elt F) f13) := by
  rw [trip1_13]
  rw [rd_bk arg4 X4 (kk k) 3 _ _ (k0_off12_eq k), rd_bk arg4 X4 (kk k) 2 _ _ (k0_off9_eq k), rd_bk arg4 X4 (kk k) 1 _ _ (k0_off6_eq k), rd_bk arg4 X4 (kk k) 0 _ _ (k0_off2_eq k)]
  rw [rd_bk arg6 X6 (kk k) 3 _ _ (k0_off12_eq k), rd_bk arg6 X6 (kk k) 2 _ _ (k0_off9_eq k), rd_bk arg6 X6 (kk k) 1 _ _ (k0_off6_eq k), rd_bk arg6 X6 (kk k) 0 _ _ (k0_off2_eq k)]
  rw [rd_bv arg5 X5 (kk k) 3 _ _ (k0_off13_eq k), rd_bv arg5 X5 (kk k) 2 _ _ (k0_off10_eq k), rd_bv arg5 X5 (kk k) 1 _ _ (k0_off7_eq k), rd_bv arg5 X5 (kk k) 0 _ _ (k0_off3_eq k)]
  rw [rd_bs arg13 f13 3 ![3, 0, 0] _ rfl, rd_bs arg13 f13 2 ![2, 0, 0] _ rfl, rd_bs arg13 f13 1 ![1, 0, 0] _ rfl, rd_bs arg13 f13 0 ![0, 0, 0] _ rfl]
  funext y
  exact four_s arg13 b (fun h => headState (bk (arg4.view.read (Elt F) X4) (kk k) h) (bv (arg5.view.read (Elt F) X5) (kk k) h)
    (bk (arg6.view.read (Elt F) X6) (kk k) h) (bs (arg13.view.read (Elt F) f13) h)) _ _ _ _ y

theorem read11_1 (c : Dev nD) (i : grid0.Coords) (y : S1x256x1024.Idx) :
    arg11.view.read (Elt F) (arg11.view.writes (Elt F) f11 (trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).1) y
      = if ck (y 1) = kk k then outH 1#1 v9 (arg3.view.read (Elt F) X3) (arg4.view.read (Elt F) X4) (arg5.view.read (Elt F) X5) (arg6.view.read (Elt F) X6) (arg8.view.read (Elt F) X8) (arg9.view.read (Elt F) X9) (arg10.view.read (Elt F) X10) (kk k) (hd (y 2)) (arg13.view.read (Elt F) f13)
          (ValueIdx.ix3 0 ⟨(y 1).val % 64, Nat.mod_lt _ (by decide)⟩ ⟨(y 2).val % 256, Nat.mod_lt _ (by decide)⟩)
        else arg11.view.read (Elt F) f11 y := by
  rw [trip1_11]
  rw [rd_bk arg3 X3 (kk k) 3 _ _ (k0_off12_eq k), rd_bk arg3 X3 (kk k) 2 _ _ (k0_off9_eq k), rd_bk arg3 X3 (kk k) 1 _ _ (k0_off6_eq k), rd_bk arg3 X3 (kk k) 0 _ _ (k0_off2_eq k)]
  rw [rd_bk arg4 X4 (kk k) 3 _ _ (k0_off12_eq k), rd_bk arg4 X4 (kk k) 2 _ _ (k0_off9_eq k), rd_bk arg4 X4 (kk k) 1 _ _ (k0_off6_eq k), rd_bk arg4 X4 (kk k) 0 _ _ (k0_off2_eq k)]
  rw [rd_bk arg6 X6 (kk k) 3 _ _ (k0_off12_eq k), rd_bk arg6 X6 (kk k) 2 _ _ (k0_off9_eq k), rd_bk arg6 X6 (kk k) 1 _ _ (k0_off6_eq k), rd_bk arg6 X6 (kk k) 0 _ _ (k0_off2_eq k)]
  rw [rd_bv arg5 X5 (kk k) 3 _ _ (k0_off13_eq k), rd_bv arg5 X5 (kk k) 2 _ _ (k0_off10_eq k), rd_bv arg5 X5 (kk k) 1 _ _ (k0_off7_eq k), rd_bv arg5 X5 (kk k) 0 _ _ (k0_off3_eq k)]
  rw [rd_bv arg8 X8 (kk k) 3 _ _ (k0_off13_eq k), rd_bv arg8 X8 (kk k) 2 _ _ (k0_off10_eq k), rd_bv arg8 X8 (kk k) 1 _ _ (k0_off7_eq k), rd_bv arg8 X8 (kk k) 0 _ _ (k0_off5_eq k)]
  rw [rd_bv arg9 X9 (kk k) 3 _ _ (k0_off13_eq k), rd_bv arg9 X9 (kk k) 2 _ _ (k0_off10_eq k), rd_bv arg9 X9 (kk k) 1 _ _ (k0_off7_eq k), rd_bv arg9 X9 (kk k) 0 _ _ (k0_off5_eq k)]
  rw [rd_bs arg13 f13 3 ![3, 0, 0] _ rfl, rd_bs arg13 f13 2 ![2, 0, 0] _ rfl, rd_bs arg13 f13 1 ![1, 0, 0] _ rfl, rd_bs arg13 f13 0 ![0, 0, 0] _ rfl, rd_g arg10 X10]
  exact four_o arg11 f11 (kk k) (fun h => outH 1#1 v9 (arg3.view.read (Elt F) X3) (arg4.view.read (Elt F) X4) (arg5.view.read (Elt F) X5) (arg6.view.read (Elt F) X6) (arg8.view.read (Elt F) X8) (arg9.view.read (Elt F) X9) (arg10.view.read (Elt F) X10) (kk k) h (arg13.view.read (Elt F) f13))
    _ _ _ _ _ _ _ _ (k0_off13_eq k) (k0_off10_eq k) (k0_off7_eq k) (k0_off5_eq k) y

end

end Cert.Proof.KernelIdeal
-- ==== Proof.Loop.lean ====
module

public import proofs.«01_k».proof.Proof.Reads
public import Idealize.ShloMosaic.Lib.LaneScatter.Fold

@[expose] public section

/-! The chunk loop of one grid point: the state and the output block after each chunk. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem stS_succ (x1 : Vec F S1x256x512 .bf16) (x2 : Vec F S1x256x1024 .bf16) (x3 : Vec F S1x256x512 .f32) (s : Vec F S4x128x256 .f32) (k : Fin 4) :
    stS x1 x2 x3 s (k.val + 1) = stepS x1 x2 x3 k (stS x1 x2 x3 s k.val) := by
  show (if h : k.val < 4 then _ else _) = _
  rw [dif_pos k.isLt]

section
variable
    (arg2 : Memref sig .tc .smem S128 .i32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x256x1024 .bf16) (harg5 : arg5.IsWhole)
    (arg6 : Memref sig .tc .vmem S1x256x512 .f32) (harg6 : arg6.IsWhole)
    (arg7 : Memref sig .tc .vmem S1x4x128x256 .f32) (harg7 : arg7.IsWhole)
    (arg8 : Memref sig .tc .vmem S1x256x1024 .f32) (harg8 : arg8.IsWhole)
    (arg9 : Memref sig .tc .vmem S1x256x1024 .bf16) (harg9 : arg9.IsWhole)
    (arg10 : Memref sig .tc .vmem S1x256 .f32) (harg10 : arg10.IsWhole)
    (arg11 : Memref sig .tc .vmem S1x256x1024 .bf16) (harg11 : arg11.IsWhole)
    (arg12 : Memref sig .tc .vmem S1x4x128x256 .f32) (harg12 : arg12.IsWhole)
    (arg13 : Memref sig .tc .vmem S4x128x256 .f32) (harg13 : arg13.IsWhole)
    (arg14 : Memref sig .tc .vmem S64x64 .f32) (harg14 : arg14.IsWhole)
    (arg15 : Memref sig .tc .vmem S64x128 .f32) (harg15 : arg15.IsWhole)
    (arg16 : Memref sig .tc .vmem S64x128 .f32) (harg16 : arg16.IsWhole)
    (v7 : BitVec 1) (v9 : IVec S64x64 32)
    (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty)
    (s : Vec F S4x128x256 .f32)

/-- The output rows of the chunks before `n` are done. -/
def DoneO (f11 : BufTy.Contents (Elt F) arg11.view.ty) (n : ℕ) : Prop :=
  ∀ y : S1x256x1024.Idx, (y 1).val / 64 < n → arg11.view.read (Elt F) f11 y = outV v7 v9 (arg3.view.read (Elt F) X3) (arg4.view.read (Elt F) X4) (arg5.view.read (Elt F) X5) (arg6.view.read (Elt F) X6) (arg8.view.read (Elt F) X8) (arg9.view.read (Elt F) X9) (arg10.view.read (Elt F) X10) s y

/-- The buffers before trip `n`. -/
def loopI (c : Dev nD) (n : ℕ) : sProp 𝕄 :=
  iprop(∃ f11 f13 f14 f15 f16, ⌜arg13.view.read (Elt F) f13 = stS (arg4.view.read (Elt F) X4) (arg5.view.read (Elt F) X5) (arg6.view.read (Elt F) X6) s n⌝
    ∗ ⌜DoneO arg3 arg4 arg5 arg6 arg8 arg9 arg10 arg11 v7 v9 X3 X4 X5 X6 X8 X9 X10 s f11 n⌝
    ∗ Trip (F := F) c arg3 arg4 arg5 arg6 arg8 arg9 arg10 arg11 arg13 arg14 arg15 arg16 X3 X4 X5 X6 X8 X9 X10 f11 f13 f14 f15 f16)

include harg2 harg3 harg4 harg5 harg6 harg7 harg8 harg9 harg10 harg11 harg12 harg13 harg14 harg15 harg16 in
theorem done_succ {f11 f11' : BufTy.Contents (Elt F) arg11.view.ty} (k : Fin k0_t1_loop.trips)
    (hd0 : DoneO arg3 arg4 arg5 arg6 arg8 arg9 arg10 arg11 v7 v9 X3 X4 X5 X6 X8 X9 X10 s f11 k.val)
    (hr : ∀ y, arg11.view.read (Elt F) f11' y = if ck (y 1) = kk k then outH v7 v9 (arg3.view.read (Elt F) X3) (arg4.view.read (Elt F) X4) (arg5.view.read (Elt F) X5) (arg6.view.read (Elt F) X6) (arg8.view.read (Elt F) X8) (arg9.view.read (Elt F) X9) (arg10.view.read (Elt F) X10) (kk k) (hd (y 2)) (stS (arg4.view.read (Elt F) X4) (arg5.view.read (Elt F) X5) (arg6.view.read (Elt F) X6) s k.val)
          (ValueIdx.ix3 0 ⟨(y 1).val % 64, Nat.mod_lt _ (by decide)⟩ ⟨(y 2).val % 256, Nat.mod_lt _ (by decide)⟩)
        else arg11.view.read (Elt F) f11 y) :
    DoneO arg3 arg4 arg5 arg6 arg8 arg9 arg10 arg11 v7 v9 X3 X4 X5 X6 X8 X9 X10 s f11' (k.val + 1) := by
  intro y hy
  rw [hr y]
  by_cases hc : ck (y 1) = kk k
  · rw [if_pos hc]
    have e : (y 1).val / 64 = k.val := congrArg Fin.val hc
    show _ = outH v7 v9 (arg3.view.read (Elt F) X3) (arg4.view.read (Elt F) X4) (arg5.view.read (Elt F) X5) (arg6.view.read (Elt F) X6) (arg8.view.read (Elt F) X8) (arg9.view.read (Elt F) X9) (arg10.view.read (Elt F) X10) (ck (y 1)) (hd (y 2)) (stS (arg4.view.read (Elt F) X4) (arg5.view.read (Elt F) X5) (arg6.view.read (Elt F) X6) s ((y 1).val / 64)) _
    rw [hc, e]
  · rw [if_neg hc]
    refine hd0 y ?_
    have : (y 1).val / 64 ≠ k.val := fun e => hc (Fin.ext e)
    omega

theorem loop_step (c : Dev nD) (i : grid0.Coords) (E : Set ℕ) (k : Fin k0_t1_loop.trips) (acc : Unit) :
    loopI arg3 arg4 arg5 arg6 arg8 arg9 arg10 arg11 arg13 arg14 arg15 arg16 v7 v9 X3 X4 X5 X6 X8 X9 X10 s c k.val
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v7 v9 k acc)
        (fun _ => loopI arg3 arg4 arg5 arg6 arg8 arg9 arg10 arg11 arg13 arg14 arg15 arg16 v7 v9 X3 X4 X5 X6 X8 X9 X10 s c (k.val + 1)) := by
  unfold loopI
  iintro ⟨%f11, %f13, %f14, %f15, %f16, %h13, %h11, HT⟩
  have h7 : v7 = 0#1 ∨ v7 = 1#1 := by
    rcases v7 with ⟨⟨n, hn⟩⟩
    have : n = 0 ∨ n = 1 := by omega
    rcases this with rfl | rfl
    · exact Or.inl rfl
    · exact Or.inr rfl
  rcases h7 with rfl | rfl
  · iapply (wp_wand_r Idealize.ShloMosaic.frame (wpE (defs₀ (F := F)) Variants.none (c : Thread nD τ) none) E)
    isplitl [HT]
    · iapply ((trip0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).2.2.2 E)
      iexact HT
    · iintro %yld HT
      iexists _, _, _, _, _
      isplitr; swap
      · isplitr; swap
        · iexact HT
        ipureintro
        refine done_succ arg2 harg2 arg3 harg3 arg4 harg4 arg5 harg5 arg6 harg6 arg7 harg7 arg8 harg8 arg9 harg9 arg10 harg10 arg11 harg11 arg12 harg12 arg13 harg13 arg14 harg14 arg15 harg15 arg16 harg16 0#1 v9 X3 X4 X5 X6 X8 X9 X10 s k h11 (fun y => ?_)
        rw [read11_0, h13]
      · ipureintro
        rw [read13_0, h13]
        exact (stS_succ _ _ _ _ (kk k)).symm
  · iapply (wp_wand_r Idealize.ShloMosaic.frame (wpE (defs₀ (F := F)) Variants.none (c : Thread nD τ) none) E)
    isplitl [HT]
    · iapply ((trip1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v9 X3 X4 X5 X6 X8 X9 X10 f11 f13 f14 f15 f16 k).2.2.2.2.2 E)
      iexact HT
    · iintro %yld HT
      iexists _, _, _, _, _
      isplitr; swap
      · isplitr; swap
        · iexact HT
        ipureintro
        refine done_succ arg2 harg2 arg3 harg3 arg4 harg4 arg5 harg5 arg6 harg6 arg7 harg7 arg8 harg8 arg9 harg9 arg10 harg10 arg11 harg11 arg12 harg12 arg13 harg13 arg14 harg14 arg15 harg15 arg16 harg16 1#1 v9 X3 X4 X5 X6 X8 X9 X10 s k h11 (fun y => ?_)
        rw [read11_1, h13]
      · ipureintro
        rw [read13_1, h13]
        exact (stS_succ _ _ _ _ (kk k)).symm

theorem loop_run (c : Dev nD) (i : grid0.Coords) (E : Set ℕ) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty)
    (h13 : arg13.view.read (Elt F) f13 = s) :
    Trip (F := F) c arg3 arg4 arg5 arg6 arg8 arg9 arg10 arg11 arg13 arg14 arg15 arg16 X3 X4 X5 X6 X8 X9 X10 f11 f13 f14 f15 f16
      ⊢ wp frame (wpE (defs₀ (F := F)) Variants.none (c : Thread nD τ) none) E
          (Scf.Loop.for k0_t1_loop k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v7 v9))
        (fun _ => loopI arg3 arg4 arg5 arg6 arg8 arg9 arg10 arg11 arg13 arg14 arg15 arg16 v7 v9 X3 X4 X5 X6 X8 X9 X10 s c 4) := by
  iintro HT
  iapply (Scf.wp_for frame (wpE (defs₀ (F := F)) Variants.none (c : Thread nD τ) none) E k0_t1_loop.lb k0_t1_loop.ub k0_t1_loop.st k0_t1_ok ()
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v7 v9) (fun n _ => loopI arg3 arg4 arg5 arg6 arg8 arg9 arg10 arg11 arg13 arg14 arg15 arg16 v7 v9 X3 X4 X5 X6 X8 X9 X10 s c n)
    (fun k acc => loop_step arg2 harg2 arg3 harg3 arg4 harg4 arg5 harg5 arg6 harg6 arg7 harg7 arg8 harg8 arg9 harg9 arg10 harg10 arg11 harg11 arg12 harg12 arg13 harg13 arg14 harg14 arg15 harg15 arg16 harg16 v7 v9 X3 X4 X5 X6 X8 X9 X10 s c i E k acc))
  isplitl [HT]
  · unfold loopI
    iexists f11, f13, f14, f15, f16
    isplitr; · ipureintro; exact h13
    isplitr
    · ipureintro; intro y hy; exact absurd hy (Nat.not_lt_zero _)
    iexact HT
  · iintro %acc HI
    have e : Scf.trips k0_t1_loop.lb k0_t1_loop.ub k0_t1_loop.st = 4 := trips1
    rw [e]
    iexact HI

end

end Cert.Proof.KernelIdeal
-- ==== Proof.Pts.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-! The pipeline of the kernel's call: its windows' blocks, when they are fetched and flushed, the branch conditions
over the grid points, and the staging buffers. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 0 (by decide) (by decide) (Pipeline.Window.sep_of_coord cc0_transform_4 0 0 (fun _ => rfl) (by decide)) (P := 16) (by decide) t : ∀ t : Fin grid0.N, Pipeline.Window.fetchOf grid0 false cc0_transform_4 t = true ↔ t.val % 16 = 0)
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 1 (fun _ => rfl) (by decide)) (P := 1) (by decide) t).mpr (Nat.mod_one _) : ∀ t : Fin grid0.N, Pipeline.Window.fetchOf grid0 false cc0_transform_6 t = true)
theorem fetch0_7 (a : (pcfg0 (F := F)).Adm) : ∀ t : Fin (cfg0 a).N, ((cfg0 a).win 7).fetch t = true ↔ t.val % 128 = 0 :=
  (fun t => Pipeline.Window.fetchOf_const cc0_transform_7 (fun _ _ => rfl) (n := 128) (by decide) t : ∀ t : Fin grid0.N, Pipeline.Window.fetchOf grid0 false cc0_transform_7 t = true ↔ t.val % 128 = 0)
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 1 (fun _ => rfl) (by decide)) (P := 1) (m := 0) (by decide) rfl t).mpr (Nat.mod_one _) : ∀ t : Fin grid0.N, Pipeline.Window.flushOf grid0 true cc0_transform_8 t = true)
theorem flush0_9 (a : (pcfg0 (F := F)).Adm) : ∀ t : Fin (cfg0 a).N, ((cfg0 a).win 9).flush t = true ↔ t.val % 16 = 15 :=
  (fun t => Pipeline.Window.flushOf_reads cc0_transform_9 reads0_9 hreads0_9 0 (by decide) (by decide) (Pipeline.Window.sep_of_coord cc0_transform_9 0 0 (fun _ => rfl) (by decide)) (P := 16) (m := 15) (by decide) rfl t : ∀ t : Fin grid0.N, Pipeline.Window.flushOf grid0 true cc0_transform_9 t = true ↔ t.val % 16 = 15)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

abbrev bodyAt0 (a : (pcfg0 (F := F)).Adm) (t : Fin (cfg0 a).N) : Prog (TpuEff nD τ sig (Elt F) Λ₀ .tc) PUnit :=
  cc0__gla_kernel (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S128 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c))⟩) h

abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

abbrev cond0_1 (i : grid0.Coords) : Prop := k0_cond10 i = 1#1
theorem hcond0_1 : ∀ t : Fin grid0.N, cond0_1 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_1, k0_cond10, e0, e1]
    word_cmp
   : ∀ t : Fin grid0.N, cond0_1 (grid0.coords t) ↔ t.val % 16 = 15)

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
theorem liveAt0_4 (hO : Ok m) : ∀ t : Fin (cfgM m hO).N, (cfgM m hO).idle 4 (grid0.coords t) = false :=
  (fun _ => rfl : ∀ t : Fin grid0.N, idle0 4 (grid0.coords t) = false)
theorem liveAt0_5 (hO : Ok m) : ∀ t : Fin (cfgM m hO).N, (cfgM m hO).idle 5 (grid0.coords t) = false :=
  (fun _ => rfl : ∀ t : Fin grid0.N, idle0 5 (grid0.coords t) = false)
theorem liveAt0_6 (hO : Ok m) : ∀ t : Fin (cfgM m hO).N, (cfgM m hO).idle 6 (grid0.coords t) = false :=
  (fun _ => rfl : ∀ t : Fin grid0.N, idle0 6 (grid0.coords t) = false)
theorem liveAt0_7 (hO : Ok m) : ∀ t : Fin (cfgM m hO).N, (cfgM m hO).idle 7 (grid0.coords t) = false :=
  (fun _ => rfl : ∀ t : Fin grid0.N, idle0 7 (grid0.coords t) = false)

abbrev ms0_0 (hO : Ok m) (t : Fin (cfgM m hO).N) : Memref sig .tc .vmem S1x256x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x256x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4x128x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x256x1024 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4x128x256 .f32 := spec0_9.stage ((cfgM m hO).slots t 9)
abbrev hs0_9 (hO : Ok m) (t : Fin (cfgM m hO).N) : (ms0_9 m hO t).IsWhole := hstage0_9 (((cfgM m hO).slots t 9).cast nbuf0_9)
abbrev scM0_0 : Memref sig .tc .vmem S4x128x256 .f32 := Memref.whole cc0_scratch0
abbrev scM0_1 : Memref sig .tc .vmem S64x64 .f32 := Memref.whole cc0_scratch1
abbrev scM0_2 : Memref sig .tc .vmem S64x128 .f32 := Memref.whole cc0_scratch2
abbrev scM0_3 : Memref sig .tc .vmem S64x128 .f32 := Memref.whole cc0_scratch3
abbrev VS0_0 : View sig .tc .vmem S4x128x256 .f32 := scM0_0.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Proof.KernelIdeal
-- ==== Proof.Body.lean ====
module

public import proofs.«01_k».proof.Proof.Loop
public import proofs.«01_k».proof.Proof.Pts

@[expose] public section

/-! One grid point of the kernel: from its input blocks and the state carried in, the output block and the state carried out. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The column numbers of a 64 by 64 block. -/
def cix : IVec S64x64 32 := iota .tc S64x64 32 [1] iota_S64x64_d1_w32

/-- Whether grid point `i` runs the exact path: its word of the table. -/
def flagOf (c : Dev nD) (i : grid0.Coords) (xt0 : TbBuf0 (F := F) c tbM0_0) : BitVec 1 :=
  Scalar.cmpi .ne (tbM0_0.view.readAt (Elt F) (Rect.unit (s := S128) (k0_off1 i) S1.size (k0_off1_inb i)).toLoadRect xt0 (Shape.Idx.first (numel1_S1.symm ▸ Nat.one_pos))) 0#32

/-- The state a grid point starts from. -/
def stIn (i : grid0.Coords) (x4 : Vec F S1x4x128x256 .f32) (xs : Vec F S4x128x256 .f32) : Vec F S4x128x256 .f32 :=
  if (i 1).val = 0 then k0_pay1 x4 else xs

theorem cond0_iff (n : Fin 16) : ((Scalar.cmpi .ne (Scalar.extui (Scalar.cmpi .eq (BitVec.ofNat 32 n.val) 0#32)) 0#32 : BitVec 1) = 1#1) ↔ n.val = 0 := by
  revert n; decide

theorem cond0_val (i : grid0.Coords) (h : cond0_0 i) : (i 1).val = 0 := (cond0_iff (i 1)).mp h

theorem cond0_of_val (i : grid0.Coords) (h : (i 1).val = 0) : cond0_0 i := (cond0_iff (i 1)).mpr h

theorem st_first (arg7 : Memref sig .tc .vmem S1x4x128x256 .f32) (arg13 : Memref sig .tc .vmem S4x128x256 .f32)
    (f4 : BufTy.Contents (Elt F) arg7.view.ty) (inb : ∀ x, (![0, 0, 0, 0] : Fin 4 → ℕ) x + S1x4x128x256.size x ≤ S1x4x128x256.size x) (inb' : ∀ x, (![0, 0, 0] : Fin 3 → ℕ) x + S4x128x256.size x ≤ S4x128x256.size x) :
    arg13.view.read (Elt F) (arg13.view.writes (Elt F) arg13.view.junk
      [⟨Rect.unit ![0, 0, 0] S4x128x256.size inb', k0_pay1 (arg7.view.readAt (Elt F) (Rect.unit (s := S1x4x128x256) ![0, 0, 0, 0] S1x4x128x256.size inb).toLoadRect f4)⟩])
      = k0_pay1 (arg7.view.read (Elt F) f4) := by
  rw [View.read_writes_full, View.readAt_full]

theorem outV_done {arg11 : Memref sig .tc .vmem S1x256x1024 .bf16} (f11 : BufTy.Contents (Elt F) arg11.view.ty)
    (Z : Vec F S1x256x1024 .bf16) (h : ∀ y : S1x256x1024.Idx, (y 1).val / 64 < 4 → arg11.view.read (Elt F) f11 y = Z y) :
    arg11.view.read (Elt F) f11 = Z := by
  funext y
  have : (y 1).val < 256 := (y 1).isLt
  exact h y (by omega)

set_option maxHeartbeats 4000000 in
set_option maxRecDepth 65536 in
theorem body_run (c : Dev nD) (i : grid0.Coords) (arg3 : Memref sig .tc .vmem S1x256x512 .bf16) (harg3 : arg3.IsWhole)
    (arg4 : Memref sig .tc .vmem S1x256x512 .bf16) (harg4 : arg4.IsWhole)
    (arg5 : Memref sig .tc .vmem S1x256x1024 .bf16) (harg5 : arg5.IsWhole)
    (arg6 : Memref sig .tc .vmem S1x256x512 .f32) (harg6 : arg6.IsWhole)
    (arg7 : Memref sig .tc .vmem S1x4x128x256 .f32) (harg7 : arg7.IsWhole)
    (arg8 : Memref sig .tc .vmem S1x256x1024 .f32) (harg8 : arg8.IsWhole)
    (arg9 : Memref sig .tc .vmem S1x256x1024 .bf16) (harg9 : arg9.IsWhole)
    (arg10 : Memref sig .tc .vmem S1x256 .f32) (harg10 : arg10.IsWhole)
    (arg11 : Memref sig .tc .vmem S1x256x1024 .bf16) (harg11 : arg11.IsWhole)
    (arg12 : Memref sig .tc .vmem S1x4x128x256 .f32) (harg12 : arg12.IsWhole)
    (arg13 : Memref sig .tc .vmem S4x128x256 .f32) (harg13 : arg13.IsWhole)
    (arg14 : Memref sig .tc .vmem S64x64 .f32) (harg14 : arg14.IsWhole)
    (arg15 : Memref sig .tc .vmem S64x128 .f32) (harg15 : arg15.IsWhole)
    (arg16 : Memref sig .tc .vmem S64x128 .f32) (harg16 : arg16.IsWhole)
    (x0 x1 : Vec F S1x256x512 .bf16) (x2 : Vec F S1x256x1024 .bf16) (x3 : Vec F S1x256x512 .f32) (x4 : Vec F S1x4x128x256 .f32) (x5 : Vec F S1x256x1024 .f32) (x6 : Vec F S1x256x1024 .bf16) (x7 : Vec F S1x256 .f32)
    (xs : Vec F S4x128x256 .f32) (xt0 : TbBuf0 (F := F) c tbM0_0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs ∗ (∃ d, owns (c : Thread nD τ) arg14 fullShare d) ∗ (∃ d, owns (c : Thread nD τ) arg15 fullShare d) ∗ (∃ d, owns (c : Thread nD τ) arg16 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outV (flagOf c i xt0) cix x0 x1 x2 x3 x5 x6 x7 (stIn i x4 xs)) ∗ (∃ d, owns (c : Thread nD τ) arg12 fullShare d) ∗ owns (c : Thread nD τ) arg13 fullShare (stS x1 x2 x3 (stIn i x4 xs) 4) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
      ⊢ wp frame (wpE (defs₀ (F := F)) Variants.none c none) E (cc0__gla_kernel i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gla_kernel_eq_skeleton]; unfold cc0__gla_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%ds1, %fs1, -, HS1⟩, ⟨%ds2, %fs2, -, HS2⟩, ⟨%ds3, %fs3, -, HS3⟩, HT0, Hk⟩
  subst hf0 hf1 hf2 hf3 hf4 hf5 hf6 hf7 hfs0
  by_cases hc0 : cond0_0 i
  · have hi : (i 1).val = 0 := cond0_val i hc0
    sl_exec (disch := first | sl_exact hc0)
    iapply (LaneScatter.bind_of_run frame (wpE (defs₀ (F := F)) Variants.none (c : Thread nD τ) none) E
      (loop_run tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 _ _ f0 f1 f2 f3 f5 f6 f7 (k0_pay1 (arg7.view.read (Elt F) f4)) c i E _ _ _ _ _ (st_first arg7 arg13 f4 _ _)))
    isplitl [H0 H1 H2 H3 H5 H6 H7 H8 HS0 HS1 HS2 HS3]
    · isplitl [H0]; · iexact H0
      isplitl [H1]; · iexact H1
      isplitl [H2]; · iexact H2
      isplitl [H3]; · iexact H3
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    unfold loopI
    iintro ⟨%g8, %g0, %g1, %g2, %g3, %hg0, %hg8, ⟨H0, H1, H2, H3, H5, H6, H7, H8, HS0, HS1, HS2, HS3⟩⟩
    have e0 := hg0
    have e8 := outV_done g8 _ hg8
    have es : stIn i (arg7.view.read (Elt F) f4) (arg13.view.read (Elt F) fs0) = k0_pay1 (arg7.view.read (Elt F) f4) := if_pos hi
    by_cases hc1 : k0_cond10 i = 1#1
    · sl_exec (disch := first | sl_exact hc1)
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; · ipureintro; rfl
        iexact H7
      isplitl [H8]
      · iexists _; isplitr; swap; · iexact H8
        ipureintro; rw [es]; exact e8
      isplitl [H9]
      · iexists _, _; isplitr; swap; · iexact H9
        ipureintro; rfl
      isplitl [HS0]
      · iexists _; isplitr; swap; · iexact HS0
        ipureintro; rw [es]; exact e0
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0
    · sl_exec (disch := first | sl_exact hc1)
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; · ipureintro; rfl
        iexact H7
      isplitl [H8]
      · iexists _; isplitr; swap; · iexact H8
        ipureintro; rw [es]; exact e8
      isplitl [H9]
      · iexists _, _; isplitr; swap; · iexact H9
        ipureintro; rfl
      isplitl [HS0]
      · iexists _; isplitr; swap; · iexact HS0
        ipureintro; rw [es]; exact e0
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0
  · have hi : ¬ (i 1).val = 0 := fun h => hc0 (cond0_of_val i h)
    sl_exec (disch := first | sl_exact hc0)
    iapply (LaneScatter.bind_of_run frame (wpE (defs₀ (F := F)) Variants.none (c : Thread nD τ) none) E
      (loop_run tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 _ _ f0 f1 f2 f3 f5 f6 f7 (arg13.view.read (Elt F) fs0) c i E _ _ _ _ _ rfl))
    isplitl [H0 H1 H2 H3 H5 H6 H7 H8 HS0 HS1 HS2 HS3]
    · isplitl [H0]; · iexact H0
      isplitl [H1]; · iexact H1
      isplitl [H2]; · iexact H2
      isplitl [H3]; · iexact H3
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iexact HS3
    unfold loopI
    iintro ⟨%g8, %g0, %g1, %g2, %g3, %hg0, %hg8, ⟨H0, H1, H2, H3, H5, H6, H7, H8, HS0, HS1, HS2, HS3⟩⟩
    have e0 := hg0
    have e8 := outV_done g8 _ hg8
    have es : stIn i (arg7.view.read (Elt F) f4) (arg13.view.read (Elt F) fs0) = arg13.view.read (Elt F) fs0 := if_neg hi
    by_cases hc1 : k0_cond10 i = 1#1
    · sl_exec (disch := first | sl_exact hc1)
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; · ipureintro; rfl
        iexact H7
      isplitl [H8]
      · iexists _; isplitr; swap; · iexact H8
        ipureintro; rw [es]; exact e8
      isplitl [H9]
      · iexists _, _; isplitr; swap; · iexact H9
        ipureintro; rfl
      isplitl [HS0]
      · iexists _; isplitr; swap; · iexact HS0
        ipureintro; rw [es]; exact e0
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0
    · sl_exec (disch := first | sl_exact hc1)
      sl_step
      iapply Hk
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      isplitl [H6]
      · iexists _; isplitr; · ipureintro; rfl
        iexact H6
      isplitl [H7]
      · iexists _; isplitr; · ipureintro; rfl
        iexact H7
      isplitl [H8]
      · iexists _; isplitr; swap; · iexact H8
        ipureintro; rw [es]; exact e8
      isplitl [H9]
      · iexists _, _; isplitr; swap; · iexact H9
        ipureintro; rfl
      isplitl [HS0]
      · iexists _; isplitr; swap; · iexact HS0
        ipureintro; rw [es]; exact e0
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0

end Cert.Proof.KernelIdeal
-- ==== Proof.Fr.lean ====
module

public import proofs.«01_k».proof.Proof.Body
public import Idealize.ShloMosaic.Lib.Claim

@[expose] public section

set_option maxRecDepth 16384

/-! What the state buffer and the output's block hold after each grid point, and the run of the whole call. -/

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

theorem liveAt0_8 (hO : Ok m) : ∀ t : Fin (cfgM m hO).N, (cfgM m hO).idle 8 (grid0.coords t) = false := fun _ => rfl

/-- The state a point starts from, given what the point before left. -/
def sIn (hO : Ok m) (c : Dev nD) (t : Fin (cfgM m hO).N) (prev : Vec F S4x128x256 .f32) : Vec F S4x128x256 .f32 :=
  stIn (grid0.coords t) (iblk m hO c 4 t) prev

/-- The state a point leaves, given what the point before left. -/
def sOut (hO : Ok m) (c : Dev nD) (t : Fin (cfgM m hO).N) (prev : Vec F S4x128x256 .f32) : Vec F S4x128x256 .f32 :=
  stS (iblk m hO c 1 t) (iblk m hO c 2 t) (iblk m hO c 3 t) (sIn m hO c t prev) 4

/-- The state after point `n`; before the first point the content plays no role, and a constant stands for it. -/
def stAt (hO : Ok m) (c : Dev nD) : (n : ℕ) → n < (cfgM m hO).N → Vec F S4x128x256 .f32
  | 0, h => sOut m hO c ⟨0, h⟩ (k0_pay1 (iblk m hO c 4 ⟨0, h⟩))
  | n + 1, h => sOut m hO c ⟨n + 1, h⟩ (stAt hO c n (Nat.lt_of_succ_lt h))

/-- What the point before `t` left. -/
def stBefore (hO : Ok m) (c : Dev nD) (t : Fin (cfgM m hO).N) : Vec F S4x128x256 .f32 :=
  if h : t.val = 0 then k0_pay1 (iblk m hO c 4 t) else stAt m hO c (t.val - 1) (by have := t.isLt; omega)

/-- The block of the output the point leaves. -/
def oAt (hO : Ok m) (c : Dev nD) (t : Fin (cfgM m hO).N) : Vec F S1x256x1024 .bf16 :=
  outV (flagOf c (grid0.coords t) (tbl m 0)) cix (iblk m hO c 0 t) (iblk m hO c 1 t) (iblk m hO c 2 t) (iblk m hO c 3 t) (iblk m hO c 5 t) (iblk m hO c 6 t) (iblk m hO c 7 t) (sIn m hO c t (stBefore m hO c t))

theorem stAt_eq (hO : Ok m) (c : Dev nD) (t : Fin (cfgM m hO).N) : stAt m hO c t.val t.isLt = sOut m hO c t (stBefore m hO c t) := by
  obtain ⟨n, hn⟩ := t
  cases n with
  | zero => simp only [stAt, stBefore, dif_pos]
  | succ n => simp only [stAt, stBefore, Nat.succ_ne_zero, dif_neg, not_false_eq_true]; rfl

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((stAt m hO c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((stAt m hO c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((stAt m hO c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) ∗ Pipeline.ΦT pre0 (tbl m) c) := by
  cases n with
  | zero => exact absurd rfl hz
  | succ n => rfl
/-- The second result is not read, so nothing is said of its blocks. -/
def forgets0 : Fin 10 → Bool := fun w => w.val == 9

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => oAt m hO c t
    | ⟨9, h⟩ => Pipeline.Dat.unnamed (cfg := (cfgM m hO)) ⟨9, h⟩ t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

theorem after0_8 (hO : Ok m) (c : Dev nD) (t : Fin (cfgM m hO).N) : (dats m hO 0 c).after 8 t = oAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d))

theorem coord_zero (hO : Ok m) (t : Fin (cfgM m hO).N) (hz : t.val = 0) : ((grid0.coords t) 1).val = 0 :=
  cond0_val _ ((hcond0_0 t).mpr (by omega))

set_option maxHeartbeats 14400000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  by_cases hz : t.val = 0
  · rw [PhiS_castSucc m hO c t, PhiS_zero m hO c _ _ hz, PhiT0_eq, PhiA0_eq]
    iintro ⟨⟨⟨⟨⟨%xs, HS0⟩, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have es : stIn (grid0.coords t) (iblk m hO c 4 t) xs = sIn m hO c t (stBefore m hO c t) := by
      unfold sIn stIn; rw [if_pos (coord_zero m hO t hz), if_pos (coord_zero m hO t hz)]
    iapply (body_run c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) xs (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HT0]; · iexact HT0
    rw [es, stAt_eq]
    iintro ⟨H0, H1, H2, H3, H4, H5, H6, H7, H8, H9, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_castSucc m hO c t, PhiS_pos m hO c _ _ hz, PhiT0_eq]
    rw [show stAt m hO c (t.val - 1) _ = stBefore m hO c t from by unfold stBefore; rw [dif_neg hz]]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have es : stIn (grid0.coords t) (iblk m hO c 4 t) (stBefore m hO c t) = sIn m hO c t (stBefore m hO c t) := rfl
    iapply (body_run c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (stBefore m hO c t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HT0]; · iexact HT0
    rw [es, stAt_eq]
    iintro ⟨H0, H1, H2, H3, H4, H5, H6, H7, H8, H9, HS0, HS1, HS2, HS3, HT0⟩
    isplitl [HS0 HS1 HS2 HS3 Hg HT0]
    · isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexact HS1
    isplitl [HS2]
    · iexact HS2
    iexact HS3
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Proof.KernelIdeal

end
-- ==== Proof.Same.lean ====
module

public import proofs.«01_k».proof.Defs
public import proofs.«01_k».proof.Proof.Fr
public import proofs.«01_k».proof.Proof.Gen.Kernel

@[expose] public section

/-! The two printed programs are the same text under two names, so the frame of one is the frame of the other. -/

set_option maxRecDepth 16384

noncomputable section

namespace Cert.Proof

open Idealize.ShloMosaic Idealize.ShloMosaic.TcCoe
open Idealize.SL Idealize.SL.Sem

set_option maxHeartbeats 4000000 in
theorem sig_eq : Cert.Kernel.sig = Cert.KernelIdeal.sig := rfl

set_option maxHeartbeats 4000000 in
theorem main_eq : Cert.Kernel.main (F := Bits) = (Cert.KernelIdeal.main (F := Bits)) := rfl

set_option maxHeartbeats 4000000 in
theorem pcfgs_eq : Cert.Kernel.pcfgs (F := Bits) = Cert.KernelIdeal.pcfgs (F := Bits) := rfl

set_option maxHeartbeats 4000000 in
theorem body_eq : @Cert.Kernel.cc0__gla_kernel Bits _ _ = @Cert.KernelIdeal.cc0__gla_kernel Bits _ _ := by
  delta Cert.Kernel.cc0__gla_kernel Cert.KernelIdeal.cc0__gla_kernel
  rfl

set_option maxHeartbeats 4000000 in
theorem defs₀_eq : Cert.Kernel.defs₀ (F := Bits) = (Cert.KernelIdeal.defs₀ (F := Bits)) := by
  unfold Cert.Kernel.defs₀ Cert.KernelIdeal.defs₀
  congr 1
  funext l a
  match l, a with
  | 0, (t, s) => dsimp only; rw [body_eq]; rfl
  | ⟨n + 1, h⟩, _ => exact absurd h (Nat.not_lt.2 (Nat.le_add_left _ _))

theorem defs_eq : Cert.Kernel.defs (F := Bits) = (Cert.KernelIdeal.defs (F := Bits)) := by
  unfold Cert.Kernel.defs Cert.KernelIdeal.defs
  rw [defs₀_eq]
  rfl

theorem kernel_frame : @Cert.quiescent_Kernel Cert.Kernel.Gen.facts := fun m ρ _ => by
  have h := Cert.Proof.KernelIdeal.frame (F := Bits) m ρ trivial
  rw [← defs_eq] at h
  exact h

theorem ideal_frame : @Cert.quiescent_KernelIdeal Cert.KernelIdeal.Gen.facts := fun m ρ _ => Cert.Proof.KernelIdeal.frame (F := Ideal) m ρ trivial

end Cert.Proof

end
-- ==== Proof.Val.lean ====
module

public import proofs.«01_k».proof.Proof.Fr

@[expose] public section

set_option maxRecDepth 16384

/-! Where each window's block lies in its array, and what the output array holds after the run. -/

noncomputable section

namespace Cert.Proof.KernelIdeal

open Cert.KernelIdeal Cert.KernelIdeal.Gen
open Idealize.ShloMosaic Idealize.ShloMosaic.TcCoe
open Idealize.ShloMosaic.Pipeline (Dat Cfg Window)

variable {F : FTy → Type} [FloatOps F]
local notation "𝕄" => MT nD τ sig Unit (Elt F) ℕ (UR sig nD τ) ℕ

variable (m : (ℓ : Loc nD τ sig) → Buf (Elt F) ℓ) (ρ : Dev nD → PrngReg) (hO : Ok m) (c : Dev nD)

/-! The printed index maps, decided over the grid: point `t` is tile `t % 16` of batch `t / 16`. -/
theorem ixf0 : ∀ t : Fin grid0.N, cc0_transform_0 (grid0.coords t) = ![t.val / 16, t.val % 16, 0] := by decide +kernel
theorem ixf1 : ∀ t : Fin grid0.N, cc0_transform_1 (grid0.coords t) = ![t.val / 16, t.val % 16, 0] := by decide +kernel
theorem ixf2 : ∀ t : Fin grid0.N, cc0_transform_2 (grid0.coords t) = ![t.val / 16, t.val % 16, 0] := by decide +kernel
theorem ixf3 : ∀ t : Fin grid0.N, cc0_transform_3 (grid0.coords t) = ![t.val / 16, t.val % 16, 0] := by decide +kernel
theorem ixf4 : ∀ t : Fin grid0.N, cc0_transform_4 (grid0.coords t) = ![t.val / 16, 0, 0, 0] := by decide +kernel
theorem ixf5 : ∀ t : Fin grid0.N, cc0_transform_5 (grid0.coords t) = ![t.val / 16, t.val % 16, 0] := by decide +kernel
theorem ixf6 : ∀ t : Fin grid0.N, cc0_transform_6 (grid0.coords t) = ![t.val / 16, t.val % 16, 0] := by decide +kernel
theorem ixf7 : ∀ t : Fin grid0.N, cc0_transform_7 (grid0.coords t) = ![0, 0] := by decide +kernel
theorem ixf8 : ∀ t : Fin grid0.N, cc0_transform_8 (grid0.coords t) = ![t.val / 16, t.val % 16, 0] := by decide +kernel
theorem coord1 : ∀ t : Fin grid0.N, (grid0.coords t 1).val = t.val % 16 := by decide +kernel
theorem flush8 (t : Fin (cfgM m hO).N) : ((cfgM m hO).win 8).flush t = true :=
  (by decide +kernel : ∀ t : Fin grid0.N, Pipeline.Window.flushOf grid0 true cc0_transform_8 t = true) t

theorem t_lt (t : Fin (cfgM m hO).N) : t.val < 128 := lt_of_lt_of_eq t.isLt N_0

/-- Index `i` of the output lies in the block of this point. -/
def ptOf (i : S8x4096x1024.Idx) : Fin (cfgM m hO).N :=
  ⟨16 * (i 0).val + (i 1).val / 256, by
    have h0 : (i 0).val < 8 := (i 0).isLt
    have h1 : (i 1).val < 4096 := (i 1).isLt
    exact lt_of_lt_of_eq (by omega) N_0.symm⟩

/-- What the output array ends holding. -/
def G8 : Buf (Elt F) ((c : Thread nD τ).loc main_v0_0) := fun i =>
  oAt m hO c (ptOf m hO i) (ValueIdx.ix3 0 ⟨(i 1).val % 256, Nat.mod_lt _ (by decide)⟩ (i 2))

theorem ext3 {a b d : ℕ} (p q : (⟨3, ![a, b, d]⟩ : Shape).Idx) (h0 : (p 0).val = (q 0).val) (h1 : (p 1).val = (q 1).val)
    (h2 : (p 2).val = (q 2).val) : p = q := by
  funext i
  match i with
  | 0 => exact Fin.ext h0
  | 1 => exact Fin.ext h1
  | 2 => exact Fin.ext h2

/-- Cell `y` of a point's block, in the output array. -/
def at8 (t : Fin (cfgM m hO).N) (y : S1x256x1024.Idx) : S8x4096x1024.Idx :=
  (ValueIdx.ix3 ⟨t.val / 16, by have := t_lt m hO t; omega⟩
    ⟨256 * (t.val % 16) + (y 1).val, by have : (y 1).val < 256 := (y 1).isLt; omega⟩ ⟨(y 2).val, (y 2).isLt⟩ : (⟨3, ![8, 4096, 1024]⟩ : Shape).Idx)

theorem emb8 (t : Fin (cfgM m hO).N) (y : S1x256x1024.Idx) :
    ((((cfgM m hO).win 8).blk t).view.emb y : S8x4096x1024.Idx) = at8 m hO t y := by
  have h := ixf8 t
  refine ext3 _ _ ?_ ?_ ?_
  · have e : cc0_transform_8 (grid0.coords t) 0 = t.val / 16 := congrFun h 0
    have hy : (y 0).val < 1 := (y 0).isLt
    show cc0_transform_8 (grid0.coords t) 0 * 1 + 1 * (y 0).val = t.val / 16
    rw [e]; omega
  · have e : cc0_transform_8 (grid0.coords t) 1 = t.val % 16 := congrFun h 1
    show cc0_transform_8 (grid0.coords t) 1 * 256 + 1 * (y 1).val = 256 * (t.val % 16) + (y 1).val
    rw [e]; omega
  · have e : cc0_transform_8 (grid0.coords t) 2 = 0 := congrFun h 2
    show cc0_transform_8 (grid0.coords t) 2 * 1024 + 1 * (y 2).val = (y 2).val
    rw [e]; omega

theorem block8 (t : Fin (cfgM m hO).N) (y : S1x256x1024.Idx) :
    oAt m hO c t y = G8 m hO c ((((cfgM m hO).win 8).blk t).view.emb y) := by
  have hy0 : (y 0).val < 1 := (y 0).isLt
  have hy1 : (y 1).val < 256 := (y 1).isLt
  rw [emb8 m hO t y]
  have hp : ptOf m hO (at8 m hO t y) = t :=
    Fin.ext (show 16 * (t.val / 16) + (256 * (t.val % 16) + (y 1).val) / 256 = t.val by omega)
  show oAt m hO c t y = oAt m hO c (ptOf m hO (at8 m hO t y)) _
  rw [hp]
  refine congrArg (oAt m hO c t) (ext3 _ _ ?_ ?_ ?_)
  · show (y 0).val = 0; omega
  · show (y 1).val = (256 * (t.val % 16) + (y 1).val) % 256; omega
  · rfl

theorem flushed8 (t : Fin (cfgM m hO).N) :
    (dats m hO 0 c).flushed 8 t = (((cfgM m hO).win 8).blk t).view.read (Elt F) (G8 m hO c) := by
  show ((cfgM m hO).win 8).cut (grid0.coords t) ((dats m hO 0 c).after 8 t) = _
  rw [after0_8]
  exact funext fun y => block8 m hO c t y

theorem cover8 (i : S8x4096x1024.Idx) : ∃ t : Fin (cfgM m hO).N, ∃ y : S1x256x1024.Idx,
    ((((cfgM m hO).win 8).blk t).view.emb y : S8x4096x1024.Idx) = i := by
  have h0 : (i 0).val < 8 := (i 0).isLt
  have h1 : (i 1).val < 4096 := (i 1).isLt
  refine ⟨ptOf m hO i, ValueIdx.ix3 0 ⟨(i 1).val % 256, Nat.mod_lt _ (by decide)⟩ (i 2), ?_⟩
  refine (emb8 m hO (ptOf m hO i) _).trans (ext3 _ _ ?_ ?_ ?_)
  · show (16 * (i 0).val + (i 1).val / 256) / 16 = (i 0).val; omega
  · show 256 * ((16 * (i 0).val + (i 1).val / 256) % 16) + (i 1).val % 256 = (i 1).val; omega
  · rfl

theorem final8 : (dats m hO 0 c).arrAt 8 (cfgM m hO).N = G8 m hO c :=
  (dats m hO 0 c).arrAt_eq_of_cover 8 _ (fun t _ => flushed8 m hO c t) (fun i => by
    obtain ⟨t, y, h⟩ := cover8 m hO i
    exact ⟨t, flush8 m hO t, List.mem_map.mpr ⟨y, Shape.mem_idxList _ y, h⟩⟩)

/-- The run: the output array's contents, and the arguments unchanged. -/
theorem run_value : θ_run defs (onTc (τ := τ) (main (F := F))) ⟨m, fun _ => 0, ρ⟩ (fun r => ∀ c : Dev nD,
      r.2.mem ((c.tc : Thread nD τ).loc main_v0_0) = G8 m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (unchanged m ρ hO) (run_main m ρ hO))
  have h1 := h.1 c
  refine ⟨?_, h1⟩
  have h2 := (h.2 c).1 8
  exact (((dats m hO 0 c).toRForget_arrAt_iff (fgt := forgets0) rfl _ _).mp h2).trans (final8 m hO c)

end Cert.Proof.KernelIdeal
-- ==== Proof.Row.lean ====
module

public import Idealize.ShloMosaic.Lib.Pointwise

@[expose] public section

/-! The gated linear attention of one head, chunk by chunk, over the extended reals: the state a chunk leaves, the
scores within a chunk, the output rows, and the normalised and gated result. Written of the arrays alone. -/

noncomputable section

namespace Cert.Proof.Gla

open Idealize.ShloMosaic

/-- Queries, keys or accumulated decays of a chunk. -/
abbrev KC := Fin 64 → Fin 128 → EReal
/-- Values of a chunk. -/
abbrev VC := Fin 64 → Fin 256 → EReal
/-- A head's state. -/
abbrev SC := Fin 128 → Fin 256 → EReal
/-- An array of key width. -/
abbrev KA := (⟨3, ![8, 4096, 512]⟩ : Shape).Idx → EReal
/-- An array of value width. -/
abbrev VA := (⟨3, ![8, 4096, 1024]⟩ : Shape).Idx → EReal
/-- The states of all heads. -/
abbrev SA := (⟨4, ![8, 4, 128, 256]⟩ : Shape).Idx → EReal

/-- The state after a chunk. -/
def nextS (k b : KC) (v : VC) (s : SC) : SC := fun d w =>
  Ideal.exp (b 63 d) * s d w + ∑ j, k j d * Ideal.exp (b 63 d - b j d) * v j w

/-- The score of token `j` for token `i`. -/
def score (q k b : KC) (i j : Fin 64) : EReal := if j ≤ i then ∑ d, q i d * k j d * Ideal.exp (b i d - b j d) else 0

/-- The output row of token `i`: what the chunk itself gives and what the state gives. -/
def outRow (q k b : KC) (v : VC) (s : SC) (i : Fin 64) (w : Fin 256) : EReal :=
  ∑ j, score q k b i j * v j w + ∑ d, q i d * Ideal.exp (b i d) * s d w

/-- The row normalised, scaled and gated. -/
def gated (y g z : Fin 256 → EReal) (w : Fin 256) : EReal :=
  y w * Ideal.rsqrt (Ideal.div (∑ u, y u * y u) (Ideal.ofBits FTy.f32 1132462080#32) + Ideal.ofBits FTy.f32 897988541#32) * g w
    * (z w * Ideal.logistic (z w))

/-- Chunk `n`, head `h` of batch `β`. -/
def kc (x : KA) (β : Fin 8) (n : Fin 64) (h : Fin 4) : KC := fun i d =>
  x (ix3 β ⟨64 * n.val + i.val, by omega⟩ ⟨128 * h.val + d.val, by omega⟩)
def vc (x : VA) (β : Fin 8) (n : Fin 64) (h : Fin 4) : VC := fun i w =>
  x (ix3 β ⟨64 * n.val + i.val, by omega⟩ ⟨256 * h.val + w.val, by omega⟩)

/-- The state before chunk `n`. -/
def stateAt (k b : KA) (v : VA) (s0 : SA) (β : Fin 8) (h : Fin 4) : ℕ → SC
  | 0 => fun d w => s0 (ix4 β h d w)
  | n + 1 => if hn : n < 64 then nextS (kc k β ⟨n, hn⟩ h) (kc b β ⟨n, hn⟩ h) (vc v β ⟨n, hn⟩ h) (stateAt k b v s0 β h n) else stateAt k b v s0 β h n

/-- The attention's output at a token. -/
def attn (q k b : KA) (v : VA) (s0 : SA) (β : Fin 8) (n : Fin 64) (h : Fin 4) : VC :=
  outRow (kc q β n h) (kc k β n h) (kc b β n h) (vc v β n h) (stateAt k b v s0 β h n)

/-- The result at a token. -/
def result (q k b : KA) (v : VA) (s0 : SA) (o z : VA) (g : Fin 256 → EReal) (β : Fin 8) (n : Fin 64) (h : Fin 4) (i : Fin 64) : Fin 256 → EReal :=
  gated (fun w => attn q k b v s0 β n h i w + vc o β n h i w) g (vc z β n h i)

end Cert.Proof.Gla
-- ==== Proof.KMath.lean ====
module

public import proofs.«01_k».proof.Proof.Head
public import proofs.«01_k».proof.Proof.Row

@[expose] public section

/-! One chunk and head of the kernel at the extended reals: its state and its output rows are the attention's. -/

noncomputable section

namespace Cert.Proof.KernelIdeal

open Cert.KernelIdeal Cert.KernelIdeal.Gen Cert.Proof.Gla
open Idealize.ShloMosaic

/-- A block of one chunk and head as rows. -/
abbrev kr (x : S1x64x128.Idx → EReal) : KC := fun i d => x (ix3 0 i d)
abbrev vr (x : S1x64x256.Idx → EReal) : VC := fun i w => x (ix3 0 i w)
abbrev sr (x : S1x128x256.Idx → EReal) : SC := fun d w => x (ix3 0 d w)

theorem headState_apply (k : Vec Ideal S1x64x128 .bf16) (v : Vec Ideal S1x64x256 .bf16) (b : Vec Ideal S1x64x128 .f32) (s : Vec Ideal S1x128x256 .f32)
    (d : Fin 128) (w : Fin 256) : headState k v b s (ix3 0 d w) = nextS (kr k) (kr b) (vr v) (sr s) d w := by
  pointwise [headState, k0_pay10, k0_pay6, k0_pay7, k0_pay8, k0_pay9, nextS]

/-- The decay between two tokens is the quotient of their own, whatever the two are. -/
theorem exp_split (x y : EReal) : Ideal.exp x * Ideal.exp (0 - y) = Ideal.exp (x - y) := by
  induction x using EReal.rec <;> induction y using EReal.rec
  case coe.coe x y =>
    show ((Real.exp x : ℝ) : EReal) * Ideal.exp (((0 : ℝ) : EReal) - y) = Ideal.exp ((x : EReal) - y)
    rw [← EReal.coe_sub, ← EReal.coe_sub]
    show ((Real.exp x : ℝ) : EReal) * ((Real.exp (0 - y) : ℝ) : EReal) = ((Real.exp (x - y) : ℝ) : EReal)
    rw [← EReal.coe_mul, ← Real.exp_add]
    congr 2; ring
  case coe.top x => simp
  case coe.bot x =>
    show ((Real.exp x : ℝ) : EReal) * ⊤ = ⊤
    exact EReal.coe_mul_top_of_pos (Real.exp_pos x)
  case top.coe y =>
    show (⊤ : EReal) * Ideal.exp (((0 : ℝ) : EReal) - y) = Ideal.exp (⊤ - (y : EReal))
    rw [← EReal.coe_sub, EReal.top_sub_coe]
    show (⊤ : EReal) * ((Real.exp (0 - y) : ℝ) : EReal) = ⊤
    exact EReal.top_mul_coe_of_pos (Real.exp_pos _)
  all_goals simp

theorem plain_apply (q k : Vec Ideal S1x64x128 .bf16) (b : Vec Ideal S1x64x128 .f32) (i j : Fin 64) (hj : j ≤ i) :
    scoresPlain q k b (ix2 i j) = score (kr q) (kr k) (kr b) i j := by
  pointwise [scoresPlain, k0_pay12, k0_pay11, k0_pay6, k0_pay8, k0_pay5, score]
  rw [if_pos hj]
  refine Finset.sum_congr rfl fun d _ => ?_
  show q (ix3 0 i d) * Ideal.exp (b (ix3 0 i d)) * (k (ix3 0 j d) * Ideal.exp (0 - b (ix3 0 j d))) = q (ix3 0 i d) * k (ix3 0 j d) * Ideal.exp (b (ix3 0 i d) - b (ix3 0 j d))
  rw [mul_mul_mul_comm, exp_split]

/-- In a chunk the accumulated decays do not grow. -/
def Falls (b : KC) : Prop := ∀ (i j : Fin 64) (d : Fin 128), j ≤ i → b i d ≤ b j d

/-- One column put down. -/
theorem col_apply (v9 : IVec S64x64 32) (q b : FVec Ideal S64x128 .f32) (n : Fin k0_t2_loop.trips) (a : FVec Ideal S64x64 .f32) (k' b' : Vec Ideal S1x128 .f32) (i j : Fin 64) :
    k0_pay16 v9 q b n a k' b' (ix2 i j) = Scalar.select (IntOp.cmpi CmpIPredicate.eq (v9 (ix2 i j)) (Scf.iv 0#32 1#32 n.val))
      (∑ d : Fin 128, q (ix2 i d) * k' (ix2 0 d) * Ideal.exp (min (b (ix2 i d) - b' (ix2 0 d)) 0)) (a (ix2 i j)) := by
  pointwise [k0_pay16]

theorem word_eq (j : Fin 64) (n : ℕ) (hn : n < 64) : IntOp.cmpi CmpIPredicate.eq (BitVec.ofNat 32 j.val) (Scf.iv 0#32 1#32 n) = if j.val = n then 1#1 else 0#1 := by
  revert j
  have : ∀ (n j : Fin 64), IntOp.cmpi CmpIPredicate.eq (BitVec.ofNat 32 j.val) (Scf.iv 0#32 1#32 n.val) = if j.val = n.val then 1#1 else 0#1 := by decide +kernel
  exact this ⟨n, hn⟩

/-- The columns put down so far are there. -/
theorem cols_apply (v9 : IVec S64x64 32) (h9 : ∀ i j : Fin 64, v9 (ix2 i j) = BitVec.ofNat 32 j.val) (q b : FVec Ideal S64x128 .f32) (K B : Vec Ideal S64x128 .f32)
    (a : FVec Ideal S64x64 .f32) (i j : Fin 64) : ∀ n ≤ 64, j.val < n →
      cols v9 q b K B a n (ix2 i j) = ∑ d : Fin 128, q (ix2 i d) * K (ix2 j d) * Ideal.exp (min (b (ix2 i d) - B (ix2 j d)) 0)
  | 0, _, h => absurd h (Nat.not_lt_zero _)
  | n + 1, hn, h => by
    have hn' : n < 64 := hn
    rw [cols, dif_pos hn', col_apply, h9, word_eq j n hn']
    by_cases e : j.val = n
    · rw [if_pos e]
      show (∑ d : Fin 128, q (ix2 i d) * brow K n hn' (ix2 0 d) * Ideal.exp (min (b (ix2 i d) - brow B n hn' (ix2 0 d)) 0)) = _
      refine Finset.sum_congr rfl fun d _ => ?_
      have eb : ∀ x : Vec Ideal S64x128 .f32, brow x n hn' (ix2 0 d) = x (ix2 j d) := by
        intro x
        refine congrArg x (funext fun a => ?_)
        match a with
        | 0 => exact Fin.ext (show n + 1 * 0 = j.val by omega)
        | 1 => exact Fin.ext (show 0 + 1 * d.val = d.val by omega)
      rw [eb, eb]
    · rw [if_neg e]
      exact cols_apply v9 h9 q b K B a i j n (Nat.le_of_lt hn') (by omega)

theorem exact_apply (v9 : IVec S64x64 32) (h9 : ∀ i j : Fin 64, v9 (ix2 i j) = BitVec.ofNat 32 j.val) (q k : Vec Ideal S1x64x128 .bf16) (b : Vec Ideal S1x64x128 .f32)
    (hb : Falls (kr b)) (i j : Fin 64) (hj : j ≤ i) : scoresExact v9 q k b (ix2 i j) = score (kr q) (kr k) (kr b) i j := by
  rw [score, if_pos hj]
  have e : scoresExact v9 q k b (ix2 i j) = cols v9 (k0_pay5 q) (k0_pay8 b) (k0_pay13 (k0_pay6 k)) (k0_pay14 (k0_pay8 b)) k0_pay15 64 (ix2 i j) := by
    pointwise [scoresExact, k0_pay17]
  rw [e, cols_apply v9 h9 _ _ _ _ _ i j 64 (Nat.le_refl _) j.isLt]
  pointwise [k0_pay5, k0_pay6, k0_pay8, k0_pay13, k0_pay14]
  refine Finset.sum_congr rfl fun d _ => ?_
  rw [min_eq_left]
  have := hb i j d hj
  exact EReal.sub_nonpos.mpr this

theorem word_sle : ∀ i j : Fin 64, IntOp.cmpi CmpIPredicate.sle (BitVec.ofNat 32 j.val) (BitVec.ofNat 32 i.val) = if j ≤ i then 1#1 else 0#1 := by decide +kernel

/-- A head's output rows, of scores that are the attention's where they are kept. -/
theorem headOut_apply (q k : Vec Ideal S1x64x128 .bf16) (v : Vec Ideal S1x64x256 .bf16) (b : Vec Ideal S1x64x128 .f32) (s : Vec Ideal S1x128x256 .f32)
    (sc : Vec Ideal S64x64 .f32) (hs : ∀ i j : Fin 64, j ≤ i → sc (ix2 i j) = score (kr q) (kr k) (kr b) i j)
    (o : Vec Ideal S1x64x256 .f32) (g : Vec Ideal S1x256 .f32) (z : Vec Ideal S1x64x256 .bf16) (i : Fin 64) (w : Fin 256) :
    headOut q v b s sc o g z (ix3 0 i w)
      = gated (fun w => outRow (kr q) (kr k) (kr b) (vr v) (sr s) i w + o (ix3 0 i w)) (fun w => g (ix2 0 w)) (vr z i) w := by
  have e : ∀ x : Fin 256, (∑ j, Scalar.select (IntOp.cmpi CmpIPredicate.sle (BitVec.ofNat 32 j.val) (BitVec.ofNat 32 i.val)) (sc (ix2 i j) * v (ix3 0 j x)) 0)
      = ∑ j, score (kr q) (kr k) (kr b) i j * v (ix3 0 j x) := by
    intro x
    refine Finset.sum_congr rfl fun j _ => ?_
    rw [word_sle]
    by_cases h : j ≤ i
    · rw [if_pos h, hs i j h]; rfl
    · rw [if_neg h, score, if_neg h, zero_mul]; rfl
  pointwise [headOut, k0_pay18, k0_pay11, k0_pay5, k0_pay8, k0_pay2, k0_pay7, k0_pay9, gated, outRow]
  simp only [e]

end Cert.Proof.KernelIdeal
-- ==== Proof.KArr.lean ====
module

public import proofs.«01_k».proof.Proof.Val
public import proofs.«01_k».proof.Proof.KMath
public import proofs.«01_k».proof.Pre_decays_fall

@[expose] public section

set_option maxRecDepth 16384

/-! What the output array holds over the extended reals: the gated linear attention, normalised and gated. The state
carried from point to point is the attention's state before the tile's first chunk. -/

noncomputable section

namespace Cert.Proof.KernelIdeal

open Cert.KernelIdeal Cert.KernelIdeal.Gen Cert.Proof.Gla
open Idealize.ShloMosaic Idealize.ShloMosaic.TcCoe

variable (m : (ℓ : Loc nD τ sig) → Buf (Elt Ideal) ℓ) (hO : Ok m) (c : Dev nD)

abbrev aQ : KA := m ((c.tc : Thread nD τ).loc main_arg1)
abbrev aK : KA := m ((c.tc : Thread nD τ).loc main_arg2)
abbrev aV : VA := m ((c.tc : Thread nD τ).loc main_arg3)
abbrev aB : KA := m ((c.tc : Thread nD τ).loc main_arg4)
abbrev aS : SA := m ((c.tc : Thread nD τ).loc main_arg5)
abbrev aO : VA := m ((c.tc : Thread nD τ).loc main_arg6)
abbrev aZ : VA := m ((c.tc : Thread nD τ).loc main_arg7)
abbrev aG : Fin 256 → EReal := fun w => m ((c.tc : Thread nD τ).loc main_arg8) (ix2 0 w)

abbrev bat (t : Fin (cfgM m hO).N) : Fin 8 := ⟨t.val / 16, by have := t_lt m hO t; omega⟩
abbrev tok (t : Fin (cfgM m hO).N) (r : Fin 256) : Fin 4096 := ⟨256 * (t.val % 16) + r.val, by omega⟩

/-! The blocks are the arrays' own cells. -/
theorem tile_eq {n : ℕ} (A : (⟨3, ![8, 4096, n]⟩ : Shape).Idx → EReal) (t : Fin (cfgM m hO).N) (f : Fin 3 → ℕ) (hf : f = ![t.val / 16, t.val % 16, 0])
    (p : (⟨3, ![8, 4096, n]⟩ : Shape).Idx) (r : Fin 256) (l : Fin n) (h0 : (p 0).val = f 0 * 1 + 1 * 0) (h1 : (p 1).val = f 1 * 256 + 1 * r.val)
    (h2 : (p 2).val = f 2 * n + 1 * l.val) : A p = A (ix3 (bat m hO t) (tok m hO t r) l) := by
  subst hf
  refine congrArg A (ext3 _ _ ?_ ?_ ?_)
  · rw [h0]; show t.val / 16 * 1 + 1 * 0 = t.val / 16; omega
  · rw [h1]; show t.val % 16 * 256 + 1 * r.val = 256 * (t.val % 16) + r.val; omega
  · rw [h2]; show 0 * n + 1 * l.val = l.val; omega

theorem blk0 (t : Fin (cfgM m hO).N) (r : Fin 256) (l : Fin 512) :
    (iblk m hO c 0 t : S1x256x512.Idx → EReal) (ix3 0 r l) = aQ m c (ix3 (bat m hO t) (tok m hO t r) l) :=
  tile_eq m hO (aQ m c) t _ (ixf0 t) _ r l rfl rfl rfl

theorem blk1 (t : Fin (cfgM m hO).N) (r : Fin 256) (l : Fin 512) :
    (iblk m hO c 1 t : S1x256x512.Idx → EReal) (ix3 0 r l) = aK m c (ix3 (bat m hO t) (tok m hO t r) l) :=
  tile_eq m hO (aK m c) t _ (ixf1 t) _ r l rfl rfl rfl

theorem blk2 (t : Fin (cfgM m hO).N) (r : Fin 256) (l : Fin 1024) :
    (iblk m hO c 2 t : S1x256x1024.Idx → EReal) (ix3 0 r l) = aV m c (ix3 (bat m hO t) (tok m hO t r) l) :=
  tile_eq m hO (aV m c) t _ (ixf2 t) _ r l rfl rfl rfl

theorem blk3 (t : Fin (cfgM m hO).N) (r : Fin 256) (l : Fin 512) :
    (iblk m hO c 3 t : S1x256x512.Idx → EReal) (ix3 0 r l) = aB m c (ix3 (bat m hO t) (tok m hO t r) l) :=
  tile_eq m hO (aB m c) t _ (ixf3 t) _ r l rfl rfl rfl

theorem blk5 (t : Fin (cfgM m hO).N) (r : Fin 256) (l : Fin 1024) :
    (iblk m hO c 5 t : S1x256x1024.Idx → EReal) (ix3 0 r l) = aO m c (ix3 (bat m hO t) (tok m hO t r) l) :=
  tile_eq m hO (aO m c) t _ (ixf5 t) _ r l rfl rfl rfl

theorem blk6 (t : Fin (cfgM m hO).N) (r : Fin 256) (l : Fin 1024) :
    (iblk m hO c 6 t : S1x256x1024.Idx → EReal) (ix3 0 r l) = aZ m c (ix3 (bat m hO t) (tok m hO t r) l) :=
  tile_eq m hO (aZ m c) t _ (ixf6 t) _ r l rfl rfl rfl

theorem blk7 (t : Fin (cfgM m hO).N) (w : Fin 256) :
    (iblk m hO c 7 t : S1x256.Idx → EReal) (ix2 0 w) = aG m c w := by
  have h := ixf7 t
  refine congrArg (m ((c.tc : Thread nD τ).loc main_arg8) : S1x256.Idx → EReal) (funext fun (a : Fin 2) => ?_)
  match a with
  | 0 =>
    refine Fin.ext ?_
    show cc0_transform_7 (grid0.coords t) 0 * 1 + 1 * 0 = 0
    rw [h]; rfl
  | 1 =>
    refine Fin.ext ?_
    show cc0_transform_7 (grid0.coords t) 1 * 256 + 1 * w.val = w.val
    rw [h]; show 0 * 256 + 1 * w.val = w.val; omega

theorem blk4 (t : Fin (cfgM m hO).N) (h : Fin 4) (d : Fin 128) (w : Fin 256) :
    (iblk m hO c 4 t : S1x4x128x256.Idx → EReal) (ix4 0 h d w) = aS m c (ix4 (bat m hO t) h d w) := by
  have e := ixf4 t
  refine congrArg (aS m c) (funext fun (a : Fin 4) => ?_)
  match a with
  | 0 =>
    refine Fin.ext ?_
    show cc0_transform_4 (grid0.coords t) 0 * 1 + 1 * 0 = t.val / 16
    rw [e]; show t.val / 16 * 1 + 1 * 0 = t.val / 16; omega
  | 1 =>
    refine Fin.ext ?_
    show cc0_transform_4 (grid0.coords t) 1 * 4 + 1 * h.val = h.val
    rw [e]; show 0 * 4 + 1 * h.val = h.val; omega
  | 2 =>
    refine Fin.ext ?_
    show cc0_transform_4 (grid0.coords t) 2 * 128 + 1 * d.val = d.val
    rw [e]; show 0 * 128 + 1 * d.val = d.val; omega
  | 3 =>
    refine Fin.ext ?_
    show cc0_transform_4 (grid0.coords t) 3 * 256 + 1 * w.val = w.val
    rw [e]; show 0 * 256 + 1 * w.val = w.val; omega

/-! Chunk `k` of a tile, for one head, is chunk `4 * tile + k` of the batch. -/
abbrev chk (t : Fin (cfgM m hO).N) (k : Fin 4) : Fin 64 := ⟨4 * (t.val % 16) + k.val, by omega⟩

theorem bk_apply {e : EltTy} (x : Vec Ideal S1x256x512 e) (k h : Fin 4) (i : Fin 64) (d : Fin 128) :
    bk x k h (ix3 0 i d) = x (ix3 0 ⟨64 * k.val + i.val, by omega⟩ ⟨128 * h.val + d.val, by omega⟩) :=
  congrArg x (ext3 _ _ rfl (congrArg (64 * k.val + ·) (Nat.one_mul i.val)) (congrArg (128 * h.val + ·) (Nat.one_mul d.val)))

theorem bv_apply {e : EltTy} (x : Vec Ideal S1x256x1024 e) (k h : Fin 4) (i : Fin 64) (w : Fin 256) :
    bv x k h (ix3 0 i w) = x (ix3 0 ⟨64 * k.val + i.val, by omega⟩ ⟨256 * h.val + w.val, by omega⟩) :=
  congrArg x (ext3 _ _ rfl (congrArg (64 * k.val + ·) (Nat.one_mul i.val)) (congrArg (256 * h.val + ·) (Nat.one_mul w.val)))

theorem bs_apply (s : Vec Ideal S4x128x256 .f32) (h : Fin 4) : sr (bs s h) = fun d w => s (ix3 h d w) :=
  funext fun d => funext fun w => congrArg s (ext3 _ _ rfl
    (show 0 + 1 * d.val = d.val by omega) (show 0 + 1 * w.val = w.val by omega))

theorem tok_eq (t : Fin (cfgM m hO).N) (k : Fin 4) (i : Fin 64) :
    tok m hO t ⟨64 * k.val + i.val, by omega⟩ = ⟨64 * (chk m hO t k).val + i.val, by have := (chk m hO t k).isLt; omega⟩ :=
  Fin.ext (show 256 * (t.val % 16) + (64 * k.val + i.val) = 64 * (4 * (t.val % 16) + k.val) + i.val by omega)

theorem krQ (t : Fin (cfgM m hO).N) (k h : Fin 4) : kr (bk (iblk m hO c 0 t : Vec Ideal S1x256x512 .bf16) k h) = kc (aQ m c) (bat m hO t) (chk m hO t k) h :=
  funext fun i => funext fun d => (bk_apply _ k h i d).trans ((blk0 m hO c t _ _).trans (by rw [tok_eq]; rfl))
theorem krK (t : Fin (cfgM m hO).N) (k h : Fin 4) : kr (bk (iblk m hO c 1 t : Vec Ideal S1x256x512 .bf16) k h) = kc (aK m c) (bat m hO t) (chk m hO t k) h :=
  funext fun i => funext fun d => (bk_apply _ k h i d).trans ((blk1 m hO c t _ _).trans (by rw [tok_eq]; rfl))
theorem krB (t : Fin (cfgM m hO).N) (k h : Fin 4) : kr (bk (iblk m hO c 3 t : Vec Ideal S1x256x512 .f32) k h) = kc (aB m c) (bat m hO t) (chk m hO t k) h :=
  funext fun i => funext fun d => (bk_apply _ k h i d).trans ((blk3 m hO c t _ _).trans (by rw [tok_eq]; rfl))
theorem vrV (t : Fin (cfgM m hO).N) (k h : Fin 4) : vr (bv (iblk m hO c 2 t : Vec Ideal S1x256x1024 .bf16) k h) = vc (aV m c) (bat m hO t) (chk m hO t k) h :=
  funext fun i => funext fun w => (bv_apply _ k h i w).trans ((blk2 m hO c t _ _).trans (by rw [tok_eq]; rfl))
theorem vrO (t : Fin (cfgM m hO).N) (k h : Fin 4) : vr (bv (iblk m hO c 5 t : Vec Ideal S1x256x1024 .f32) k h) = vc (aO m c) (bat m hO t) (chk m hO t k) h :=
  funext fun i => funext fun w => (bv_apply _ k h i w).trans ((blk5 m hO c t _ _).trans (by rw [tok_eq]; rfl))
theorem vrZ (t : Fin (cfgM m hO).N) (k h : Fin 4) : vr (bv (iblk m hO c 6 t : Vec Ideal S1x256x1024 .bf16) k h) = vc (aZ m c) (bat m hO t) (chk m hO t k) h :=
  funext fun i => funext fun w => (bv_apply _ k h i w).trans ((blk6 m hO c t _ _).trans (by rw [tok_eq]; rfl))

/-- The attention's state of a head before a chunk. -/
abbrev stR (β : Fin 8) (h : Fin 4) (n : ℕ) : SC := stateAt (aK m c) (aB m c) (aV m c) (aS m c) β h n

/-- A state buffer holding the attention's states before chunk `n`. -/
def Holds (s : Vec Ideal S4x128x256 .f32) (β : Fin 8) (n : ℕ) : Prop := ∀ h : Fin 4, (fun d w => s (ix3 h d w)) = stR m c β h n

theorem stepS_apply (x1 : Vec Ideal S1x256x512 .bf16) (x2 : Vec Ideal S1x256x1024 .bf16) (x3 : Vec Ideal S1x256x512 .f32) (k : Fin 4)
    (s : Vec Ideal S4x128x256 .f32) (h : Fin 4) : (fun d w => stepS x1 x2 x3 k s (ix3 h d w))
      = nextS (kr (bk x1 k h)) (kr (bk x3 k h)) (vr (bv x2 k h)) (fun d w => s (ix3 h d w)) :=
  funext fun d => funext fun w => (headState_apply (bk x1 k h) (bv x2 k h) (bk x3 k h) (bs s h) d w).trans (by rw [bs_apply])

theorem nextS_eq {k k' b b' : KC} {v v' : VC} {s s' : SC} (hk : k = k') (hb : b = b') (hv : v = v') (hs : s = s') : nextS k b v s = nextS k' b' v' s' := by
  subst hk hb hv hs; rfl

/-- Over a tile's chunks the buffer follows the attention's states. -/
theorem stS_holds (t : Fin (cfgM m hO).N) (s : Vec Ideal S4x128x256 .f32) (hs : Holds m c s (bat m hO t) (4 * (t.val % 16))) :
    ∀ j ≤ 4, Holds m c (stS (iblk m hO c 1 t) (iblk m hO c 2 t) (iblk m hO c 3 t) s j) (bat m hO t) (4 * (t.val % 16) + j)
  | 0, _ => hs
  | j + 1, hj => by
    have ih := stS_holds t s hs j (by omega)
    intro h
    have hn : 4 * (t.val % 16) + j < 64 := by omega
    have hj4 : j < 4 := by omega
    have e : stR m c (bat m hO t) h (4 * (t.val % 16) + (j + 1)) = nextS (kc (aK m c) (bat m hO t) ⟨4 * (t.val % 16) + j, hn⟩ h)
        (kc (aB m c) (bat m hO t) ⟨4 * (t.val % 16) + j, hn⟩ h) (vc (aV m c) (bat m hO t) ⟨4 * (t.val % 16) + j, hn⟩ h) (stR m c (bat m hO t) h (4 * (t.val % 16) + j)) := by
      show stateAt _ _ _ _ _ _ ((4 * (t.val % 16) + j) + 1) = _
      rw [stateAt, dif_pos hn]
    refine Eq.trans ?_ e.symm
    refine (congrArg (fun (S : Vec Ideal S4x128x256 .f32) (d : Fin 128) (w : Fin 256) => S (ix3 h d w)) (stS_succ _ _ _ _ ⟨j, hj4⟩)).trans ?_
    refine (stepS_apply _ _ _ ⟨j, hj4⟩ _ h).trans ?_
    exact nextS_eq (krK m hO c t ⟨j, hj4⟩ h) (krB m hO c t ⟨j, hj4⟩ h) (vrV m hO c t ⟨j, hj4⟩ h) (ih h)

theorem first_holds (t : Fin (cfgM m hO).N) (ht : t.val % 16 = 0) : Holds m c (k0_pay1 (iblk m hO c 4 t)) (bat m hO t) (4 * (t.val % 16)) := by
  intro h
  rw [ht]
  refine funext fun d => funext fun w => ?_
  refine Eq.trans ?_ (blk4 m hO c t h d w)
  pointwise [k0_pay1]

/-- A tile starts from the attention's state. -/
theorem sIn_holds (t : Fin (cfgM m hO).N) (prev : Vec Ideal S4x128x256 .f32)
    (hp : t.val % 16 ≠ 0 → Holds m c prev (bat m hO t) (4 * (t.val % 16))) : Holds m c (sIn m hO c t prev) (bat m hO t) (4 * (t.val % 16)) := by
  unfold sIn stIn
  rw [coord1 t]
  by_cases h : t.val % 16 = 0
  · rw [if_pos h]; exact first_holds m hO c t h
  · rw [if_neg h]; exact hp h

theorem stAt_holds : ∀ (n : ℕ) (h : n < (cfgM m hO).N), Holds m c (stAt m hO c n h) (bat m hO ⟨n, h⟩) (4 * (n % 16) + 4)
  | 0, h => stS_holds m hO c ⟨0, h⟩ _ (sIn_holds m hO c ⟨0, h⟩ _ fun h' => absurd rfl h') 4 le_rfl
  | n + 1, h => by
    refine stS_holds m hO c ⟨n + 1, h⟩ _ (sIn_holds m hO c ⟨n + 1, h⟩ _ fun h' => ?_) 4 le_rfl
    have ih := stAt_holds n (Nat.lt_of_succ_lt h)
    have h'' : (n + 1) % 16 ≠ 0 := h'
    have e1 : bat m hO ⟨n + 1, h⟩ = bat m hO ⟨n, Nat.lt_of_succ_lt h⟩ := Fin.ext (show (n + 1) / 16 = n / 16 by omega)
    rw [e1]
    show Holds m c _ _ (4 * ((n + 1) % 16))
    have e2 : 4 * ((n + 1) % 16) = 4 * (n % 16) + 4 := by omega
    rw [e2]; exact ih

theorem before_holds (t : Fin (cfgM m hO).N) : Holds m c (sIn m hO c t (stBefore m hO c t)) (bat m hO t) (4 * (t.val % 16)) := by
  refine sIn_holds m hO c t _ fun h => ?_
  have h0 : t.val ≠ 0 := fun e => h (by rw [e])
  unfold stBefore
  rw [dif_neg h0]
  have ih := stAt_holds m hO c (t.val - 1) (by have := t.isLt; omega)
  have e1 : bat m hO ⟨t.val - 1, by have := t.isLt; omega⟩ = bat m hO t := Fin.ext (show (t.val - 1) / 16 = t.val / 16 by omega)
  have e2 : 4 * ((t.val - 1) % 16) + 4 = 4 * (t.val % 16) := by omega
  rw [e1, e2] at ih; exact ih

theorem cix_apply (i j : Fin 64) : cix (ix2 i j) = BitVec.ofNat 32 j.val := by
  pointwise [cix]

/-- Both ways of scoring give the attention's scores where they are kept. -/
theorem scoresOf_apply (v7 : BitVec 1) (q k : Vec Ideal S1x64x128 .bf16) (b : Vec Ideal S1x64x128 .f32) (hb : Falls (kr b)) (i j : Fin 64) (hj : j ≤ i) :
    scoresOf v7 cix q k b (ix2 i j) = score (kr q) (kr k) (kr b) i j := by
  unfold scoresOf
  split
  · exact exact_apply cix cix_apply q k b hb i j hj
  · exact plain_apply q k b i j hj

theorem outH_apply (v7 : BitVec 1) (x0 x1 : Vec Ideal S1x256x512 .bf16) (x2 : Vec Ideal S1x256x1024 .bf16) (x3 : Vec Ideal S1x256x512 .f32)
    (x5 : Vec Ideal S1x256x1024 .f32) (x6 : Vec Ideal S1x256x1024 .bf16) (x7 : Vec Ideal S1x256 .f32) (k h : Fin 4) (s : Vec Ideal S4x128x256 .f32)
    (hb : Falls (kr (bk x3 k h))) (i : Fin 64) (w : Fin 256) :
    outH v7 cix x0 x1 x2 x3 x5 x6 x7 k h s (ix3 0 i w)
      = gated (fun w => outRow (kr (bk x0 k h)) (kr (bk x1 k h)) (kr (bk x3 k h)) (vr (bv x2 k h)) (fun d w => s (ix3 h d w)) i w + vr (bv x5 k h) i w)
          (fun w => x7 (ix2 0 w)) (vr (bv x6 k h) i) w := by
  unfold outH
  rw [headOut_apply (bk x0 k h) (bk x1 k h) _ _ _ _ (fun i j hj => scoresOf_apply _ _ _ _ hb i j hj), bs_apply]

theorem gated_eq {q q' k k' b b' : KC} {v v' o o' z z' : VC} {s s' : SC} {g g' : Fin 256 → EReal} (hq : q = q') (hk : k = k') (hb : b = b') (hv : v = v')
    (ho : o = o') (hz : z = z') (hs : s = s') (hg : g = g') (i : Fin 64) (w : Fin 256) :
    gated (fun w => outRow q k b v s i w + o i w) g (z i) w = gated (fun w => outRow q' k' b' v' s' i w + o' i w) g' (z' i) w := by
  subst hq hk hb hv ho hz hs hg; rfl

/-- A point's block of the output. -/
theorem oAt_apply (hb : ∀ β n h, Falls (kc (aB m c) β n h)) (t : Fin (cfgM m hO).N) (k h : Fin 4) (i : Fin 64) (w : Fin 256) :
    oAt m hO c t (ix3 0 ⟨64 * k.val + i.val, by omega⟩ ⟨256 * h.val + w.val, by omega⟩)
      = result (aQ m c) (aK m c) (aB m c) (aV m c) (aS m c) (aO m c) (aZ m c) (aG m c) (bat m hO t) (chk m hO t k) h i w := by
  have hk : ck ⟨64 * k.val + i.val, by omega⟩ = k := Fin.ext (show (64 * k.val + i.val) / 64 = k.val by omega)
  have hh : hd ⟨256 * h.val + w.val, by omega⟩ = h := Fin.ext (show (256 * h.val + w.val) / 256 = h.val by omega)
  have hi : (⟨(64 * k.val + i.val) % 64, Nat.mod_lt _ (by decide)⟩ : Fin 64) = i := Fin.ext (show (64 * k.val + i.val) % 64 = i.val by omega)
  have hw : (⟨(256 * h.val + w.val) % 256, Nat.mod_lt _ (by decide)⟩ : Fin 256) = w := Fin.ext (show (256 * h.val + w.val) % 256 = w.val by omega)
  have hs := stS_holds m hO c t _ (before_holds m hO c t) k.val (by omega) h
  unfold oAt outV
  show outH _ cix _ _ _ _ _ _ _ (ck ⟨64 * k.val + i.val, _⟩) (hd ⟨256 * h.val + w.val, _⟩) (stS _ _ _ _ (ck ⟨64 * k.val + i.val, _⟩).val)
    (ix3 0 ⟨(64 * k.val + i.val) % 64, _⟩ ⟨(256 * h.val + w.val) % 256, _⟩) = _
  rw [hk, hh, hi, hw]
  refine (outH_apply _ _ _ _ _ _ _ _ k h _ ((congrArg Falls (krB m hO c t k h)).mpr (hb _ _ _)) i w).trans ?_
  exact gated_eq (krQ m hO c t k h) (krK m hO c t k h) (krB m hO c t k h) (vrV m hO c t k h) (vrO m hO c t k h) (vrZ m hO c t k h) hs
    (funext fun w => blk7 m hO c t w) i w

/-- The output array. -/
theorem G8_apply (hb : ∀ β n h, Falls (kc (aB m c) β n h)) (β : Fin 8) (n : Fin 64) (h : Fin 4) (i : Fin 64) (w : Fin 256) :
    (G8 m hO c : S8x4096x1024.Idx → EReal) (ix3 β ⟨64 * n.val + i.val, by omega⟩ ⟨256 * h.val + w.val, by omega⟩)
      = result (aQ m c) (aK m c) (aB m c) (aV m c) (aS m c) (aO m c) (aZ m c) (aG m c) β n h i w := by
  have hl : 16 * β.val + (64 * n.val + i.val) / 256 < (cfgM m hO).N := lt_of_lt_of_eq (by omega) N_0.symm
  have key := oAt_apply m hO c hb ⟨16 * β.val + (64 * n.val + i.val) / 256, hl⟩ ⟨n.val % 4, by omega⟩ h i w
  have eb : bat m hO ⟨16 * β.val + (64 * n.val + i.val) / 256, hl⟩ = β := Fin.ext (show (16 * β.val + (64 * n.val + i.val) / 256) / 16 = β.val by omega)
  have en : chk m hO ⟨16 * β.val + (64 * n.val + i.val) / 256, hl⟩ ⟨n.val % 4, by omega⟩ = n :=
    Fin.ext (show 4 * ((16 * β.val + (64 * n.val + i.val) / 256) % 16) + n.val % 4 = n.val by omega)
  rw [eb, en] at key
  refine Eq.trans ?_ key
  refine congrArg (oAt m hO c ⟨16 * β.val + (64 * n.val + i.val) / 256, hl⟩) (ext3 _ _ rfl ?_ rfl)
  show (64 * n.val + i.val) % 256 = 64 * (n.val % 4) + i.val
  omega

/-! The precondition. -/
instance factsPre : Cert.Pre_decays_fall.Facts where
  shapeCasts_S8x4096x512_S8x64x64x512 := by decide +kernel
  slices_S8x64x64x512_S8x64x63x512_0_0_1_0 := by decide +kernel
  slices_S8x64x64x512_S8x64x63x512_0_0_0_0 := by decide +kernel

theorem pre_step (x0 : IVec S128 32) (x1 x2 : FVec Ideal S8x4096x512 .bf16) (x3 : FVec Ideal S8x4096x1024 .bf16) (b : FVec Ideal S8x4096x512 .f32)
    (x5 : FVec Ideal S8x4x128x256 .f32) (x6 : FVec Ideal S8x4096x1024 .f32) (x7 : FVec Ideal S8x4096x1024 .bf16) (x8 : FVec Ideal S1x256 .f32)
    (h : Cert.Pre_decays_fall.fn x0 x1 x2 x3 b x5 x6 x7 x8 = fun _ => 1#1) (β : Fin 8) (n : Fin 64) (i : Fin 63) (l : Fin 512) :
    (b : S8x4096x512.Idx → EReal) (ix3 β ⟨n.val * 64 + (1 + i.val), by omega⟩ l) ≤ b (ix3 β ⟨n.val * 64 + i.val, by omega⟩ l) := by
  have e := congrFun h (ix4 β n i l)
  have e' : BitVec.ofBool (decide ((b : S8x4096x512.Idx → EReal) (ix3 β ⟨n.val * 64 + (1 + i.val), by omega⟩ l) ≤ b (ix3 β ⟨n.val * 64 + i.val, by omega⟩ l))) = 1#1 := by
    rw [← e]
    pointwise [Cert.Pre_decays_fall.fn]
  by_contra hn
  rw [decide_eq_false hn] at e'
  exact absurd e' (by decide)

/-- Decays that fall from token to token fall over a chunk. -/
theorem falls_of_step (b : KC) (h : ∀ (i : Fin 63) d, b ⟨i.val + 1, by omega⟩ d ≤ b ⟨i.val, by omega⟩ d) : Falls b := by
  have key : ∀ (n j : ℕ) (hj : j + n < 64) (d : Fin 128), b ⟨j + n, hj⟩ d ≤ b ⟨j, by omega⟩ d := by
    intro n
    induction n with
    | zero => intro j hj d; exact le_rfl
    | succ n ih => intro j hj d; exact (h ⟨j + n, by omega⟩ d).trans (ih j (by omega) d)
  intro i j d hij
  have hv : j.val ≤ i.val := hij
  have e : (⟨j.val + (i.val - j.val), by omega⟩ : Fin 64) = i := Fin.ext (by show j.val + (i.val - j.val) = i.val; omega)
  have := key (i.val - j.val) j.val (by omega) d
  rw [e] at this
  exact this

theorem falls_of_pre (x0 : IVec S128 32) (x1 x2 : FVec Ideal S8x4096x512 .bf16) (x3 : FVec Ideal S8x4096x1024 .bf16) (b : FVec Ideal S8x4096x512 .f32)
    (x5 : FVec Ideal S8x4x128x256 .f32) (x6 : FVec Ideal S8x4096x1024 .f32) (x7 : FVec Ideal S8x4096x1024 .bf16) (x8 : FVec Ideal S1x256 .f32)
    (h : Cert.Pre_decays_fall.fn x0 x1 x2 x3 b x5 x6 x7 x8 = fun _ => 1#1) (β : Fin 8) (n : Fin 64) (hd : Fin 4) : Falls (kc b β n hd) := by
  refine falls_of_step _ fun i d => ?_
  have e := pre_step x0 x1 x2 x3 b x5 x6 x7 x8 h β n i ⟨128 * hd.val + d.val, by omega⟩
  have e1 : (⟨64 * n.val + (i.val + 1), by omega⟩ : Fin 4096) = ⟨n.val * 64 + (1 + i.val), by omega⟩ := Fin.ext (by show 64 * n.val + (i.val + 1) = n.val * 64 + (1 + i.val); omega)
  have e2 : (⟨64 * n.val + i.val, by omega⟩ : Fin 4096) = ⟨n.val * 64 + i.val, by omega⟩ := Fin.ext (by show 64 * n.val + i.val = n.val * 64 + i.val; omega)
  show (b : S8x4096x512.Idx → EReal) (ix3 β ⟨64 * n.val + (i.val + 1), _⟩ _) ≤ b (ix3 β ⟨64 * n.val + i.val, _⟩ _)
  rw [e1, e2]
  exact e

end Cert.Proof.KernelIdeal
-- ==== Proof.RMath.lean ====
module

public import proofs.«01_k».proof.Proof.Row
public import proofs.«01_k».proof.Proof.Gen.ReferenceIdeal.Run

@[expose] public section

/-! What the reference's loop makes of the carried buffers, read at an index, and what it returns. -/

noncomputable section

namespace Cert.Proof.RefIdeal

open Cert.ReferenceIdeal Cert.ReferenceIdeal.Gen Cert.ReferenceIdeal.Value Cert.Proof.Gla
open Idealize.ShloMosaic Idealize.ShloMosaic.TcCoe Idealize.ShloMosaic.Tactic
open Idealize.ShloMosaic.StableHlo

/-- The start of the slice a trip takes: the trip's number, and zeros. -/
def starts (n : Fin 64) : Fin 5 → Int := fun k =>
  ((![fun _ => BitVec.ofNat 32 n.val, constantI S_ 32 0#32, constantI S_ 32 0#32, constantI S_ 32 0#32, constantI S_ 32 0#32] :
    Fin 5 → S_.Idx → BitVec 32) k (Shape.Idx.first h_S_)).toInt

theorem starts_zero (n : Fin 64) : starts n 0 = (n.val : Int) := by
  show (BitVec.ofNat 32 n.val).toInt = _
  rw [BitVec.toInt_ofNat', Int.bmod_eq_of_le (by omega) (by omega)]

theorem slice128 (x : S64x8x4x64x128.Idx → EReal) (n : Fin 64) (β : Fin 8) (h : Fin 4) (i : Fin 64) (d : Fin 128) :
    shapeCast S8x4x64x128 (Host.dynamicSlice S1x8x4x64x128 x (starts n) sliceFits_S64x8x4x64x128_S1x8x4x64x128) shapeCasts_S1x8x4x64x128_S8x4x64x128
      (ix4 β h i d) = x (ix5 n β h i d) := by
  pointwise []
  simp only [Host.clampedStart_of_le (s := S64x8x4x64x128) (t := S1x8x4x64x128) rfl (starts n) 0 n.val (starts_zero n) (by show n.val + 1 ≤ 64; omega),
    Host.clampedStart_of_le (s := S64x8x4x64x128) (t := S1x8x4x64x128) rfl (starts n) 1 0 rfl (by decide),
    Host.clampedStart_of_le (s := S64x8x4x64x128) (t := S1x8x4x64x128) rfl (starts n) 2 0 rfl (by decide),
    Host.clampedStart_of_le (s := S64x8x4x64x128) (t := S1x8x4x64x128) rfl (starts n) 3 0 rfl (by decide),
    Host.clampedStart_of_le (s := S64x8x4x64x128) (t := S1x8x4x64x128) rfl (starts n) 4 0 rfl (by decide), Nat.zero_add]

theorem slice256 (x : S64x8x4x64x256.Idx → EReal) (n : Fin 64) (β : Fin 8) (h : Fin 4) (i : Fin 64) (d : Fin 256) :
    shapeCast S8x4x64x256 (Host.dynamicSlice S1x8x4x64x256 x (starts n) sliceFits_S64x8x4x64x256_S1x8x4x64x256) shapeCasts_S1x8x4x64x256_S8x4x64x256
      (ix4 β h i d) = x (ix5 n β h i d) := by
  pointwise []
  simp only [Host.clampedStart_of_le (s := S64x8x4x64x256) (t := S1x8x4x64x256) rfl (starts n) 0 n.val (starts_zero n) (by show n.val + 1 ≤ 64; omega),
    Host.clampedStart_of_le (s := S64x8x4x64x256) (t := S1x8x4x64x256) rfl (starts n) 1 0 rfl (by decide),
    Host.clampedStart_of_le (s := S64x8x4x64x256) (t := S1x8x4x64x256) rfl (starts n) 2 0 rfl (by decide),
    Host.clampedStart_of_le (s := S64x8x4x64x256) (t := S1x8x4x64x256) rfl (starts n) 3 0 rfl (by decide),
    Host.clampedStart_of_le (s := S64x8x4x64x256) (t := S1x8x4x64x256) rfl (starts n) 4 0 rfl (by decide), Nat.zero_add]

theorem update256 (x : S64x8x4x64x256.Idx → EReal) (u : S1x8x4x64x256.Idx → EReal) (n n' : Fin 64) (β : Fin 8) (h : Fin 4) (i : Fin 64) (w : Fin 256) :
    Host.dynamicUpdateSlice x u (starts n) updateFits_S64x8x4x64x256_S1x8x4x64x256 (ix5 n' β h i w)
      = if n' = n then u (ix5 0 β h i w) else x (ix5 n' β h i w) := by
  have e0 := Host.clampedStart_of_le (s := S64x8x4x64x256) (t := S1x8x4x64x256) rfl (starts n) 0 n.val (starts_zero n) (by show n.val + 1 ≤ 64; omega)
  have e1 := Host.clampedStart_of_le (s := S64x8x4x64x256) (t := S1x8x4x64x256) rfl (starts n) 1 0 rfl (by decide)
  have e2 := Host.clampedStart_of_le (s := S64x8x4x64x256) (t := S1x8x4x64x256) rfl (starts n) 2 0 rfl (by decide)
  have e3 := Host.clampedStart_of_le (s := S64x8x4x64x256) (t := S1x8x4x64x256) rfl (starts n) 3 0 rfl (by decide)
  have e4 := Host.clampedStart_of_le (s := S64x8x4x64x256) (t := S1x8x4x64x256) rfl (starts n) 4 0 rfl (by decide)
  rw [Host.dynamicUpdateSlice_apply]
  split
  next hin =>
    have h0 := hin 0
    rw [e0] at h0
    have : n' = n := Fin.ext (by have a := h0.1; have b := h0.2; change n.val ≤ n'.val at a; change n'.val < n.val + 1 at b; omega)
    rw [if_pos this]
    congr 1
    funext a
    match a with
    | 0 => exact Fin.ext (show n'.val - _ = 0 by subst this; exact (congrArg (n'.val - ·) e0).trans (Nat.sub_self _))
    | 1 => exact Fin.ext (congrArg (β.val - ·) e1)
    | 2 => exact Fin.ext (congrArg (h.val - ·) e2)
    | 3 => exact Fin.ext (congrArg (i.val - ·) e3)
    | 4 => exact Fin.ext (congrArg (w.val - ·) e4)
  next hin =>
    rw [if_neg]
    rintro rfl
    apply hin
    intro a
    match a with
    | 0 => rw [e0]; exact ⟨Nat.le_refl _, Nat.lt_succ_self _⟩
    | 1 => rw [e1]; exact ⟨Nat.zero_le _, by show β.val < 0 + 8; omega⟩
    | 2 => rw [e2]; exact ⟨Nat.zero_le _, by show h.val < 0 + 4; omega⟩
    | 3 => rw [e3]; exact ⟨Nat.zero_le _, by show i.val < 0 + 64; omega⟩
    | 4 => rw [e4]; exact ⟨Nat.zero_le _, by show w.val < 0 + 256; omega⟩

variable (V0 : Valuation τ sig (Elt Ideal)) (n : Fin 64) (hc : V0 (Proc.devRef .tc main_v14_5) = fun _ => BitVec.ofNat 32 n.val)

/-- The carried arrays. -/
abbrev Q5 : S64x8x4x64x128.Idx → EReal := V0 (Proc.devRef .tc main_v14_0)
abbrev K5 : S64x8x4x64x128.Idx → EReal := V0 (Proc.devRef .tc main_v14_1)
abbrev V5 : S64x8x4x64x256.Idx → EReal := V0 (Proc.devRef .tc main_v14_2)
abbrev B5 : S64x8x4x64x128.Idx → EReal := V0 (Proc.devRef .tc main_v14_3)
abbrev S4 : S8x4x128x256.Idx → EReal := V0 (Proc.devRef .tc main_v14_6)
abbrev O5 : S64x8x4x64x256.Idx → EReal := V0 (Proc.devRef .tc main_v14_7)

include hc in
theorem slice38 (β : Fin 8) (h : Fin 4) (i : Fin 64) (d : Fin 128) : res_main_while0b_v38 V0 (ix4 β h i d) = Q5 V0 (ix5 n β h i d) := by
  unfold res_main_while0b_v38; rw [hc]; exact slice128 _ n β h i d
include hc in
theorem slice39 (β : Fin 8) (h : Fin 4) (i : Fin 64) (d : Fin 128) : res_main_while0b_v39 V0 (ix4 β h i d) = K5 V0 (ix5 n β h i d) := by
  unfold res_main_while0b_v39; rw [hc]; exact slice128 _ n β h i d
include hc in
theorem slice40 (β : Fin 8) (h : Fin 4) (i : Fin 64) (d : Fin 256) : res_main_while0b_v40 V0 (ix4 β h i d) = V5 V0 (ix5 n β h i d) := by
  unfold res_main_while0b_v40; rw [hc]; exact slice256 _ n β h i d
include hc in
theorem slice41 (β : Fin 8) (h : Fin 4) (i : Fin 64) (d : Fin 128) : res_main_while0b_v41 V0 (ix4 β h i d) = B5 V0 (ix5 n β h i d) := by
  unfold res_main_while0b_v41; rw [hc]; exact slice128 _ n β h i d

include hc in
/-- The state a trip leaves. -/
theorem step6 (β : Fin 8) (h : Fin 4) (d : Fin 128) (w : Fin 256) : step_main_v14_6 V0 (ix4 β h d w)
    = nextS (fun i d => K5 V0 (ix5 n β h i d)) (fun i d => B5 V0 (ix5 n β h i d)) (fun i w => V5 V0 (ix5 n β h i w)) (fun d w => S4 V0 (ix4 β h d w)) d w := by
  pointwise [step_main_v14_6, id_eq, res_main_while0b_v42, nextS, slice39 V0 n hc, slice40 V0 n hc, slice41 V0 n hc]

/-- The word of the least float is the least extended real. -/
theorem least : Ideal.ofBits FTy.f32 4286578688#32 = ⊥ := by rfl

include hc in
/-- The rows a trip puts down, beside the rows there before. -/
theorem step7 (ht : ∀ i j : Fin 64, V0 (Proc.devRef .tc main_v14_4) (ix2 i j) = if j ≤ i then 1#1 else 0#1)
   (n' : Fin 64) (β : Fin 8) (h : Fin 4) (i : Fin 64) (w : Fin 256) :
    step_main_v14_7 V0 (ix5 n' β h i w) = if n' = n then
      outRow (fun i d => Q5 V0 (ix5 n β h i d)) (fun i d => K5 V0 (ix5 n β h i d)) (fun i d => B5 V0 (ix5 n β h i d)) (fun i w => V5 V0 (ix5 n β h i w)) (fun d w => S4 V0 (ix4 β h d w)) i w
      else O5 V0 (ix5 n' β h i w) := by
  unfold step_main_v14_7
  rw [id_eq, hc]
  refine (update256 _ _ n n' β h i w).trans ?_
  split
  · pointwise [outRow, score, slice38 V0 n hc, slice39 V0 n hc, slice40 V0 n hc, slice41 V0 n hc, id_eq]
    refine congrArg₂ (· + ·) (Finset.sum_congr rfl fun j _ => ?_) rfl
    congr 1
    rw [ht]
    split
    · rfl
    · refine Finset.sum_eq_zero fun d _ => ?_
      show _ * _ * Ideal.exp (Ideal.ofBits FTy.f32 4286578688#32) = 0
      rw [least, Ideal.exp_bot, mul_zero]
  · rfl

/-- What the operations after the loop return. -/
theorem out37 (β : Fin 8) (n : Fin 64) (h : Fin 4) (i : Fin 64) (w : Fin 256) :
    out_main_v37 V0 (ix3 β ⟨64 * n.val + i.val, by omega⟩ ⟨256 * h.val + w.val, by omega⟩)
      = gated (fun w => O5 V0 (ix5 n β h i w) + vc (V0 (Proc.devRef .tc main_arg6)) β n h i w) (fun w => V0 (Proc.devRef .tc main_arg8) (ix2 0 w))
          (vc (V0 (Proc.devRef .tc main_arg7)) β n h i) w := by
  pointwise [out_main_v37, gated, vc, Ideal.logistic]
  have e1 : (64 * n.val + i.val) / 64 = n.val := by omega
  have e2 : (64 * n.val + i.val) % 64 = i.val := by omega
  have e3 : (256 * h.val + w.val) / 256 = h.val := by omega
  have e4 : (256 * h.val + w.val) % 256 = w.val := by omega
  simp only [e1, e2, e3, e4, Nat.mul_comm h.val 256]

section Entry
variable (m : (ℓ : Loc nD τ sig) → Buf (Elt Ideal) ℓ) (c : Dev nD)

/-- The arguments. -/
abbrev aQ : KA := m ((c.tc : Thread nD τ).loc main_arg1)
abbrev aK : KA := m ((c.tc : Thread nD τ).loc main_arg2)
abbrev aV : VA := m ((c.tc : Thread nD τ).loc main_arg3)
abbrev aB : KA := m ((c.tc : Thread nD τ).loc main_arg4)
abbrev aS : SA := m ((c.tc : Thread nD τ).loc main_arg5)
abbrev aO : VA := m ((c.tc : Thread nD τ).loc main_arg6)
abbrev aZ : VA := m ((c.tc : Thread nD τ).loc main_arg7)
abbrev aG : Fin 256 → EReal := fun w => m ((c.tc : Thread nD τ).loc main_arg8) (ix2 0 w)

/-- The carried arrays at the loop's entry are the arguments' chunks. -/
theorem entryQ (n : Fin 64) (β : Fin 8) (h : Fin 4) (i : Fin 64) (d : Fin 128) : Q5 (entryContents preI m c) (ix5 n β h i d) = kc (aQ m c) β n h i d := by
  simp only [Q5, entryContents, afterL_cons, afterL_nil]
  after_reads_simp
  show transpose S64x8x4x64x128 [1, 0, 3, 2, 4] (shapeCast S8x64x64x4x128 (extf .f32 (F := Ideal) (φ := .bf16) (aQ m c) bitsLt_bf16_f32) shapeCasts_S8x4096x512_S8x64x64x4x128)
    transposes_S8x64x64x4x128_S64x8x4x64x128_1_0_3_2_4 (ix5 n β h i d) = _
  pointwise [kc]
  simp only [Nat.mul_comm _ 64, Nat.mul_comm _ 128]

theorem entryK (n : Fin 64) (β : Fin 8) (h : Fin 4) (i : Fin 64) (d : Fin 128) : K5 (entryContents preI m c) (ix5 n β h i d) = kc (aK m c) β n h i d := by
  simp only [K5, entryContents, afterL_cons, afterL_nil]
  after_reads_simp
  show transpose S64x8x4x64x128 [1, 0, 3, 2, 4] (shapeCast S8x64x64x4x128 (extf .f32 (F := Ideal) (φ := .bf16) (aK m c) bitsLt_bf16_f32) shapeCasts_S8x4096x512_S8x64x64x4x128)
    transposes_S8x64x64x4x128_S64x8x4x64x128_1_0_3_2_4 (ix5 n β h i d) = _
  pointwise [kc]
  simp only [Nat.mul_comm _ 64, Nat.mul_comm _ 128]

theorem entryB (n : Fin 64) (β : Fin 8) (h : Fin 4) (i : Fin 64) (d : Fin 128) : B5 (entryContents preI m c) (ix5 n β h i d) = kc (aB m c) β n h i d := by
  simp only [B5, entryContents, afterL_cons, afterL_nil]
  after_reads_simp
  show transpose S64x8x4x64x128 [1, 0, 3, 2, 4] (shapeCast S8x64x64x4x128 (aB m c) shapeCasts_S8x4096x512_S8x64x64x4x128)
    transposes_S8x64x64x4x128_S64x8x4x64x128_1_0_3_2_4 (ix5 n β h i d) = _
  pointwise [kc]
  simp only [Nat.mul_comm _ 64, Nat.mul_comm _ 128]

theorem entryV (n : Fin 64) (β : Fin 8) (h : Fin 4) (i : Fin 64) (w : Fin 256) : V5 (entryContents preI m c) (ix5 n β h i w) = vc (aV m c) β n h i w := by
  simp only [V5, entryContents, afterL_cons, afterL_nil]
  after_reads_simp
  show transpose S64x8x4x64x256 [1, 0, 3, 2, 4] (shapeCast S8x64x64x4x256 (extf .f32 (F := Ideal) (φ := .bf16) (aV m c) bitsLt_bf16_f32) shapeCasts_S8x4096x1024_S8x64x64x4x256)
    transposes_S8x64x64x4x256_S64x8x4x64x256_1_0_3_2_4 (ix5 n β h i w) = _
  pointwise [vc]
  simp only [Nat.mul_comm _ 64, Nat.mul_comm _ 256]

theorem entryS (β : Fin 8) (h : Fin 4) (d : Fin 128) (w : Fin 256) : S4 (entryContents preI m c) (ix4 β h d w) = aS m c (ix4 β h d w) := by
  simp only [S4, entryContents, afterL_cons, afterL_nil]
  after_reads_simp
  rfl

theorem word_le : ∀ i j : Fin 64, Scalar.select (IntOp.cmpi .sge (IntOp.addi (BitVec.ofNat 32 i.val) 0#32) (BitVec.ofNat 32 j.val)) 1#1 0#1 = if j ≤ i then 1#1 else 0#1 := by
  decide +kernel

theorem entryT (i j : Fin 64) : (entryContents preI m c) (Proc.devRef .tc main_v14_4) (ix2 i j) = if j ≤ i then 1#1 else 0#1 := by
  simp only [entryContents, afterL_cons, afterL_nil]
  after_reads_simp
  rw [← word_le]
  rfl

/-- The buffers after `k` trips. -/
abbrev X (k : ℕ) : Valuation τ sig (Elt Ideal) := STEP^[k] (entryContents preI m c)

theorem X_succ (k : ℕ) : X m c (k + 1) = STEP (X m c k) := Function.iterate_succ_apply' _ _ _

theorem XQ : ∀ k, Q5 (X m c k) = Q5 (entryContents preI m c)
  | 0 => rfl
  | k + 1 => by rw [← XQ k, X_succ]; exact STEP_main_v14_0 _
theorem XK : ∀ k, K5 (X m c k) = K5 (entryContents preI m c)
  | 0 => rfl
  | k + 1 => by rw [← XK k, X_succ]; exact STEP_main_v14_1 _
theorem XV : ∀ k, V5 (X m c k) = V5 (entryContents preI m c)
  | 0 => rfl
  | k + 1 => by rw [← XV k, X_succ]; exact STEP_main_v14_2 _
theorem XB : ∀ k, B5 (X m c k) = B5 (entryContents preI m c)
  | 0 => rfl
  | k + 1 => by rw [← XB k, X_succ]; exact STEP_main_v14_3 _
theorem XT : ∀ k, X m c k (Proc.devRef .tc main_v14_4) = entryContents preI m c (Proc.devRef .tc main_v14_4)
  | 0 => rfl
  | k + 1 => by rw [← XT k, X_succ]; exact STEP_main_v14_4 _
theorem Xc : ∀ k, X m c k (Proc.devRef .tc main_v14_5) = fun _ => BitVec.ofNat 32 k
  | 0 => ctr_entry m c
  | k + 1 => by
    rw [X_succ, STEP_main_v14_5]; unfold step_main_v14_5; rw [Xc k]
    funext i
    show BitVec.ofNat 32 k + 1#32 = BitVec.ofNat 32 (k + 1)
    rw [BitVec.ofNat_add]

/-- The chunks the trip numbered `n` works on. -/
theorem chunkQ (k : ℕ) (n : Fin 64) (β : Fin 8) (h : Fin 4) : (fun i d => Q5 (X m c k) (ix5 n β h i d)) = kc (aQ m c) β n h := by
  funext i d; rw [XQ]; exact entryQ m c n β h i d
theorem chunkK (k : ℕ) (n : Fin 64) (β : Fin 8) (h : Fin 4) : (fun i d => K5 (X m c k) (ix5 n β h i d)) = kc (aK m c) β n h := by
  funext i d; rw [XK]; exact entryK m c n β h i d
theorem chunkB (k : ℕ) (n : Fin 64) (β : Fin 8) (h : Fin 4) : (fun i d => B5 (X m c k) (ix5 n β h i d)) = kc (aB m c) β n h := by
  funext i d; rw [XB]; exact entryB m c n β h i d
theorem chunkV (k : ℕ) (n : Fin 64) (β : Fin 8) (h : Fin 4) : (fun i w => V5 (X m c k) (ix5 n β h i w)) = vc (aV m c) β n h := by
  funext i w; rw [XV]; exact entryV m c n β h i w

/-- After `k` trips the state is the one before chunk `k`. -/
theorem stateX (β : Fin 8) (h : Fin 4) : ∀ k ≤ 64, (fun d w => S4 (X m c k) (ix4 β h d w)) = stateAt (aK m c) (aB m c) (aV m c) (aS m c) β h k
  | 0, _ => by funext d w; exact entryS m c β h d w
  | k + 1, hk => by
    have hk' : k < 64 := hk
    funext d w
    have e : S4 (X m c (k + 1)) = step_main_v14_6 (X m c k) := by rw [X_succ]; exact STEP_main_v14_6 _
    rw [e, step6 (X m c k) ⟨k, hk'⟩ (Xc m c k) β h d w, chunkK, chunkB, chunkV, stateX β h k (Nat.le_of_lt hk')]
    simp only [stateAt, dif_pos hk']

/-- After `k` trips the rows of the chunks below `k` are the attention's. -/
theorem rowsX (n : Fin 64) (β : Fin 8) (h : Fin 4) (i : Fin 64) (w : Fin 256) : ∀ k ≤ 64, n.val < k →
    O5 (X m c k) (ix5 n β h i w) = attn (aQ m c) (aK m c) (aB m c) (aV m c) (aS m c) β n h i w
  | 0, _, hn => absurd hn (Nat.not_lt_zero _)
  | k + 1, hk, hn => by
    have hk' : k < 64 := hk
    have e : O5 (X m c (k + 1)) = step_main_v14_7 (X m c k) := by rw [X_succ]; exact STEP_main_v14_7 _
    rw [e, step7 (X m c k) ⟨k, hk'⟩ (Xc m c k) (fun i j => by rw [XT]; exact entryT m c i j) n β h i w]
    split
    next he =>
      subst he
      rw [chunkQ, chunkK, chunkB, chunkV, stateX m c β h k (Nat.le_of_lt hk')]
      rfl
    next he =>
      exact rowsX n β h i w k (Nat.le_of_lt hk') (by
        have : n.val ≠ k := fun h => he (Fin.ext h)
        omega)

/-- The reference's result at a token. -/
theorem out_apply (β : Fin 8) (n : Fin 64) (h : Fin 4) (i : Fin 64) (w : Fin 256) :
    out_main_v37 (X m c 64) (ix3 β ⟨64 * n.val + i.val, by omega⟩ ⟨256 * h.val + w.val, by omega⟩)
      = result (aQ m c) (aK m c) (aB m c) (aV m c) (aS m c) (aO m c) (aZ m c) (aG m c) β n h i w := by
  rw [out37, show X m c 64 (Proc.devRef .tc main_arg6) = _ from iter_main_arg6 m c 64, show X m c 64 (Proc.devRef .tc main_arg7) = _ from iter_main_arg7 m c 64,
    show X m c 64 (Proc.devRef .tc main_arg8) = _ from iter_main_arg8 m c 64]
  simp only [rowsX m c n β h i _ 64 (Nat.le_refl _) n.isLt]
  rfl

end Entry

end Cert.Proof.RefIdeal
-- ==== Proof.PMath.lean ====
module

public import Idealize.ShloMosaic.Lib.Pointwise

/-!
# The projection's mathematics

The values of the projection's ten results at an index, as functions of the arguments: the modulated normalised token,
its products with the columns of the weight, the rotary position encoding, and the gates' logarithms.
-/

@[expose] public section

set_option maxRecDepth 16384

noncomputable section

namespace Cert.Proof.Prj

open Idealize.ShloMosaic

/-- Contents of a rank-three array. -/
abbrev T3 (a b c : ℕ) : Type := (⟨3, ![a, b, c]⟩ : Shape).Idx → EReal
/-- Contents of a matrix. -/
abbrev T2 (a b : ℕ) : Type := (⟨2, ![a, b]⟩ : Shape).Idx → EReal

section
variable (X : T3 8 4096 1024) (M : T3 16 1 3072) (N : T2 1 1024) (W : T3 1 1024 7200)

/-- The normalised, modulated token at column `d`. -/
def hv (b : Fin 8) (l : Fin 4096) (d : Fin 1024) : EReal :=
  X (ix3 b l d) * Ideal.rsqrt (Ideal.div (∑ e : Fin 1024, X (ix3 b l e) * X (ix3 b l e)) (Ideal.ofBits .f32 1149239296#32)
      + Ideal.ofBits .f32 897988541#32) * N (ix2 0 d)
    * (1 + M (ix3 ⟨b.val, by omega⟩ 0 ⟨1024 + d.val, by omega⟩)) + M (ix3 ⟨b.val, by omega⟩ 0 ⟨d.val, by omega⟩)

/-- The projection's column `j`. -/
def pj (b : Fin 8) (l : Fin 4096) (j : Fin 7200) : EReal := ∑ d : Fin 1024, hv X M N b l d * W (ix3 0 d j)

/-- The logarithm of the logistic function, over sixteen. -/
def lsg (g : EReal) : EReal := (min g 0 - Ideal.log1p (Ideal.exp (0 - max g (-g)))) * Ideal.ofBits .f32 1031798784#32

/-- The gate's logarithm from the low-rank columns that start at `o`. -/
def la (o : ℕ) (ho : o + 16 ≤ 7200) (U : T3 1 16 512) (B : T2 1 512) (b : Fin 8) (l : Fin 4096) (j : Fin 512) : EReal :=
  lsg ((∑ x : Fin 16, pj X M N W b l ⟨o + x.val, by omega⟩ * U (ix3 0 x j)) + B (ix2 0 j))

end

/-- The floor of a token's position by 64. -/
def rowI (z : BitVec 32) : BitVec 32 :=
  Scalar.select
    (IntOp.andi
      (IntOp.cmpi CmpIPredicate.ne (if z = 0 then 0 else if z.msb = true then -1 else 1 : BitVec 32)
        (if (64#32 : BitVec 32) = 0 then 0 else if BitVec.msb 64#32 = true then -1 else 1 : BitVec 32))
      (IntOp.cmpi CmpIPredicate.ne (IntOp.remsi ArithUnit.host z 64#32) 0#32))
    (IntOp.subi (IntOp.divsi ArithUnit.host z 64#32) 1#32)
    (IntOp.divsi ArithUnit.host z 64#32)

/-- Sixty-four, or one if it were zero. -/
def divr : BitVec 32 := Scalar.select (IntOp.cmpi CmpIPredicate.eq 64#32 0#32) (1#32) (64#32)

/-- A token's position modulo 64. -/
def colI (z : BitVec 32) : BitVec 32 :=
  Scalar.select
    (IntOp.andi
      (IntOp.cmpi CmpIPredicate.ne (IntOp.cmpi CmpIPredicate.slt (IntOp.remsi ArithUnit.host z divr) 0#32)
        (IntOp.cmpi CmpIPredicate.slt divr 0#32))
      (IntOp.cmpi CmpIPredicate.ne (IntOp.remsi ArithUnit.host z divr) 0#32))
    (IntOp.addi (IntOp.remsi ArithUnit.host z divr) divr)
    (IntOp.remsi ArithUnit.host z divr)

/-- The rotation's frequency. -/
def freq (f : Fin 32) : EReal :=
  Ideal.pow (Ideal.ofBits FTy.f32 1176256512#32)
    (Ideal.div (-FloatOps.sitofp (F := Ideal) FTy.f32 (BitVec.ofNat 32 f.val)) (Ideal.ofBits FTy.f32 1107296256#32))

/-- The angle from the token's row. -/
def rowA (l : Fin 4096) (f : Fin 32) : EReal := FloatOps.sitofp (F := Ideal) FTy.f32 (rowI (BitVec.ofNat 32 l.val)) * freq f
/-- The angle from the token's column. -/
def colA (l : Fin 4096) (f : Fin 32) : EReal := FloatOps.sitofp (F := Ideal) FTy.f32 (colI (BitVec.ofNat 32 l.val)) * freq f

/-- The angle at a head's lane: the row's for the first half, the column's for the second, each frequency twice. -/
def ang (l : Fin 4096) (j : Fin 128) : EReal :=
  if h : j.val < 32 then rowA l ⟨j.val, h⟩
  else if h : j.val - 32 < 32 then rowA l ⟨j.val - 32, h⟩
  else if h : j.val - 32 - 32 < 32 then colA l ⟨j.val - 32 - 32, h⟩
  else colA l ⟨j.val - 32 - 32 - 32, by omega⟩

/-- The sine subtracted in a half's first lanes. -/
def upT (l : Fin 4096) (j : Fin 128) : EReal := if j.val % 64 < 32 then -Ideal.sin (ang l j) else 0
/-- The sine added in a half's last lanes. -/
def dnT (l : Fin 4096) (j : Fin 128) : EReal := if j.val % 64 < 32 then 0 else Ideal.sin (ang l j)

/-- A head's vector rotated. -/
def rot (p : Fin 128 → EReal) (l : Fin 4096) (j : Fin 128) : EReal :=
  if h : j.val % 64 < 32 then p j * Ideal.cos (ang l j) - p ⟨j.val + 32, by omega⟩ * Ideal.sin (ang l j)
  else p ⟨j.val - 32, by omega⟩ * Ideal.sin (ang l j) + p j * Ideal.cos (ang l j)

/-- The kernel's rotation with its three tables is the rotation. -/
theorem rot_tab (p : Fin 128 → EReal) (l : Fin 4096) (j : Fin 128) :
    p j * Ideal.cos (ang l j) + p ⟨(j.val + 128 - 96) % 128, by omega⟩ * upT l j
      + p ⟨(j.val + 128 - 32) % 128, by omega⟩ * dnT l j = rot p l j := by
  unfold upT dnT rot
  by_cases h : j.val % 64 < 32
  · rw [if_pos h, if_pos h, dif_pos h, mul_zero, add_zero, mul_neg, ← sub_eq_add_neg]
    exact congrArg (fun q => p j * Ideal.cos (ang l j) - p q * Ideal.sin (ang l j)) (Fin.ext (by simp only; omega))
  · rw [if_neg h, if_neg h, dif_neg h, mul_zero, add_zero, add_comm]
    exact congrArg (fun q => p q * Ideal.sin (ang l j) + p j * Ideal.cos (ang l j)) (Fin.ext (by simp only; omega))

/-- The same with the scale in the tables. -/
theorem rot_tab_scale (s : EReal) (p : Fin 128 → EReal) (l : Fin 4096) (j : Fin 128) :
    p j * (Ideal.cos (ang l j) * s) + p ⟨(j.val + 128 - 96) % 128, by omega⟩ * (upT l j * s)
      + p ⟨(j.val + 128 - 32) % 128, by omega⟩ * (dnT l j * s) = rot (fun i => p i * s) l j := by
  rw [← rot_tab]
  simp only [mul_assoc, mul_comm s]

/-- A word chosen by a decided bit. -/
theorem selIf (c : BitVec 1) (p : Prop) [Decidable p] (h : c = if p then 1#1 else 0#1) (x y : EReal) :
    Scalar.select c x y = if p then x else y := by
  subst h
  by_cases hp : p
  · rw [if_pos hp, if_pos hp]
    rfl
  · rw [if_neg hp, if_neg hp]
    rfl

theorem ofBits_sixteenth : Ideal.ofBits .f32 1031798784#32 = ((1 / 16 : ℝ) : EReal) := by
  simp [Ideal.ofBits, Ideal.ieee, ← EReal.coe_mul]
  norm_num

theorem ofBits_sixteen : Ideal.ofBits .f32 1098907648#32 = ((16 : ℝ) : EReal) := by
  simp [Ideal.ofBits, Ideal.ieee, ← EReal.coe_mul]
  norm_num

theorem exp_bot : Ideal.exp ⊥ = 0 := rfl
theorem exp_coe (x : ℝ) : Ideal.exp (x : EReal) = ((Real.exp x : ℝ) : EReal) := rfl
theorem log1p_zero : Ideal.log1p 0 = 0 := by
  show Ideal.log (1 + 0) = 0
  rw [add_zero]
  show (if (1 : ℝ) ≤ 0 then ⊥ else ((Real.log 1 : ℝ) : EReal)) = 0
  rw [if_neg (by norm_num), Real.log_one]
  rfl
theorem log1p_coe (x : ℝ) (h : 0 ≤ x) : Ideal.log1p (x : EReal) = ((Real.log (1 + x) : ℝ) : EReal) := by
  show Ideal.log (((1 : ℝ) : EReal) + (x : EReal)) = _
  rw [← EReal.coe_add]
  show (if (1 + x : ℝ) ≤ 0 then ⊥ else ((Real.log (1 + x) : ℝ) : EReal)) = _
  rw [if_neg (by linarith)]

theorem coe_maxx (x y : ℝ) : max (x : EReal) (y : EReal) = ((max x y : ℝ) : EReal) :=
  (EReal.coe_strictMono.monotone.map_max).symm
theorem coe_minn (x y : ℝ) : min (x : EReal) (y : EReal) = ((min x y : ℝ) : EReal) :=
  (EReal.coe_strictMono.monotone.map_min).symm

/-- The logistic function's logarithm as `-softplus (-g) / 16`. -/
theorem lsg_eq (g : EReal) :
    Ideal.div (-(max (-g) 0 + Ideal.log1p (Ideal.exp (-(max (-g - 0) (-(-g - 0))))))) (Ideal.ofBits .f32 1098907648#32) = lsg g := by
  unfold lsg
  rw [ofBits_sixteenth, ofBits_sixteen]
  have hd : ∀ x : EReal, Ideal.div x ((16 : ℝ) : EReal) = x * ((1 / 16 : ℝ) : EReal) := by
    intro x
    unfold Ideal.div
    rw [if_neg (by norm_num), one_div, EReal.coe_inv]
  rw [hd]
  refine congrArg (· * ((1 / 16 : ℝ) : EReal)) ?_
  induction g with
  | bot => simp [exp_bot, log1p_zero]
  | top => simp [exp_bot, log1p_zero]
  | coe x =>
    have e1 : max (-(x : EReal) - 0) (-(-(x : EReal) - 0)) = max (x : EReal) (-(x : EReal)) := by
      rw [sub_zero, neg_neg, max_comm]
    have e2 : max (-(x : EReal)) 0 = ((max (-x) 0 : ℝ) : EReal) := by
      rw [← EReal.coe_neg, ← EReal.coe_zero, coe_maxx]
    have e3 : min (x : EReal) 0 = ((min x 0 : ℝ) : EReal) := by
      rw [← EReal.coe_zero, coe_minn]
    have e4 : max (x : EReal) (-(x : EReal)) = ((max x (-x) : ℝ) : EReal) := by
      rw [← EReal.coe_neg, coe_maxx]
    rw [e1, e2, e3, e4, zero_sub]
    have e5 : Ideal.log1p (Ideal.exp (-((max x (-x) : ℝ) : EReal))) = ((Real.log (1 + Real.exp (-(max x (-x)))) : ℝ) : EReal) := by
      rw [← EReal.coe_neg, exp_coe, log1p_coe _ (Real.exp_pos _).le]
    rw [e5, ← EReal.coe_add, ← EReal.coe_neg, ← EReal.coe_sub]
    refine congrArg _ ?_
    have : min x 0 = -(max (-x) 0) := by
      rw [← min_neg_neg]; simp
    rw [this]; ring

/-- A sum over 128 of which only the first sixteen terms count. -/
theorem sum_first (f : Fin 128 → EReal) (h : ∀ x : Fin 128, 16 ≤ x.val → f x = 0) :
    ∑ x : Fin 128, f x = ∑ y : Fin 16, f ⟨y.val, by omega⟩ := by
  have := Fin.sum_univ_add (fun x : Fin (16 + 112) => f x)
  refine this.trans ?_
  rw [Finset.sum_eq_zero (s := (Finset.univ : Finset (Fin 112))) (fun x _ => h _ (by simp [Fin.natAdd])), add_zero]
  rfl

/-- A sum over 128 of which only the second sixteen terms count. -/
theorem sum_second (f : Fin 128 → EReal) (h : ∀ x : Fin 128, x.val < 16 ∨ 32 ≤ x.val → f x = 0) :
    ∑ x : Fin 128, f x = ∑ y : Fin 16, f ⟨16 + y.val, by omega⟩ := by
  have h1 := Fin.sum_univ_add (fun x : Fin (16 + 112) => f x)
  refine h1.trans ?_
  rw [Finset.sum_eq_zero (s := (Finset.univ : Finset (Fin 16))) (fun x _ => h _ (.inl (by simp))), zero_add]
  have h2 := Fin.sum_univ_add (fun x : Fin (16 + 96) => f (Fin.natAdd 16 x))
  refine h2.trans ?_
  rw [Finset.sum_eq_zero (s := (Finset.univ : Finset (Fin 96))) (fun x _ => h _ (.inr (by simp [Fin.natAdd]; omega))), add_zero]
  rfl

end Cert.Proof.Prj

end
-- ==== Proof.PScan.lean ====
module

public import Idealize.ShloMosaic.Lib.Pointwise
public import proofs.«01_k».proof.Proof.Gen.ProjectIdeal.Value
public import proofs.«01_k».proof.Proof.PMath

/-!
# The running sums of the gates, as the projection kernel computes them

A tile has 256 rows, four chunks of 64. The kernel doubles: it adds to each row the row `s` above it (below it, for
the backward gate) when that row is of the same chunk, for `s = 1, 2, 4, 8, 16, 32`.
-/

@[expose] public section

set_option maxRecDepth 16384

noncomputable section

namespace Cert.Proof.Prj

open Cert.ProjectIdeal Cert.ProjectIdeal.Gen
open Idealize.ShloMosaic

/-- The sum of the rows of one chunk at most `s - 1` above row `r`. -/
def pre (a : Fin 256 → EReal) (s : ℕ) (r : Fin 256) : EReal :=
  ∑ k ∈ Finset.range s, if k ≤ r.val % 64 then a ⟨r.val - k, by omega⟩ else 0

/-- The sum of the rows of one chunk at most `s - 1` below row `r`. -/
def suf (a : Fin 256 → EReal) (s : ℕ) (r : Fin 256) : EReal :=
  ∑ k ∈ Finset.range s, if r.val % 64 + k < 64 then a ⟨(r.val + k) % 256, by omega⟩ else 0

/-- One doubling step upwards. -/
def up (s : ℕ) (f : Fin 256 → EReal) (r : Fin 256) : EReal :=
  f r + (if s ≤ r.val % 64 then f ⟨(r.val + 256 - s) % 256, by omega⟩ else 0)

/-- One doubling step downwards. -/
def dn (s : ℕ) (f : Fin 256 → EReal) (r : Fin 256) : EReal :=
  f r + (if r.val % 64 < 64 - s then f ⟨(r.val + s) % 256, by omega⟩ else 0)

theorem pre_one (a : Fin 256 → EReal) : pre a 1 = a := by
  funext r
  simp [pre]

theorem suf_one (a : Fin 256 → EReal) : suf a 1 = a := by
  funext r
  have : r.val % 256 = r.val := by omega
  simp [suf, Nat.mod_lt, this]

theorem up_pre (a : Fin 256 → EReal) (s : ℕ) : up s (pre a s) = pre a (s + s) := by
  funext r
  unfold up
  conv_rhs => unfold pre
  rw [Finset.sum_range_add]
  refine congrArg₂ (· + ·) rfl ?_
  split
  · next h =>
    unfold pre
    refine Finset.sum_congr rfl fun k _ => ?_
    have e : (r.val + 256 - s) % 256 = r.val - s := by omega
    have e' : (r.val - s) % 64 = r.val % 64 - s := by omega
    simp only [e, e']
    by_cases hk : s + k ≤ r.val % 64
    · rw [if_pos hk, if_pos (by omega)]
      exact congrArg a (Fin.ext (by simp only; omega))
    · rw [if_neg hk, if_neg (by omega)]
  · next h =>
    symm
    exact Finset.sum_eq_zero fun k _ => if_neg (by omega)

theorem dn_suf (a : Fin 256 → EReal) (s : ℕ) : dn s (suf a s) = suf a (s + s) := by
  funext r
  unfold dn
  conv_rhs => unfold suf
  rw [Finset.sum_range_add]
  refine congrArg₂ (· + ·) rfl ?_
  split
  · next h =>
    unfold suf
    refine Finset.sum_congr rfl fun k _ => ?_
    have e' : (r.val + s) % 256 % 64 = r.val % 64 + s := by omega
    simp only [e']
    by_cases hk : r.val % 64 + (s + k) < 64
    · rw [if_pos hk, if_pos (by omega)]
      exact congrArg a (Fin.ext (by simp only; omega))
    · rw [if_neg hk, if_neg (by omega)]
  · next h =>
    symm
    exact Finset.sum_eq_zero fun k _ => if_neg (by omega)

/-- The six steps upwards add up the chunk's rows up to this one. -/
theorem up_all (a : Fin 256 → EReal) : up 32 (up 16 (up 8 (up 4 (up 2 (up 1 a))))) = pre a 64 := by
  have h := up_pre a 1
  rw [pre_one] at h
  rw [h, up_pre, up_pre, up_pre, up_pre, up_pre]

/-- The six steps downwards add up the chunk's rows from this one on. -/
theorem dn_all (a : Fin 256 → EReal) : dn 32 (dn 16 (dn 8 (dn 4 (dn 2 (dn 1 a))))) = suf a 64 := by
  have h := dn_suf a 1
  rw [suf_one] at h
  rw [h, dn_suf, dn_suf, dn_suf, dn_suf, dn_suf]

/-- The kernel's step upwards by `s` rows. -/
def stU (s : BitVec 32) (x : FVec Ideal S256x512 .f32) : FVec Ideal S256x512 .f32 :=
  addf x (select (cmpi .sge k0_pay31 (broadcast S256x512 s)) (dynamicRotate 0 s none x rotates_S256x512_d0)
    (broadcast S256x512 (Scalar.ofBits .f32 0x00000000#32)))

/-- The kernel's step downwards: rows whose place is before `q` take the row `256 - s` above, turning round. -/
def stD (q s : BitVec 32) (x : FVec Ideal S256x512 .f32) : FVec Ideal S256x512 .f32 :=
  addf x (select (cmpi .slt k0_pay31 (broadcast S256x512 q)) (dynamicRotate 0 s none x rotates_S256x512_d0)
    (broadcast S256x512 (Scalar.ofBits .f32 0x00000000#32)))

theorem stU_1 (x : FVec Ideal S256x512 .f32) (j : Fin 512) :
    (fun r => stU 1#32 x (ix2 r j)) = up 1 (fun r => x (ix2 r j)) := by
  have hc : ∀ r : Fin 256, IntOp.cmpi CmpIPredicate.sge (IntOp.andi (BitVec.ofNat 32 r.val) 63#32) 1#32
      = if 1 ≤ r.val % 64 then 1#1 else 0#1 := by decide +kernel
  funext r
  pointwise [stU, k0_pay31]
  exact congrArg₂ (· + ·) rfl (selIf _ _ (hc r) _ _)

theorem stD_1 (x : FVec Ideal S256x512 .f32) (j : Fin 512) :
    (fun r => stD 63#32 255#32 x (ix2 r j)) = dn 1 (fun r => x (ix2 r j)) := by
  have hc : ∀ r : Fin 256, IntOp.cmpi CmpIPredicate.slt (IntOp.andi (BitVec.ofNat 32 r.val) 63#32) 63#32
      = if r.val % 64 < 64 - 1 then 1#1 else 0#1 := by decide +kernel
  funext r
  pointwise [stD, k0_pay31]
  refine congrArg₂ (· + ·) rfl ((selIf _ _ (hc r) _ _).trans ?_)
  refine if_congr Iff.rfl (congrArg (fun q => x (ix2 q j)) (Fin.ext ?_)) rfl
  simp only
  omega

theorem stU_2 (x : FVec Ideal S256x512 .f32) (j : Fin 512) :
    (fun r => stU 2#32 x (ix2 r j)) = up 2 (fun r => x (ix2 r j)) := by
  have hc : ∀ r : Fin 256, IntOp.cmpi CmpIPredicate.sge (IntOp.andi (BitVec.ofNat 32 r.val) 63#32) 2#32
      = if 2 ≤ r.val % 64 then 1#1 else 0#1 := by decide +kernel
  funext r
  pointwise [stU, k0_pay31]
  exact congrArg₂ (· + ·) rfl (selIf _ _ (hc r) _ _)

theorem stD_2 (x : FVec Ideal S256x512 .f32) (j : Fin 512) :
    (fun r => stD 62#32 254#32 x (ix2 r j)) = dn 2 (fun r => x (ix2 r j)) := by
  have hc : ∀ r : Fin 256, IntOp.cmpi CmpIPredicate.slt (IntOp.andi (BitVec.ofNat 32 r.val) 63#32) 62#32
      = if r.val % 64 < 64 - 2 then 1#1 else 0#1 := by decide +kernel
  funext r
  pointwise [stD, k0_pay31]
  refine congrArg₂ (· + ·) rfl ((selIf _ _ (hc r) _ _).trans ?_)
  refine if_congr Iff.rfl (congrArg (fun q => x (ix2 q j)) (Fin.ext ?_)) rfl
  simp only
  omega

theorem stU_4 (x : FVec Ideal S256x512 .f32) (j : Fin 512) :
    (fun r => stU 4#32 x (ix2 r j)) = up 4 (fun r => x (ix2 r j)) := by
  have hc : ∀ r : Fin 256, IntOp.cmpi CmpIPredicate.sge (IntOp.andi (BitVec.ofNat 32 r.val) 63#32) 4#32
      = if 4 ≤ r.val % 64 then 1#1 else 0#1 := by decide +kernel
  funext r
  pointwise [stU, k0_pay31]
  exact congrArg₂ (· + ·) rfl (selIf _ _ (hc r) _ _)

theorem stD_4 (x : FVec Ideal S256x512 .f32) (j : Fin 512) :
    (fun r => stD 60#32 252#32 x (ix2 r j)) = dn 4 (fun r => x (ix2 r j)) := by
  have hc : ∀ r : Fin 256, IntOp.cmpi CmpIPredicate.slt (IntOp.andi (BitVec.ofNat 32 r.val) 63#32) 60#32
      = if r.val % 64 < 64 - 4 then 1#1 else 0#1 := by decide +kernel
  funext r
  pointwise [stD, k0_pay31]
  refine congrArg₂ (· + ·) rfl ((selIf _ _ (hc r) _ _).trans ?_)
  refine if_congr Iff.rfl (congrArg (fun q => x (ix2 q j)) (Fin.ext ?_)) rfl
  simp only
  omega

theorem stU_8 (x : FVec Ideal S256x512 .f32) (j : Fin 512) :
    (fun r => stU 8#32 x (ix2 r j)) = up 8 (fun r => x (ix2 r j)) := by
  have hc : ∀ r : Fin 256, IntOp.cmpi CmpIPredicate.sge (IntOp.andi (BitVec.ofNat 32 r.val) 63#32) 8#32
      = if 8 ≤ r.val % 64 then 1#1 else 0#1 := by decide +kernel
  funext r
  pointwise [stU, k0_pay31]
  exact congrArg₂ (· + ·) rfl (selIf _ _ (hc r) _ _)

theorem stD_8 (x : FVec Ideal S256x512 .f32) (j : Fin 512) :
    (fun r => stD 56#32 248#32 x (ix2 r j)) = dn 8 (fun r => x (ix2 r j)) := by
  have hc : ∀ r : Fin 256, IntOp.cmpi CmpIPredicate.slt (IntOp.andi (BitVec.ofNat 32 r.val) 63#32) 56#32
      = if r.val % 64 < 64 - 8 then 1#1 else 0#1 := by decide +kernel
  funext r
  pointwise [stD, k0_pay31]
  refine congrArg₂ (· + ·) rfl ((selIf _ _ (hc r) _ _).trans ?_)
  refine if_congr Iff.rfl (congrArg (fun q => x (ix2 q j)) (Fin.ext ?_)) rfl
  simp only
  omega

theorem stU_16 (x : FVec Ideal S256x512 .f32) (j : Fin 512) :
    (fun r => stU 16#32 x (ix2 r j)) = up 16 (fun r => x (ix2 r j)) := by
  have hc : ∀ r : Fin 256, IntOp.cmpi CmpIPredicate.sge (IntOp.andi (BitVec.ofNat 32 r.val) 63#32) 16#32
      = if 16 ≤ r.val % 64 then 1#1 else 0#1 := by decide +kernel
  funext r
  pointwise [stU, k0_pay31]
  exact congrArg₂ (· + ·) rfl (selIf _ _ (hc r) _ _)

theorem stD_16 (x : FVec Ideal S256x512 .f32) (j : Fin 512) :
    (fun r => stD 48#32 240#32 x (ix2 r j)) = dn 16 (fun r => x (ix2 r j)) := by
  have hc : ∀ r : Fin 256, IntOp.cmpi CmpIPredicate.slt (IntOp.andi (BitVec.ofNat 32 r.val) 63#32) 48#32
      = if r.val % 64 < 64 - 16 then 1#1 else 0#1 := by decide +kernel
  funext r
  pointwise [stD, k0_pay31]
  refine congrArg₂ (· + ·) rfl ((selIf _ _ (hc r) _ _).trans ?_)
  refine if_congr Iff.rfl (congrArg (fun q => x (ix2 q j)) (Fin.ext ?_)) rfl
  simp only
  omega

theorem stU_32 (x : FVec Ideal S256x512 .f32) (j : Fin 512) :
    (fun r => stU 32#32 x (ix2 r j)) = up 32 (fun r => x (ix2 r j)) := by
  have hc : ∀ r : Fin 256, IntOp.cmpi CmpIPredicate.sge (IntOp.andi (BitVec.ofNat 32 r.val) 63#32) 32#32
      = if 32 ≤ r.val % 64 then 1#1 else 0#1 := by decide +kernel
  funext r
  pointwise [stU, k0_pay31]
  exact congrArg₂ (· + ·) rfl (selIf _ _ (hc r) _ _)

theorem stD_32 (x : FVec Ideal S256x512 .f32) (j : Fin 512) :
    (fun r => stD 32#32 224#32 x (ix2 r j)) = dn 32 (fun r => x (ix2 r j)) := by
  have hc : ∀ r : Fin 256, IntOp.cmpi CmpIPredicate.slt (IntOp.andi (BitVec.ofNat 32 r.val) 63#32) 32#32
      = if r.val % 64 < 64 - 32 then 1#1 else 0#1 := by decide +kernel
  funext r
  pointwise [stD, k0_pay31]
  refine congrArg₂ (· + ·) rfl ((selIf _ _ (hc r) _ _).trans ?_)
  refine if_congr Iff.rfl (congrArg (fun q => x (ix2 q j)) (Fin.ext ?_)) rfl
  simp only
  omega

theorem pay41_st (a b : FVec Ideal S256x512 .f32) :
    k0_pay39 k0_pay31 (k0_pay36 k0_pay31 a b) = stU 32#32 (stU 16#32 (stU 8#32 (stU 4#32 (stU 2#32 (addf a b))))) := rfl

theorem pay42_st (a : FVec Ideal S256x512 .f32) :
    k0_pay40 k0_pay31 (k0_pay35 k0_pay31 a) (k0_pay37 k0_pay31) (k0_pay38 k0_pay31 a)
      = stD 32#32 224#32 (stD 48#32 240#32 (stD 56#32 248#32 (stD 60#32 252#32 (stD 62#32 254#32 (stD 63#32 255#32 a))))) := rfl

theorem pay34_st (h : FVec Ideal S256x1024 .bf16) (w : Vec Ideal S1024x128 .bf16) (u : Vec Ideal S128x1024 .bf16) (b : Vec Ideal S1x1024 .f32) :
    addf (k0_pay32 h w u b) (k0_pay34 h w u b) = stU 1#32 (k0_pay32 h w u b) := rfl

/-- The forward gate's tile: the running sums of the first half of the gate logits. -/
theorem bf_tile (h : FVec Ideal S256x1024 .bf16) (w : Vec Ideal S1024x128 .bf16) (u : Vec Ideal S128x1024 .bf16) (b : Vec Ideal S1x1024 .f32)
    (r : Fin 256) (j : Fin 512) :
    k0_pay39 k0_pay31 (k0_pay36 k0_pay31 (k0_pay32 h w u b) (k0_pay34 h w u b)) (ix2 r j)
      = pre (fun r => k0_pay32 h w u b (ix2 r j)) 64 r := by
  rw [pay41_st, pay34_st]
  refine (congrFun (stU_32 _ j) r).trans ?_
  rw [stU_16, stU_8, stU_4, stU_2, stU_1, up_all]

/-- The backward gate's tile: the sums onwards of the second half of the gate logits. -/
theorem bb_tile (a : FVec Ideal S256x512 .f32) (r : Fin 256) (j : Fin 512) :
    k0_pay40 k0_pay31 (k0_pay35 k0_pay31 a) (k0_pay37 k0_pay31) (k0_pay38 k0_pay31 a) (ix2 r j)
      = suf (fun r => a (ix2 r j)) 64 r := by
  rw [pay42_st]
  refine (congrFun (stD_32 _ j) r).trans ?_
  rw [stD_16, stD_8, stD_4, stD_2, stD_1, dn_all]

end Cert.Proof.Prj
-- ==== Proof.POut.lean ====
module

public import proofs.«01_k».proof.Proof.PScan
public import proofs.«01_k».proof.Proof.PMath
public import Idealize.ShloMosaic.Lib.UnfoldOut

/-!
# The projection kernel's blocks

What the body leaves in its ten output blocks, given what its input blocks hold.
-/

@[expose] public section

set_option maxRecDepth 16384

noncomputable section

namespace Cert.Proof.Prj

open Cert.ProjectIdeal Cert.ProjectIdeal.Gen
open Idealize.ShloMosaic

theorem ext3 {a b d : ℕ} (p q : (⟨3, ![a, b, d]⟩ : Shape).Idx) (h0 : (p 0).val = (q 0).val) (h1 : (p 1).val = (q 1).val)
    (h2 : (p 2).val = (q 2).val) : p = q := by
  funext i
  match i with
  | 0 => exact Fin.ext h0
  | 1 => exact Fin.ext h1
  | 2 => exact Fin.ext h2

/-- The queries' scale, `1 / sqrt 128` rounded to a binary32 number. -/
def qs : EReal := Ideal.ofBits FTy.f32 1035273459#32

/-- The gates' second weight, both directions in one matrix: the forward gate's in the first corner, the backward gate's
    in the next. -/
def upv (U1 U2 : T3 1 16 512) (x : Fin 128) (j : Fin 1024) : EReal :=
  if h : 16 ≤ x.val ∧ x.val < 32 ∧ 512 ≤ j.val then U2 (ix3 0 ⟨x.val - 16, by omega⟩ ⟨j.val - 512, by omega⟩)
  else if h : x.val < 16 ∧ j.val < 512 then U1 (ix3 0 ⟨x.val, h.1⟩ ⟨j.val, h.2⟩) else 0

/-- What the nine input blocks of a tile hold. -/
structure Blk (X : T3 8 4096 1024) (M : T3 16 1 3072) (N : T2 1 1024) (W : T3 1 1024 7200) (U1 U2 : T3 1 16 512) (B1 B2 : T2 1 512)
    (x0 : Vec Ideal S1x256x1024 .f32) (x1 x2 : Vec Ideal S1x1x1024 .f32) (x3 : Vec Ideal S1x1024 .f32)
    (x4 : Vec Ideal S6x256x128 .f32) (x5 : Vec Ideal S1024x7168 .bf16) (x6 : Vec Ideal S1024x128 .bf16) (x7 : Vec Ideal S128x1024 .bf16)
    (x8 : Vec Ideal S1x1024 .f32) (b : Fin 8) (lo : Fin 256 → Fin 4096) : Prop where
  x : ∀ r d, x0 (ix3 0 r d) = X (ix3 b (lo r) d)
  sh : ∀ d : Fin 1024, x1 (ix3 0 0 d) = M (ix3 ⟨b.val, by omega⟩ 0 ⟨d.val, by omega⟩)
  sc : ∀ d : Fin 1024, x2 (ix3 0 0 d) = M (ix3 ⟨b.val, by omega⟩ 0 ⟨1024 + d.val, by omega⟩)
  g : ∀ d : Fin 1024, x3 (ix2 0 d) = N (ix2 0 d)
  t0 : ∀ r j, x4 (ix3 0 r j) = Ideal.cos (ang (lo r) j) * qs
  t1 : ∀ r j, x4 (ix3 1 r j) = upT (lo r) j * qs
  t2 : ∀ r j, x4 (ix3 2 r j) = dnT (lo r) j * qs
  t3 : ∀ r j, x4 (ix3 3 r j) = Ideal.cos (ang (lo r) j)
  t4 : ∀ r j, x4 (ix3 4 r j) = upT (lo r) j
  t5 : ∀ r j, x4 (ix3 5 r j) = dnT (lo r) j
  wm : ∀ d j, x5 (ix2 d j) = W (ix3 0 d ⟨if j.val < 3072 then j.val else j.val + 32, by split <;> omega⟩)
  wl : ∀ (d : Fin 1024) (x : Fin 128), x6 (ix2 d x) = if h : x.val < 32 then W (ix3 0 d ⟨3072 + x.val, by omega⟩) else 0
  wu : ∀ (x : Fin 128) (j : Fin 1024), x7 (ix2 x j) = upv U1 U2 x j
  bu : ∀ j : Fin 1024, x8 (ix2 0 j) = if h : j.val < 512 then B1 (ix2 0 ⟨j.val, h⟩) else B2 (ix2 0 ⟨j.val - 512, by omega⟩)

section
variable (X : T3 8 4096 1024) (M : T3 16 1 3072) (N : T2 1 1024) (W : T3 1 1024 7200)

/-- The rotated queries. -/
def qv (b : Fin 8) (l : Fin 4096) (c : Fin 512) : EReal :=
  rot (fun i => pj X M N W b l ⟨128 * (c.val / 128) + i.val, by omega⟩ * qs) l ⟨c.val % 128, by omega⟩

/-- The rotated keys. -/
def kv (b : Fin 8) (l : Fin 4096) (c : Fin 512) : EReal :=
  rot (fun i => pj X M N W b l ⟨512 + (128 * (c.val / 128) + i.val), by omega⟩) l ⟨c.val % 128, by omega⟩

theorem qv_at (b : Fin 8) (l : Fin 4096) (n o : ℕ) (ho : o = 128 * n) (hn : o + 128 ≤ 512) (p : Fin 128 → EReal)
    (hp : ∀ i : Fin 128, p i = pj X M N W b l ⟨o + i.val, by omega⟩ * qs) (j : Fin 128) :
    rot p l j = qv X M N W b l ⟨o + j.val, by omega⟩ := by
  unfold qv
  have e2 : (⟨(o + j.val) % 128, by omega⟩ : Fin 128) = j := Fin.ext (by simp only; omega)
  simp only [e2]
  refine congrArg (fun p => rot p l j) (funext fun i => (hp i).trans ?_)
  exact congrArg (fun c => pj X M N W b l c * qs) (Fin.ext (by simp only; omega))

theorem kv_at (b : Fin 8) (l : Fin 4096) (n o : ℕ) (ho : o = 128 * n) (hn : o + 128 ≤ 512) (p : Fin 128 → EReal)
    (hp : ∀ i : Fin 128, p i = pj X M N W b l ⟨512 + (o + i.val), by omega⟩) (j : Fin 128) :
    rot p l j = kv X M N W b l ⟨o + j.val, by omega⟩ := by
  unfold kv
  have e2 : (⟨(o + j.val) % 128, by omega⟩ : Fin 128) = j := Fin.ext (by simp only; omega)
  simp only [e2]
  refine congrArg (fun p => rot p l j) (funext fun i => (hp i).trans ?_)
  exact congrArg (fun c => pj X M N W b l c) (Fin.ext (by simp only; omega))

end

variable {X : T3 8 4096 1024} {M : T3 16 1 3072} {N : T2 1 1024} {W : T3 1 1024 7200} {U1 U2 : T3 1 16 512} {B1 B2 : T2 1 512}
  {x0 : Vec Ideal S1x256x1024 .f32} {x1 x2 : Vec Ideal S1x1x1024 .f32} {x3 : Vec Ideal S1x1024 .f32}
  {x4 : Vec Ideal S6x256x128 .f32} {x5 : Vec Ideal S1024x7168 .bf16} {x6 : Vec Ideal S1024x128 .bf16} {x7 : Vec Ideal S128x1024 .bf16}
  {x8 : Vec Ideal S1x1024 .f32} {b : Fin 8} {lo : Fin 256 → Fin 4096}
  (H : Blk X M N W U1 U2 B1 B2 x0 x1 x2 x3 x4 x5 x6 x7 x8 b lo)

include H

/-- The tile's modulated normalised tokens. -/
theorem hh (r : Fin 256) (d : Fin 1024) :
    k0_pay2 (View.ld x0 r0_0) (View.ld x3 r0_1) (View.ld x2 r0_2) (View.ld x1 r0_2) (ix2 r d) = hv X M N b (lo r) d := by
  pointwise [k0_pay2]
  simp only [H.x, H.sc, H.sh, H.g]
  rfl

/-- A column of the tile's product with the weight. -/
theorem col (r : Fin 256) (c : Fin 7168) (c' : Fin 7200) (hc : (if c.val < 3072 then c.val else c.val + 32) = c'.val) :
    ∑ d : Fin 1024, k0_pay2 (View.ld x0 r0_0) (View.ld x3 r0_1) (View.ld x2 r0_2) (View.ld x1 r0_2) (ix2 r d) * x5 (ix2 d c)
      = pj X M N W b (lo r) c' := by
  refine Finset.sum_congr rfl fun d _ => ?_
  rw [hh H, H.wm]
  exact congrArg (fun q => hv X M N b (lo r) d * W (ix3 0 d q)) (Fin.ext hc)

omit H in
theorem glue1024 {V : S1x256x1024.Idx → EReal} {Q : Fin 256 → Fin 1024 → EReal} (hV : ∀ r j, V (ix3 0 r j) = Q r j)
    (e : S1x256x1024.Idx → S1x256x1024.Idx) (h1 : ∀ x, (e x 1).val = (x 1).val) (h2 : ∀ x, (e x 2).val = (x 2).val) (x : S1x256x1024.Idx) :
    V x = Q (e x 1) (e x 2) := by
  have hx : x = ix3 0 (x 1) (x 2) := ext3 _ _ (by have h : (x 0).val < 1 := (x 0).isLt; show (x 0).val = 0; omega) rfl rfl
  have e1 : e x 1 = x 1 := Fin.ext (h1 x)
  have e2 : e x 2 = x 2 := Fin.ext (h2 x)
  rw [e1, e2]
  exact (congrArg V hx).trans (hV _ _)

omit H in
theorem glue128 {V : S1x256x128.Idx → EReal} {Q : Fin 256 → Fin 512 → EReal} (o : ℕ) (ho : o + 128 ≤ 512) (hV : ∀ r j, V (ix3 0 r j) = Q r ⟨o + j.val, by omega⟩)
    (e : S1x256x128.Idx → S1x256x512.Idx) (h1 : ∀ x, (e x 1).val = (x 1).val) (h2 : ∀ x, (e x 2).val = o + (x 2).val) (x : S1x256x128.Idx) :
    V x = Q (e x 1) (e x 2) := by
  have hx : x = ix3 0 (x 1) (x 2) := ext3 _ _ (by have h : (x 0).val < 1 := (x 0).isLt; show (x 0).val = 0; omega) rfl rfl
  have e1 : e x 1 = x 1 := Fin.ext (h1 x)
  have e2 : e x 2 = ⟨o + (x 2).val, lt_of_lt_of_le (Nat.add_lt_add_left (x 2).isLt o) ho⟩ := Fin.ext (h2 x)
  rw [e1, e2]
  exact (congrArg V hx).trans (hV _ _)

omit H in
theorem glue512 {V : S1x256x512.Idx → EReal} {Q : Fin 256 → Fin 512 → EReal} (hV : ∀ r j, V (ix3 0 r j) = Q r j)
    (e : S1x256x512.Idx → S1x256x512.Idx) (h1 : ∀ x, (e x 1).val = (x 1).val) (h2 : ∀ x, (e x 2).val = (x 2).val) (x : S1x256x512.Idx) :
    V x = Q (e x 1) (e x 2) := by
  have hx : x = ix3 0 (x 1) (x 2) := ext3 _ _ (by have h : (x 0).val < 1 := (x 0).isLt; show (x 0).val = 0; omega) rfl rfl
  have e1 : e x 1 = x 1 := Fin.ext (h1 x)
  have e2 : e x 2 = x 2 := Fin.ext (h2 x)
  rw [e1, e2]
  exact (congrArg V hx).trans (hV _ _)

theorem t_v (r : Fin 256) (j : Fin 1024) :
    k0_pay24 (k0_pay23 (k0_pay2 (View.ld x0 r0_0) (View.ld x3 r0_1) (View.ld x2 r0_2) (View.ld x1 r0_2)) (View.ld x5 r0_15)) (ix3 0 r j) = pj X M N W b (lo r) ⟨1024 + j.val, by omega⟩ := by
  pointwise [k0_pay24, k0_pay23]
  exact col H r _ _ (by simp only; split <;> omega)

theorem o11 (y : S1x256x1024.Idx) : out0_11 x0 x1 x2 x3 x4 x5 x6 x7 x8 y = pj X M N W b (lo (y 1)) ⟨1024 + (y 2).val, by have : (y 2).val < 1024 := (y 2).isLt; omega⟩ := by
  unfold_out out0_11
  refine View.canon_apply_of_pieces (Val := Elt Ideal) (e := .bf16) (fun y : S1x256x1024.Idx => pj X M N W b (lo (y 1)) ⟨1024 + (y 2).val, by have : (y 2).val < 1024 := (y 2).isLt; omega⟩) _ ?_ y (cover0_11 _ y)
  intro pc hpc
  rcases List.mem_cons.mp hpc with rfl | hpc
  · exact glue1024 (Q := fun r j => pj X M N W b (lo r) ⟨1024 + j.val, by omega⟩) (t_v H) _ (fun x => show 0 + 1 * (x 1).val = (x 1).val by omega) (fun x => show 0 + 1 * (x 2).val = (x 2).val by omega)
  · nomatch hpc

theorem t_za (r : Fin 256) (j : Fin 1024) :
    k0_pay25 (k0_pay2 (View.ld x0 r0_0) (View.ld x3 r0_1) (View.ld x2 r0_2) (View.ld x1 r0_2)) (View.ld x5 r0_16) (ix3 0 r j) = pj X M N W b (lo r) ⟨2048 + j.val, by omega⟩ := by
  pointwise [k0_pay25]
  exact col H r _ _ (by simp only; split <;> omega)

theorem o12 (y : S1x256x1024.Idx) : out0_12 x0 x1 x2 x3 x4 x5 x6 x7 x8 y = pj X M N W b (lo (y 1)) ⟨2048 + (y 2).val, by have : (y 2).val < 1024 := (y 2).isLt; omega⟩ := by
  unfold_out out0_12
  refine View.canon_apply_of_pieces (Val := Elt Ideal) (e := .bf16) (fun y : S1x256x1024.Idx => pj X M N W b (lo (y 1)) ⟨2048 + (y 2).val, by have : (y 2).val < 1024 := (y 2).isLt; omega⟩) _ ?_ y (cover0_12 _ y)
  intro pc hpc
  rcases List.mem_cons.mp hpc with rfl | hpc
  · exact glue1024 (Q := fun r j => pj X M N W b (lo r) ⟨2048 + j.val, by omega⟩) (t_za H) _ (fun x => show 0 + 1 * (x 1).val = (x 1).val by omega) (fun x => show 0 + 1 * (x 2).val = (x 2).val by omega)
  · nomatch hpc

theorem t_ub (r : Fin 256) (j : Fin 1024) :
    k0_pay26 (k0_pay2 (View.ld x0 r0_0) (View.ld x3 r0_1) (View.ld x2 r0_2) (View.ld x1 r0_2)) (View.ld x5 r0_17) (ix3 0 r j) = pj X M N W b (lo r) ⟨3104 + j.val, by omega⟩ := by
  pointwise [k0_pay26]
  exact col H r _ _ (by simp only; split <;> omega)

theorem o13 (y : S1x256x1024.Idx) : out0_13 x0 x1 x2 x3 x4 x5 x6 x7 x8 y = pj X M N W b (lo (y 1)) ⟨3104 + (y 2).val, by have : (y 2).val < 1024 := (y 2).isLt; omega⟩ := by
  unfold_out out0_13
  refine View.canon_apply_of_pieces (Val := Elt Ideal) (e := .bf16) (fun y : S1x256x1024.Idx => pj X M N W b (lo (y 1)) ⟨3104 + (y 2).val, by have : (y 2).val < 1024 := (y 2).isLt; omega⟩) _ ?_ y (cover0_13 _ y)
  intro pc hpc
  rcases List.mem_cons.mp hpc with rfl | hpc
  · exact glue1024 (Q := fun r j => pj X M N W b (lo r) ⟨3104 + j.val, by omega⟩) (t_ub H) _ (fun x => show 0 + 1 * (x 1).val = (x 1).val by omega) (fun x => show 0 + 1 * (x 2).val = (x 2).val by omega)
  · nomatch hpc

theorem t_zb (r : Fin 256) (j : Fin 1024) :
    k0_pay27 (k0_pay2 (View.ld x0 r0_0) (View.ld x3 r0_1) (View.ld x2 r0_2) (View.ld x1 r0_2)) (View.ld x5 r0_18) (ix3 0 r j) = pj X M N W b (lo r) ⟨4128 + j.val, by omega⟩ := by
  pointwise [k0_pay27]
  exact col H r _ _ (by simp only; split <;> omega)

theorem o14 (y : S1x256x1024.Idx) : out0_14 x0 x1 x2 x3 x4 x5 x6 x7 x8 y = pj X M N W b (lo (y 1)) ⟨4128 + (y 2).val, by have : (y 2).val < 1024 := (y 2).isLt; omega⟩ := by
  unfold_out out0_14
  refine View.canon_apply_of_pieces (Val := Elt Ideal) (e := .bf16) (fun y : S1x256x1024.Idx => pj X M N W b (lo (y 1)) ⟨4128 + (y 2).val, by have : (y 2).val < 1024 := (y 2).isLt; omega⟩) _ ?_ y (cover0_14 _ y)
  intro pc hpc
  rcases List.mem_cons.mp hpc with rfl | hpc
  · exact glue1024 (Q := fun r j => pj X M N W b (lo r) ⟨4128 + j.val, by omega⟩) (t_zb H) _ (fun x => show 0 + 1 * (x 1).val = (x 1).val by omega) (fun x => show 0 + 1 * (x 2).val = (x 2).val by omega)
  · nomatch hpc

theorem t_ga (r : Fin 256) (j : Fin 1024) :
    k0_pay28 (k0_pay2 (View.ld x0 r0_0) (View.ld x3 r0_1) (View.ld x2 r0_2) (View.ld x1 r0_2)) (View.ld x5 r0_19) (ix3 0 r j) = pj X M N W b (lo r) ⟨5152 + j.val, by omega⟩ := by
  pointwise [k0_pay28]
  exact col H r _ _ (by simp only; split <;> omega)

theorem o15 (y : S1x256x1024.Idx) : out0_15 x0 x1 x2 x3 x4 x5 x6 x7 x8 y = pj X M N W b (lo (y 1)) ⟨5152 + (y 2).val, by have : (y 2).val < 1024 := (y 2).isLt; omega⟩ := by
  unfold_out out0_15
  refine View.canon_apply_of_pieces (Val := Elt Ideal) (e := .bf16) (fun y : S1x256x1024.Idx => pj X M N W b (lo (y 1)) ⟨5152 + (y 2).val, by have : (y 2).val < 1024 := (y 2).isLt; omega⟩) _ ?_ y (cover0_15 _ y)
  intro pc hpc
  rcases List.mem_cons.mp hpc with rfl | hpc
  · exact glue1024 (Q := fun r j => pj X M N W b (lo r) ⟨5152 + j.val, by omega⟩) (t_ga H) _ (fun x => show 0 + 1 * (x 1).val = (x 1).val by omega) (fun x => show 0 + 1 * (x 2).val = (x 2).val by omega)
  · nomatch hpc

theorem t_gb (r : Fin 256) (j : Fin 1024) :
    k0_pay29 (k0_pay2 (View.ld x0 r0_0) (View.ld x3 r0_1) (View.ld x2 r0_2) (View.ld x1 r0_2)) (View.ld x5 r0_20) (ix3 0 r j) = pj X M N W b (lo r) ⟨6176 + j.val, by omega⟩ := by
  pointwise [k0_pay29]
  exact col H r _ _ (by simp only; split <;> omega)

theorem o16 (y : S1x256x1024.Idx) : out0_16 x0 x1 x2 x3 x4 x5 x6 x7 x8 y = pj X M N W b (lo (y 1)) ⟨6176 + (y 2).val, by have : (y 2).val < 1024 := (y 2).isLt; omega⟩ := by
  unfold_out out0_16
  refine View.canon_apply_of_pieces (Val := Elt Ideal) (e := .bf16) (fun y : S1x256x1024.Idx => pj X M N W b (lo (y 1)) ⟨6176 + (y 2).val, by have : (y 2).val < 1024 := (y 2).isLt; omega⟩) _ ?_ y (cover0_16 _ y)
  intro pc hpc
  rcases List.mem_cons.mp hpc with rfl | hpc
  · exact glue1024 (Q := fun r j => pj X M N W b (lo r) ⟨6176 + j.val, by omega⟩) (t_gb H) _ (fun x => show 0 + 1 * (x 1).val = (x 1).val by omega) (fun x => show 0 + 1 * (x 2).val = (x 2).val by omega)
  · nomatch hpc

/-- The queries before the rotation. -/
theorem pq (r : Fin 256) (j : Fin 512) : k0_pay3 (View.ld x0 r0_0) (View.ld x3 r0_1) (View.ld x2 r0_2) (View.ld x1 r0_2) (View.ld x5 r0_3) (ix2 r j) = pj X M N W b (lo r) ⟨j.val, by omega⟩ := by
  pointwise [k0_pay3]
  exact col H r _ _ (by simp only; split <;> omega)

/-- The keys before the rotation. -/
theorem pk (r : Fin 256) (j : Fin 512) : k0_pay12 (k0_pay2 (View.ld x0 r0_0) (View.ld x3 r0_1) (View.ld x2 r0_2) (View.ld x1 r0_2)) (View.ld x5 r0_11) (ix2 r j) = pj X M N W b (lo r) ⟨512 + j.val, by omega⟩ := by
  pointwise [k0_pay12]
  exact col H r _ _ (by simp only; split <;> omega)

omit H in
/-- A head's rotation with the tables, the columns given by their numbers. -/
theorem rope (p : Fin 512 → EReal) (o : ℕ) (ho : o + 128 ≤ 512) (l : Fin 4096) (j : Fin 128) (j0 j1 j2 : Fin 512)
    (h0 : j0.val = o + j.val) (h1 : j1.val = o + (j.val + 128 - 96) % 128) (h2 : j2.val = o + (j.val + 128 - 32) % 128) :
    p j0 * Ideal.cos (ang l j) + p j1 * upT l j + p j2 * dnT l j = rot (fun i => p ⟨o + i.val, by clear h0 h1 h2; omega⟩) l j := by
  have e0 : j0 = ⟨o + j.val, by clear h0 h1 h2; omega⟩ := Fin.ext h0
  have e1 : j1 = ⟨o + (j.val + 128 - 96) % 128, by clear h0 h1 h2; omega⟩ := Fin.ext h1
  have e2 : j2 = ⟨o + (j.val + 128 - 32) % 128, by clear h0 h1 h2; omega⟩ := Fin.ext h2
  subst e0 e1 e2
  rw [← rot_tab]

omit H in
theorem ropeS (p : Fin 512 → EReal) (o : ℕ) (ho : o + 128 ≤ 512) (l : Fin 4096) (j : Fin 128) (j0 j1 j2 : Fin 512)
    (h0 : j0.val = o + j.val) (h1 : j1.val = o + (j.val + 128 - 96) % 128) (h2 : j2.val = o + (j.val + 128 - 32) % 128) :
    p j0 * (Ideal.cos (ang l j) * qs) + p j1 * (upT l j * qs) + p j2 * (dnT l j * qs) = rot (fun i => p ⟨o + i.val, by clear h0 h1 h2; omega⟩ * qs) l j := by
  have e0 : j0 = ⟨o + j.val, by clear h0 h1 h2; omega⟩ := Fin.ext h0
  have e1 : j1 = ⟨o + (j.val + 128 - 96) % 128, by clear h0 h1 h2; omega⟩ := Fin.ext h1
  have e2 : j2 = ⟨o + (j.val + 128 - 32) % 128, by clear h0 h1 h2; omega⟩ := Fin.ext h2
  subst e0 e1 e2
  rw [← rot_tab_scale]

theorem q_0 (r : Fin 256) (j : Fin 128) :
    k0_pay7 (k0_pay3 (View.ld x0 r0_0) (View.ld x3 r0_1) (View.ld x2 r0_2) (View.ld x1 r0_2) (View.ld x5 r0_3)) (k0_pay4 (View.ld x4 r0_4)) (k0_pay5 (View.ld x4 r0_5)) (View.ld x4 r0_6) (ix3 0 r j)
      = rot (fun i => pj X M N W b (lo r) ⟨i.val, by omega⟩ * qs) (lo r) j := by
  pointwise [k0_pay7, k0_pay6, k0_pay4, k0_pay5]
  simp only [pq H, H.t0, H.t1, H.t2]
  exact rot_tab_scale qs (fun i : Fin 128 => pj X M N W b (lo r) ⟨i.val, by omega⟩) (lo r) j

theorem q_1 (r : Fin 256) (j : Fin 128) :
    k0_pay8 (k0_pay3 (View.ld x0 r0_0) (View.ld x3 r0_1) (View.ld x2 r0_2) (View.ld x1 r0_2) (View.ld x5 r0_3)) (k0_pay4 (View.ld x4 r0_4)) (k0_pay5 (View.ld x4 r0_5)) (View.ld x4 r0_6) (ix3 0 r j)
      = rot (fun i => pj X M N W b (lo r) ⟨128 + i.val, by omega⟩ * qs) (lo r) j := by
  pointwise [k0_pay8, k0_pay6, k0_pay4, k0_pay5]
  simp only [pq H, H.t0, H.t1, H.t2]
  exact ropeS (fun c => pj X M N W b (lo r) ⟨c.val, by omega⟩) 128 (by omega) (lo r) j ⟨128 + j.val, by omega⟩ ⟨128 + (j.val + 128 - 96) % 128, by omega⟩ ⟨128 + (j.val + 128 - 32) % 128, by omega⟩ rfl rfl rfl

theorem q_2 (r : Fin 256) (j : Fin 128) :
    k0_pay9 (k0_pay3 (View.ld x0 r0_0) (View.ld x3 r0_1) (View.ld x2 r0_2) (View.ld x1 r0_2) (View.ld x5 r0_3)) (k0_pay4 (View.ld x4 r0_4)) (k0_pay5 (View.ld x4 r0_5)) (View.ld x4 r0_6) (ix3 0 r j)
      = rot (fun i => pj X M N W b (lo r) ⟨256 + i.val, by omega⟩ * qs) (lo r) j := by
  pointwise [k0_pay9, k0_pay6, k0_pay4, k0_pay5]
  simp only [pq H, H.t0, H.t1, H.t2]
  exact ropeS (fun c => pj X M N W b (lo r) ⟨c.val, by omega⟩) 256 (by omega) (lo r) j ⟨256 + j.val, by omega⟩ ⟨256 + (j.val + 128 - 96) % 128, by omega⟩ ⟨256 + (j.val + 128 - 32) % 128, by omega⟩ rfl rfl rfl

theorem q_3 (r : Fin 256) (j : Fin 128) :
    k0_pay11 (k0_pay4 (View.ld x4 r0_4)) (k0_pay5 (View.ld x4 r0_5)) (k0_pay6 (View.ld x4 r0_6)) (k0_pay10 (k0_pay3 (View.ld x0 r0_0) (View.ld x3 r0_1) (View.ld x2 r0_2) (View.ld x1 r0_2) (View.ld x5 r0_3))) (ix3 0 r j)
      = rot (fun i => pj X M N W b (lo r) ⟨384 + i.val, by omega⟩ * qs) (lo r) j := by
  pointwise [k0_pay11, k0_pay10, k0_pay6, k0_pay4, k0_pay5]
  simp only [pq H, H.t0, H.t1, H.t2]
  exact ropeS (fun c => pj X M N W b (lo r) ⟨c.val, by omega⟩) 384 (by omega) (lo r) j ⟨384 + j.val, by omega⟩ ⟨384 + (j.val + 128 - 96) % 128, by omega⟩ ⟨384 + (j.val + 128 - 32) % 128, by omega⟩ rfl rfl rfl

theorem k_0 (r : Fin 256) (j : Fin 128) :
    k0_pay16 (k0_pay2 (View.ld x0 r0_0) (View.ld x3 r0_1) (View.ld x2 r0_2) (View.ld x1 r0_2)) (View.ld x5 r0_11) (View.ld x4 r0_12) (View.ld x4 r0_13) (View.ld x4 r0_14) (ix3 0 r j)
      = rot (fun i => pj X M N W b (lo r) ⟨512 + i.val, by omega⟩) (lo r) j := by
  pointwise [k0_pay16, k0_pay13, k0_pay14, k0_pay15]
  simp only [pk H, H.t3, H.t4, H.t5]
  exact rot_tab (fun i : Fin 128 => pj X M N W b (lo r) ⟨512 + i.val, by omega⟩) (lo r) j

theorem k_1 (r : Fin 256) (j : Fin 128) :
    k0_pay20 (k0_pay14 (View.ld x4 r0_13)) (k0_pay15 (View.ld x4 r0_14)) (k0_pay17 (k0_pay2 (View.ld x0 r0_0) (View.ld x3 r0_1) (View.ld x2 r0_2) (View.ld x1 r0_2)) (View.ld x5 r0_11)) (k0_pay18 (k0_pay2 (View.ld x0 r0_0) (View.ld x3 r0_1) (View.ld x2 r0_2) (View.ld x1 r0_2)) (View.ld x5 r0_11) (View.ld x4 r0_12)) (k0_pay19 (k0_pay2 (View.ld x0 r0_0) (View.ld x3 r0_1) (View.ld x2 r0_2) (View.ld x1 r0_2)) (View.ld x5 r0_11)) (ix3 0 r j)
      = rot (fun i => pj X M N W b (lo r) ⟨512 + (128 + i.val), by omega⟩) (lo r) j := by
  pointwise [k0_pay20, k0_pay17, k0_pay18, k0_pay19, k0_pay13, k0_pay14, k0_pay15]
  simp only [pk H, H.t3, H.t4, H.t5]
  exact rope (fun c => pj X M N W b (lo r) ⟨512 + c.val, by omega⟩) 128 (by omega) (lo r) j ⟨128 + j.val, by omega⟩ ⟨128 + (j.val + 128 - 96) % 128, by omega⟩ ⟨128 + (j.val + 128 - 32) % 128, by omega⟩ rfl rfl rfl

theorem k_2 (r : Fin 256) (j : Fin 128) :
    k0_pay21 (k0_pay12 (k0_pay2 (View.ld x0 r0_0) (View.ld x3 r0_1) (View.ld x2 r0_2) (View.ld x1 r0_2)) (View.ld x5 r0_11)) (k0_pay13 (View.ld x4 r0_12)) (k0_pay14 (View.ld x4 r0_13)) (k0_pay15 (View.ld x4 r0_14)) (ix3 0 r j)
      = rot (fun i => pj X M N W b (lo r) ⟨512 + (256 + i.val), by omega⟩) (lo r) j := by
  pointwise [k0_pay21, k0_pay13, k0_pay14, k0_pay15]
  simp only [pk H, H.t3, H.t4, H.t5]
  exact rope (fun c => pj X M N W b (lo r) ⟨512 + c.val, by omega⟩) 256 (by omega) (lo r) j ⟨256 + j.val, by omega⟩ ⟨256 + (j.val + 128 - 96) % 128, by omega⟩ ⟨256 + (j.val + 128 - 32) % 128, by omega⟩ rfl rfl rfl

theorem k_3 (r : Fin 256) (j : Fin 128) :
    k0_pay22 (k0_pay12 (k0_pay2 (View.ld x0 r0_0) (View.ld x3 r0_1) (View.ld x2 r0_2) (View.ld x1 r0_2)) (View.ld x5 r0_11)) (k0_pay13 (View.ld x4 r0_12)) (k0_pay14 (View.ld x4 r0_13)) (k0_pay15 (View.ld x4 r0_14)) (ix3 0 r j)
      = rot (fun i => pj X M N W b (lo r) ⟨512 + (384 + i.val), by omega⟩) (lo r) j := by
  pointwise [k0_pay22, k0_pay13, k0_pay14, k0_pay15]
  simp only [pk H, H.t3, H.t4, H.t5]
  exact rope (fun c => pj X M N W b (lo r) ⟨512 + c.val, by omega⟩) 384 (by omega) (lo r) j ⟨384 + j.val, by omega⟩ ⟨384 + (j.val + 128 - 96) % 128, by omega⟩ ⟨384 + (j.val + 128 - 32) % 128, by omega⟩ rfl rfl rfl

theorem q_0' (r : Fin 256) (j : Fin 128) :
    k0_pay7 (k0_pay3 (View.ld x0 r0_0) (View.ld x3 r0_1) (View.ld x2 r0_2) (View.ld x1 r0_2) (View.ld x5 r0_3)) (k0_pay4 (View.ld x4 r0_4)) (k0_pay5 (View.ld x4 r0_5)) (View.ld x4 r0_6) (ix3 0 r j) = qv X M N W b (lo r) ⟨0 + j.val, by omega⟩ :=
  (q_0 H r j).trans (qv_at _ _ _ _ _ _ 0 0 (by omega) (by omega) _ (fun i => by simp only [Nat.zero_add]) j)

theorem q_1' (r : Fin 256) (j : Fin 128) :
    k0_pay8 (k0_pay3 (View.ld x0 r0_0) (View.ld x3 r0_1) (View.ld x2 r0_2) (View.ld x1 r0_2) (View.ld x5 r0_3)) (k0_pay4 (View.ld x4 r0_4)) (k0_pay5 (View.ld x4 r0_5)) (View.ld x4 r0_6) (ix3 0 r j) = qv X M N W b (lo r) ⟨128 + j.val, by omega⟩ :=
  (q_1 H r j).trans (qv_at _ _ _ _ _ _ 1 128 (by omega) (by omega) _ (fun i => rfl) j)

theorem q_2' (r : Fin 256) (j : Fin 128) :
    k0_pay9 (k0_pay3 (View.ld x0 r0_0) (View.ld x3 r0_1) (View.ld x2 r0_2) (View.ld x1 r0_2) (View.ld x5 r0_3)) (k0_pay4 (View.ld x4 r0_4)) (k0_pay5 (View.ld x4 r0_5)) (View.ld x4 r0_6) (ix3 0 r j) = qv X M N W b (lo r) ⟨256 + j.val, by omega⟩ :=
  (q_2 H r j).trans (qv_at _ _ _ _ _ _ 2 256 (by omega) (by omega) _ (fun i => rfl) j)

theorem q_3' (r : Fin 256) (j : Fin 128) :
    k0_pay11 (k0_pay4 (View.ld x4 r0_4)) (k0_pay5 (View.ld x4 r0_5)) (k0_pay6 (View.ld x4 r0_6)) (k0_pay10 (k0_pay3 (View.ld x0 r0_0) (View.ld x3 r0_1) (View.ld x2 r0_2) (View.ld x1 r0_2) (View.ld x5 r0_3))) (ix3 0 r j) = qv X M N W b (lo r) ⟨384 + j.val, by omega⟩ :=
  (q_3 H r j).trans (qv_at _ _ _ _ _ _ 3 384 (by omega) (by omega) _ (fun i => rfl) j)

theorem o9 (y : S1x256x512.Idx) : out0_9 x0 x1 x2 x3 x4 x5 x6 x7 x8 y = qv X M N W b (lo (y 1)) (y 2) := by
  unfold_out out0_9
  refine View.canon_apply_of_pieces (Val := Elt Ideal) (e := .bf16) (fun y : S1x256x512.Idx => qv X M N W b (lo (y 1)) (y 2)) _ ?_ y (cover0_9 _ _ _ _ y)
  intro pc hpc
  rcases List.mem_cons.mp hpc with rfl | hpc
  · exact glue128 (Q := fun r j => qv X M N W b (lo r) j) 384 (by omega) (q_3' H) _ (fun x => show 0 + 1 * (x 1).val = (x 1).val by omega) (fun x => show 384 + 1 * (x 2).val = 384 + (x 2).val by omega)
  rcases List.mem_cons.mp hpc with rfl | hpc
  · exact glue128 (Q := fun r j => qv X M N W b (lo r) j) 256 (by omega) (q_2' H) _ (fun x => show 0 + 1 * (x 1).val = (x 1).val by omega) (fun x => show 256 + 1 * (x 2).val = 256 + (x 2).val by omega)
  rcases List.mem_cons.mp hpc with rfl | hpc
  · exact glue128 (Q := fun r j => qv X M N W b (lo r) j) 128 (by omega) (q_1' H) _ (fun x => show 0 + 1 * (x 1).val = (x 1).val by omega) (fun x => show 128 + 1 * (x 2).val = 128 + (x 2).val by omega)
  rcases List.mem_cons.mp hpc with rfl | hpc
  · exact glue128 (Q := fun r j => qv X M N W b (lo r) j) 0 (by omega) (q_0' H) _ (fun x => show 0 + 1 * (x 1).val = (x 1).val by omega) (fun x => show 0 + 1 * (x 2).val = 0 + (x 2).val by omega)
  nomatch hpc

theorem k_0' (r : Fin 256) (j : Fin 128) :
    k0_pay16 (k0_pay2 (View.ld x0 r0_0) (View.ld x3 r0_1) (View.ld x2 r0_2) (View.ld x1 r0_2)) (View.ld x5 r0_11) (View.ld x4 r0_12) (View.ld x4 r0_13) (View.ld x4 r0_14) (ix3 0 r j) = kv X M N W b (lo r) ⟨0 + j.val, by omega⟩ :=
  (k_0 H r j).trans (kv_at _ _ _ _ _ _ 0 0 (by omega) (by omega) _ (fun i => by simp only [Nat.zero_add]) j)

theorem k_1' (r : Fin 256) (j : Fin 128) :
    k0_pay20 (k0_pay14 (View.ld x4 r0_13)) (k0_pay15 (View.ld x4 r0_14)) (k0_pay17 (k0_pay2 (View.ld x0 r0_0) (View.ld x3 r0_1) (View.ld x2 r0_2) (View.ld x1 r0_2)) (View.ld x5 r0_11)) (k0_pay18 (k0_pay2 (View.ld x0 r0_0) (View.ld x3 r0_1) (View.ld x2 r0_2) (View.ld x1 r0_2)) (View.ld x5 r0_11) (View.ld x4 r0_12)) (k0_pay19 (k0_pay2 (View.ld x0 r0_0) (View.ld x3 r0_1) (View.ld x2 r0_2) (View.ld x1 r0_2)) (View.ld x5 r0_11)) (ix3 0 r j) = kv X M N W b (lo r) ⟨128 + j.val, by omega⟩ :=
  (k_1 H r j).trans (kv_at _ _ _ _ _ _ 1 128 (by omega) (by omega) _ (fun i => rfl) j)

theorem k_2' (r : Fin 256) (j : Fin 128) :
    k0_pay21 (k0_pay12 (k0_pay2 (View.ld x0 r0_0) (View.ld x3 r0_1) (View.ld x2 r0_2) (View.ld x1 r0_2)) (View.ld x5 r0_11)) (k0_pay13 (View.ld x4 r0_12)) (k0_pay14 (View.ld x4 r0_13)) (k0_pay15 (View.ld x4 r0_14)) (ix3 0 r j) = kv X M N W b (lo r) ⟨256 + j.val, by omega⟩ :=
  (k_2 H r j).trans (kv_at _ _ _ _ _ _ 2 256 (by omega) (by omega) _ (fun i => rfl) j)

theorem k_3' (r : Fin 256) (j : Fin 128) :
    k0_pay22 (k0_pay12 (k0_pay2 (View.ld x0 r0_0) (View.ld x3 r0_1) (View.ld x2 r0_2) (View.ld x1 r0_2)) (View.ld x5 r0_11)) (k0_pay13 (View.ld x4 r0_12)) (k0_pay14 (View.ld x4 r0_13)) (k0_pay15 (View.ld x4 r0_14)) (ix3 0 r j) = kv X M N W b (lo r) ⟨384 + j.val, by omega⟩ :=
  (k_3 H r j).trans (kv_at _ _ _ _ _ _ 3 384 (by omega) (by omega) _ (fun i => rfl) j)

theorem o10 (y : S1x256x512.Idx) : out0_10 x0 x1 x2 x3 x4 x5 x6 x7 x8 y = kv X M N W b (lo (y 1)) (y 2) := by
  unfold_out out0_10
  refine View.canon_apply_of_pieces (Val := Elt Ideal) (e := .bf16) (fun y : S1x256x512.Idx => kv X M N W b (lo (y 1)) (y 2)) _ ?_ y (cover0_10 _ _ _ _ y)
  intro pc hpc
  rcases List.mem_cons.mp hpc with rfl | hpc
  · exact glue128 (Q := fun r j => kv X M N W b (lo r) j) 384 (by omega) (k_3' H) _ (fun x => show 0 + 1 * (x 1).val = (x 1).val by omega) (fun x => show 384 + 1 * (x 2).val = 384 + (x 2).val by omega)
  rcases List.mem_cons.mp hpc with rfl | hpc
  · exact glue128 (Q := fun r j => kv X M N W b (lo r) j) 256 (by omega) (k_2' H) _ (fun x => show 0 + 1 * (x 1).val = (x 1).val by omega) (fun x => show 256 + 1 * (x 2).val = 256 + (x 2).val by omega)
  rcases List.mem_cons.mp hpc with rfl | hpc
  · exact glue128 (Q := fun r j => kv X M N W b (lo r) j) 128 (by omega) (k_1' H) _ (fun x => show 0 + 1 * (x 1).val = (x 1).val by omega) (fun x => show 128 + 1 * (x 2).val = 128 + (x 2).val by omega)
  rcases List.mem_cons.mp hpc with rfl | hpc
  · exact glue128 (Q := fun r j => kv X M N W b (lo r) j) 0 (by omega) (k_0' H) _ (fun x => show 0 + 1 * (x 1).val = (x 1).val by omega) (fun x => show 0 + 1 * (x 2).val = 0 + (x 2).val by omega)
  nomatch hpc

/-- A low-rank column. -/
theorem lr (r : Fin 256) (x : Fin 128) (hx : x.val < 32) (c' : Fin 7200) (hc : 3072 + x.val = c'.val) :
    ∑ d : Fin 1024, k0_pay2 (View.ld x0 r0_0) (View.ld x3 r0_1) (View.ld x2 r0_2) (View.ld x1 r0_2) (ix2 r d) * x6 (ix2 d x) = pj X M N W b (lo r) c' := by
  refine Finset.sum_congr rfl fun d _ => ?_
  rw [hh H, H.wl, dif_pos hx]
  exact congrArg (fun q => hv X M N b (lo r) d * W (ix3 0 d q)) (Fin.ext hc)

/-- The forward gate's logarithms. -/
theorem g_f (r : Fin 256) (j : Fin 512) :
    k0_pay32 (k0_pay2 (View.ld x0 r0_0) (View.ld x3 r0_1) (View.ld x2 r0_2) (View.ld x1 r0_2)) (View.ld x6 r0_21) (View.ld x7 r0_22) (View.ld x8 r0_1) (ix2 r j)
      = la X M N W 3072 (by omega) U1 B1 b (lo r) j := by
  pointwise [k0_pay32, k0_pay30]
  refine congrArg lsg (congrArg₂ (· + ·) ?_ ?_)
  · rw [sum_first _ (fun x hx => ?_)]
    · refine Finset.sum_congr rfl fun y _ => ?_
      rw [lr H r ⟨y.val, by omega⟩ (by simp only; omega) ⟨3072 + y.val, by omega⟩ rfl, H.wu]
      refine congrArg (pj X M N W b (lo r) ⟨3072 + y.val, by omega⟩ * ·) ?_
      unfold upv
      rw [dif_neg (by simp only; omega), dif_pos ⟨y.isLt, j.isLt⟩]
    · rw [H.wu]
      unfold upv
      rw [dif_neg (by simp only; omega), dif_neg (by simp only; omega), mul_zero]
  · rw [H.bu, dif_pos j.isLt]

/-- The backward gate's logarithms. -/
theorem g_b (r : Fin 256) (j : Fin 512) :
    k0_pay33 (k0_pay2 (View.ld x0 r0_0) (View.ld x3 r0_1) (View.ld x2 r0_2) (View.ld x1 r0_2)) (View.ld x6 r0_21) (View.ld x7 r0_22) (View.ld x8 r0_1) (ix2 r j)
      = la X M N W 3088 (by omega) U2 B2 b (lo r) j := by
  pointwise [k0_pay33, k0_pay30]
  refine congrArg lsg (congrArg₂ (· + ·) ?_ ?_)
  · rw [sum_second _ (fun x hx => ?_)]
    · refine Finset.sum_congr rfl fun y _ => ?_
      rw [lr H r ⟨16 + y.val, by omega⟩ (by simp only; omega) ⟨3088 + y.val, by omega⟩ (by simp only; omega), H.wu]
      refine congrArg (pj X M N W b (lo r) ⟨3088 + y.val, by omega⟩ * ·) ?_
      unfold upv
      rw [dif_pos (by simp only; omega)]
      exact congrArg₂ (fun p q => U2 (ix3 0 p q)) (Fin.ext (by simp only; omega)) (Fin.ext (by simp only; omega))
    · rw [H.wu]
      unfold upv
      rw [dif_neg (by simp only; omega), dif_neg (by simp only; omega), mul_zero]
  · rw [H.bu, dif_neg (by simp only; omega)]
    exact congrArg (fun q => B2 (ix2 0 q)) (Fin.ext (by simp only; omega))

theorem t_bf (r : Fin 256) (j : Fin 512) :
    k0_pay41 k0_pay31 (k0_pay36 k0_pay31 (k0_pay32 (k0_pay2 (View.ld x0 r0_0) (View.ld x3 r0_1) (View.ld x2 r0_2) (View.ld x1 r0_2)) (View.ld x6 r0_21) (View.ld x7 r0_22) (View.ld x8 r0_1)) (k0_pay34 (k0_pay2 (View.ld x0 r0_0) (View.ld x3 r0_1) (View.ld x2 r0_2) (View.ld x1 r0_2)) (View.ld x6 r0_21) (View.ld x7 r0_22) (View.ld x8 r0_1))) (ix3 0 r j)
      = pre (fun r => la X M N W 3072 (by omega) U1 B1 b (lo r) j) 64 r := by
  pointwise [k0_pay41]
  refine (bf_tile _ _ _ _ r j).trans ?_
  exact congrArg (fun a => pre a 64 r) (funext fun r => g_f H r j)

theorem t_bb (r : Fin 256) (j : Fin 512) :
    k0_pay42 k0_pay31 (k0_pay35 k0_pay31 (k0_pay33 (k0_pay2 (View.ld x0 r0_0) (View.ld x3 r0_1) (View.ld x2 r0_2) (View.ld x1 r0_2)) (View.ld x6 r0_21) (View.ld x7 r0_22) (View.ld x8 r0_1))) (k0_pay37 k0_pay31) (k0_pay38 k0_pay31 (k0_pay33 (k0_pay2 (View.ld x0 r0_0) (View.ld x3 r0_1) (View.ld x2 r0_2) (View.ld x1 r0_2)) (View.ld x6 r0_21) (View.ld x7 r0_22) (View.ld x8 r0_1))) (ix3 0 r j)
      = suf (fun r => la X M N W 3088 (by omega) U2 B2 b (lo r) j) 64 r := by
  pointwise [k0_pay42]
  refine (bb_tile _ r j).trans ?_
  exact congrArg (fun a => suf a 64 r) (funext fun r => g_b H r j)

theorem o17 (y : S1x256x512.Idx) : out0_17 x0 x1 x2 x3 x4 x5 x6 x7 x8 y = pre (fun r => la X M N W 3072 (by omega) U1 B1 b (lo r) (y 2)) 64 (y 1) := by
  unfold_out out0_17
  refine View.canon_apply_of_pieces (Val := Elt Ideal) (e := .f32) (fun y : S1x256x512.Idx => pre (fun r => la X M N W 3072 (by omega) U1 B1 b (lo r) (y 2)) 64 (y 1)) _ ?_ y (cover0_17 _ y)
  intro pc hpc
  rcases List.mem_cons.mp hpc with rfl | hpc
  · exact glue512 (Q := fun r j => pre (fun r => la X M N W 3072 (by omega) U1 B1 b (lo r) j) 64 r) (t_bf H) _ (fun x => show 0 + 1 * (x 1).val = (x 1).val by omega) (fun x => show 0 + 1 * (x 2).val = (x 2).val by omega)
  · nomatch hpc

theorem o18 (y : S1x256x512.Idx) : out0_18 x0 x1 x2 x3 x4 x5 x6 x7 x8 y = suf (fun r => la X M N W 3088 (by omega) U2 B2 b (lo r) (y 2)) 64 (y 1) := by
  unfold_out out0_18
  refine View.canon_apply_of_pieces (Val := Elt Ideal) (e := .f32) (fun y : S1x256x512.Idx => suf (fun r => la X M N W 3088 (by omega) U2 B2 b (lo r) (y 2)) 64 (y 1)) _ ?_ y (cover0_18 _ y)
  intro pc hpc
  rcases List.mem_cons.mp hpc with rfl | hpc
  · exact glue512 (Q := fun r j => suf (fun r => la X M N W 3088 (by omega) U2 B2 b (lo r) j) 64 r) (t_bb H) _ (fun x => show 0 + 1 * (x 1).val = (x 1).val by omega) (fun x => show 0 + 1 * (x 2).val = (x 2).val by omega)
  · nomatch hpc

end Cert.Proof.Prj

end
-- ==== Proof.PEntry.lean ====
module

public import Idealize.ShloMosaic.Lib.Pointwise
public import Idealize.ShloMosaic.Lib.StableHlo.ReadAt
public import Idealize.ShloMosaic.Lib.Routing.OpsSet
public import Idealize.ShloMosaic.Lib.Routing.OpsOne
public import proofs.«01_k».proof.Proof.POut

/-!
# What the arrays packed on the host hold when the projection's region is entered
-/
@[expose] public section

set_option maxRecDepth 16384

noncomputable section

namespace Cert.Proof.Prj

open Cert.ProjectIdeal Cert.ProjectIdeal.Gen
open Idealize.ShloMosaic Idealize.ShloMosaic.TcCoe
open Idealize.ShloMosaic.Pipeline (Dat Cfg Window)

/-- Where an update of the 16 by 512 block lands when the two index words are `a` and `b`. -/
theorem lands (idx : IVec S2 32) (a b : ℕ) (ha : (idx (ix1 0)).toInt = a) (hb : (idx (ix1 1)).toInt = b) (hA : a + 16 ≤ 128) (hB : b + 512 ≤ 1024)
    (k : S16x512.Idx) :
    scatter_S128x1024_S2_S16x512_01_n_01_0.resultIdx? k idx
      = some (ix2 ⟨a + (k 0).val, by have : (k 0).val < 16 := (k 0).isLt; omega⟩ ⟨b + (k 1).val, by have : (k 1).val < 512 := (k 1).isLt; omega⟩) := by
  have h0 : (k 0).val < 16 := (k 0).isLt
  have h1 : (k 1).val < 512 := (k 1).isLt
  have s0 : scatter_S128x1024_S2_S16x512_01_n_01_0.start k idx (0 : Fin 2) = a :=
    (Routing.start_pair (R := 128) (C := 1024) scatter_S128x1024_S2_S16x512_01_n_01_0 rfl rfl idx k 0).trans ha
  have s1 : scatter_S128x1024_S2_S16x512_01_n_01_0.start k idx (1 : Fin 2) = b :=
    (Routing.start_pair (R := 128) (C := 1024) scatter_S128x1024_S2_S16x512_01_n_01_0 rfl rfl idx k 1).trans hb
  have w0 : scatter_S128x1024_S2_S16x512_01_n_01_0.window k (0 : Fin 2) = (k 0).val := rfl
  have w1 : scatter_S128x1024_S2_S16x512_01_n_01_0.window k (1 : Fin 2) = (k 1).val := rfl
  unfold ScatterDims.resultIdx?
  have hall : ∀ q : Fin 2, 0 ≤ scatter_S128x1024_S2_S16x512_01_n_01_0.start k idx q + scatter_S128x1024_S2_S16x512_01_n_01_0.window k q
      ∧ scatter_S128x1024_S2_S16x512_01_n_01_0.start k idx q + scatter_S128x1024_S2_S16x512_01_n_01_0.window k q < S128x1024.size q := by
    intro q
    match q with
    | 0 => rw [s0, w0]; show _ ∧ _ < ((128 : ℕ) : ℤ); omega
    | 1 => rw [s1, w1]; show _ ∧ _ < ((1024 : ℕ) : ℤ); omega
  rw [dif_pos hall]
  refine congrArg some (funext fun q => ?_)
  match q with
  | 0 => exact Fin.ext (show (_ + _ : ℤ).toNat = a + (k 0).val by rw [s0, w0]; omega)
  | 1 => exact Fin.ext (show (_ + _ : ℤ).toNat = b + (k 1).val by rw [s1, w1]; omega)

/-- The block of updates put over a matrix at `(a, b)`. -/
theorem scat_at (x0 : S128x1024.Idx → EReal) (idx : IVec S2 32) (a b : ℕ) (ha : (idx (ix1 0)).toInt = a) (hb : (idx (ix1 1)).toInt = b)
    (hA : a + 16 ≤ 128) (hB : b + 512 ≤ 1024) (upd : S16x512.Idx → EReal) (r : Fin 128) (j : Fin 1024) :
    Host.scatter scatter_S128x1024_S2_S16x512_01_n_01_0 (fun _ b => b) x0 idx upd (ix2 r j)
      = if h : (a ≤ r.val ∧ r.val < a + 16) ∧ (b ≤ j.val ∧ j.val < b + 512) then upd (ix2 ⟨r.val - a, by omega⟩ ⟨j.val - b, by omega⟩) else x0 (ix2 r j) := by
  split
  · next h =>
    refine Routing.scatter_set_hit _ x0 idx upd _ _ (fun k hk => ?_) (ix2 ⟨r.val - a, by omega⟩ ⟨j.val - b, by omega⟩) ?_
    · rw [lands idx a b ha hb hA hB k] at hk
      have e := Option.some.inj hk
      have e0 : a + (k 0).val = r.val := congrArg (fun q : S128x1024.Idx => (q 0).val) e
      have e1 : b + (k 1).val = j.val := congrArg (fun q : S128x1024.Idx => (q 1).val) e
      refine congrArg upd (funext fun q => ?_)
      match q with
      | 0 => exact Fin.ext (show (k 0).val = r.val - a by omega)
      | 1 => exact Fin.ext (show (k 1).val = j.val - b by omega)
    · rw [lands idx a b ha hb hA hB]
      exact congrArg some (congrArg₂ ix2 (Fin.ext (show a + (r.val - a) = r.val by omega)) (Fin.ext (show b + (j.val - b) = j.val by omega)))
  · next h =>
    refine Routing.scatter_set_miss _ x0 idx upd _ (fun k hk => h ?_)
    rw [lands idx a b ha hb hA hB k] at hk
    have e := Option.some.inj hk
    have e0 : a + (k 0).val = r.val := congrArg (fun q : S128x1024.Idx => (q 0).val) e
    have e1 : b + (k 1).val = j.val := congrArg (fun q : S128x1024.Idx => (q 1).val) e
    have h0 : (k 0).val < 16 := (k 0).isLt
    have h1 : (k 1).val < 512 := (k 1).isLt
    omega

variable (m : (ℓ : Loc nD τ sig) → Buf (Elt Ideal) ℓ) (c : Dev nD)

theorem wMain (r : Fin 1024) (j : Fin 7168) :
    V m c main_v4 (ix2 r j) = (show T3 1 1024 7200 from m (c, Proc.tc.devRef main_arg3)) (ix3 0 r ⟨if j.val < 3072 then j.val else j.val + 32, by split <;> omega⟩) := by
  unfold V
  after_reads_at
  split
  · next h =>
    after_reads_at
  · next h =>
    after_reads_at
    exact congrArg (fun q => (show T3 1 1024 7200 from m (c, Proc.tc.devRef main_arg3)) (ix3 0 r q)) (Fin.ext (by simp only [if_neg h]; omega))

theorem wLr (r : Fin 1024) (j : Fin 128) :
    V m c main_v7 (ix2 r j) = if h : j.val < 32 then (show T3 1 1024 7200 from m (c, Proc.tc.devRef main_arg3)) (ix3 0 r ⟨3072 + j.val, by omega⟩) else (0 : EReal) := by
  unfold V
  after_reads_at
  refine dite_congr rfl (fun _ => rfl) (fun _ => ?_)
  show (((0#32 : BitVec 32).toInt : ℝ) : EReal) = 0
  simp

theorem bUp (j : Fin 1024) :
    V m c main_v23 (ix2 0 j) = if h : j.val < 512 then (show T2 1 512 from m (c, Proc.tc.devRef main_arg5)) (ix2 0 ⟨j.val, h⟩)
      else (show T2 1 512 from m (c, Proc.tc.devRef main_arg7)) (ix2 0 ⟨j.val - 512, by omega⟩) := by
  unfold V
  after_reads_at
  split
  · after_reads_at
  · after_reads_at

theorem nG (j : Fin 1024) :
    V m c main_v25 (ix2 0 j) = (show T2 1 1024 from m (c, Proc.tc.devRef main_arg2)) (ix2 0 j) := by
  unfold V
  after_reads_at

theorem wUp (r : Fin 128) (j : Fin 1024) :
    V m c main_v19 (ix2 r j) = upv (m (c, Proc.tc.devRef main_arg4)) (m (c, Proc.tc.devRef main_arg6)) r j := by
  unfold V
  after_reads_at
  refine (scat_at _ _ 16 512 ?_ ?_ (by omega) (by omega) _ r j).trans ?_
  · pointwise
    after_reads_at
    rfl
  · pointwise
    after_reads_at
    rfl
  unfold upv
  refine dite_congr (propext (by omega)) (fun _ => rfl) (fun _ => ?_)
  refine (scat_at _ _ 0 0 ?_ ?_ (by omega) (by omega) _ r j).trans ?_
  · pointwise
    after_reads_at
    rfl
  · pointwise
    after_reads_at
    rfl
  refine dite_congr (propext (by omega)) (fun _ => rfl) (fun _ => ?_)
  pointwise

theorem cond (j : Fin 128) :
    IntOp.cmpi CmpIPredicate.slt (colI (BitVec.ofNat 32 j.val)) 32#32 = if j.val % 64 < 32 then 1#1 else 0#1 := by
  revert j
  decide +kernel

/-- The first table. -/
theorem tab0 (l : Fin 4096) (j : Fin 128) : V m c main_v69 (ix3 0 l j) = (Ideal.cos (ang l j) * qs : EReal) := by
  unfold V
  after_reads_at
  after_reads_at
  refine congrArg₂ (· * ·) (congrArg Ideal.cos ?_) rfl
  · unfold ang
    refine dite_congr rfl (fun h => ?_) (fun h => dite_congr rfl (fun h => ?_) (fun h => dite_congr rfl (fun h => ?_) (fun h => ?_)))
    · after_reads_at
      rfl
    · after_reads_at
      rfl
    · after_reads_at
      rfl
    · after_reads_at
      rfl

/-- The second table. -/
theorem tab1 (l : Fin 4096) (j : Fin 128) : V m c main_v69 (ix3 1 l j) = (upT l j * qs : EReal) := by
  unfold V
  after_reads_at
  after_reads_at
  refine congrArg₂ (· * ·) ((selIf _ _ (cond j) _ _).trans (if_congr Iff.rfl (congrArg (fun a => -Ideal.sin a) ?_) ?_)) rfl
  · unfold ang
    refine dite_congr rfl (fun h => ?_) (fun h => dite_congr rfl (fun h => ?_) (fun h => dite_congr rfl (fun h => ?_) (fun h => ?_)))
    · after_reads_at
      rfl
    · after_reads_at
      rfl
    · after_reads_at
      rfl
    · after_reads_at
      rfl
  · exact Ideal.ofBits_zero_f32

/-- The third table. -/
theorem tab2 (l : Fin 4096) (j : Fin 128) : V m c main_v69 (ix3 2 l j) = (dnT l j * qs : EReal) := by
  unfold V
  after_reads_at
  after_reads_at
  refine congrArg₂ (· * ·) ((selIf _ _ (cond j) _ _).trans (if_congr Iff.rfl ?_ (congrArg Ideal.sin ?_))) rfl
  · exact Ideal.ofBits_zero_f32
  · unfold ang
    refine dite_congr rfl (fun h => ?_) (fun h => dite_congr rfl (fun h => ?_) (fun h => dite_congr rfl (fun h => ?_) (fun h => ?_)))
    · after_reads_at
      rfl
    · after_reads_at
      rfl
    · after_reads_at
      rfl
    · after_reads_at
      rfl

/-- The fourth table. -/
theorem tab3 (l : Fin 4096) (j : Fin 128) : V m c main_v69 (ix3 3 l j) = (Ideal.cos (ang l j) : EReal) := by
  unfold V
  after_reads_at
  after_reads_at
  refine congrArg Ideal.cos ?_
  · unfold ang
    refine dite_congr rfl (fun h => ?_) (fun h => dite_congr rfl (fun h => ?_) (fun h => dite_congr rfl (fun h => ?_) (fun h => ?_)))
    · after_reads_at
      rfl
    · after_reads_at
      rfl
    · after_reads_at
      rfl
    · after_reads_at
      rfl

/-- The fifth table. -/
theorem tab4 (l : Fin 4096) (j : Fin 128) : V m c main_v69 (ix3 4 l j) = (upT l j : EReal) := by
  unfold V
  after_reads_at
  after_reads_at
  refine (selIf _ _ (cond j) _ _).trans (if_congr Iff.rfl (congrArg (fun a => -Ideal.sin a) ?_) ?_)
  · unfold ang
    refine dite_congr rfl (fun h => ?_) (fun h => dite_congr rfl (fun h => ?_) (fun h => dite_congr rfl (fun h => ?_) (fun h => ?_)))
    · after_reads_at
      rfl
    · after_reads_at
      rfl
    · after_reads_at
      rfl
    · after_reads_at
      rfl
  · exact Ideal.ofBits_zero_f32

/-- The sixth table. -/
theorem tab5 (l : Fin 4096) (j : Fin 128) : V m c main_v69 (ix3 5 l j) = (dnT l j : EReal) := by
  unfold V
  after_reads_at
  after_reads_at
  refine (selIf _ _ (cond j) _ _).trans (if_congr Iff.rfl ?_ (congrArg Ideal.sin ?_))
  · exact Ideal.ofBits_zero_f32
  · unfold ang
    refine dite_congr rfl (fun h => ?_) (fun h => dite_congr rfl (fun h => ?_) (fun h => dite_congr rfl (fun h => ?_) (fun h => ?_)))
    · after_reads_at
      rfl
    · after_reads_at
      rfl
    · after_reads_at
      rfl
    · after_reads_at
      rfl

end Cert.Proof.Prj

end
-- ==== Proof.PCum.lean ====
module

public import proofs.«01_k».proof.Proof.POut

/-!
# Chunk sums and the rotation, on the whole sequence

The gates' running sums over a chunk of 64 tokens, the window sum that the reference takes for them, and the rotation of a
head's vector half by half.
-/

@[expose] public section

set_option maxRecDepth 16384

noncomputable section

namespace Cert.Proof.Prj

open Idealize.ShloMosaic

/-- The sum over the tokens of a chunk up to token `l`. -/
def cumF (a : Fin 4096 → EReal) (l : Fin 4096) : EReal :=
  ∑ k ∈ Finset.range 64, if k ≤ l.val % 64 then a ⟨l.val - k, by omega⟩ else 0

/-- The sum over the tokens of a chunk from token `l` on. -/
def cumB (a : Fin 4096 → EReal) (l : Fin 4096) : EReal :=
  ∑ k ∈ Finset.range 64, if h : l.val % 64 + k < 64 then a ⟨l.val + k, by omega⟩ else 0

theorem cumF_rev (a : Fin 4096 → EReal) (l : Fin 4096) : cumF (fun i => a (Fin.rev i)) (Fin.rev l) = cumB a l := by
  unfold cumF cumB
  refine Finset.sum_congr rfl fun k hk => ?_
  have hk := Finset.mem_range.mp hk
  have hl := l.isLt
  have hr : (Fin.rev l).val = 4095 - l.val := by rw [Fin.val_rev]; omega
  by_cases h : l.val % 64 + k < 64
  · rw [dif_pos h, if_pos (by rw [hr]; omega)]
    exact congrArg a (Fin.ext (by rw [Fin.val_rev]; simp only [hr]; omega))
  · rw [dif_neg h, if_neg (by rw [hr]; omega)]

theorem pre_cum (a : Fin 4096 → EReal) (q : Fin 16) (lo : Fin 256 → Fin 4096) (hlo : ∀ r, (lo r).val = 256 * q.val + r.val) (r : Fin 256) :
    pre (fun r => a (lo r)) 64 r = cumF a (lo r) := by
  unfold pre cumF
  refine Finset.sum_congr rfl fun k hk => ?_
  have hk := Finset.mem_range.mp hk
  have e := hlo r
  refine ite_congr (propext (by rw [e]; omega)) (fun h => ?_) (fun _ => rfl)
  exact congrArg a (Fin.ext (by rw [hlo]; simp only; omega))

theorem suf_cum (a : Fin 4096 → EReal) (q : Fin 16) (lo : Fin 256 → Fin 4096) (hlo : ∀ r, (lo r).val = 256 * q.val + r.val) (r : Fin 256) :
    suf (fun r => a (lo r)) 64 r = cumB a (lo r) := by
  unfold suf cumB
  refine Finset.sum_congr rfl fun k hk => ?_
  have hk := Finset.mem_range.mp hk
  have e := hlo r
  by_cases h : r.val % 64 + k < 64
  · rw [if_pos h, dif_pos (by rw [e]; omega)]
    exact congrArg a (Fin.ext (by rw [hlo]; simp only; omega))
  · rw [if_neg h, dif_neg (by rw [e]; omega)]

theorem foldl_sum {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons x l ih => intro v; rw [List.foldl_cons, ih, List.map_cons, List.sum_cons, add_assoc]
  rw [h, Fin.sum_univ_def]

abbrev W64 : Shape := ⟨4, ![1, 1, 64, 1]⟩

/-- A position of the window, by its place on the axis it slides along. -/
def winEq : Fin 64 ≃ W64.Idx where
  toFun k := ix4 0 0 k 0
  invFun w := w 2
  left_inv k := rfl
  right_inv w := by
    funext q
    match q with
    | 0 => exact Subsingleton.elim (α := Fin 1) _ _
    | 1 => exact Subsingleton.elim (α := Fin 1) _ _
    | 2 => rfl
    | 3 => exact Subsingleton.elim (α := Fin 1) _ _

abbrev SW : Shape := ⟨4, ![8, 64, 64, 512]⟩

/-- The sum over a window of 64 that ends at position `i`, padded with zeros. -/
theorem win {u : Shape} (x : SW.Idx → EReal) (init : u.Idx → EReal) (h : SW.ReduceWindows ![1, 1, 64, 1] ![1, 1, 1, 1] ![0, 0, 63, 0] ![0, 0, 0, 0] SW)
    (hu : 0 < u.numel) (hi : init (Shape.Idx.first hu) = 0) (b : Fin 8) (c i : Fin 64) (j : Fin 512) :
    Host.reduceWindow (s := SW) (t := SW) (· + ·) ![1, 1, 64, 1] ![1, 1, 1, 1] ![0, 0, 63, 0] ![0, 0, 0, 0] x init h hu (ix4 b c i j)
      = ∑ k ∈ Finset.range 64, if k ≤ i.val then x (ix4 b c ⟨i.val - k, by omega⟩ j) else 0 := by
  unfold Host.reduceWindow
  simp only [hi]
  refine (foldl_sum _ _).trans ?_
  rw [zero_add]
  let F : W64.Idx → EReal := fun w =>
    if h : 63 ≤ i.val + (w 2).val then x (ix4 b c ⟨i.val + (w 2).val - 63, by have : (w 2).val < 64 := (w 2).isLt; omega⟩ j) else 0
  have hF : ∀ w : W64.Idx, (if hin : ∀ a : Fin 4, (![0, 0, 63, 0] : Fin 4 → ℕ) a ≤ (ix4 b c i j (a.cast h.1.symm)).val * (![1, 1, 1, 1] : Fin 4 → ℕ) a + (w a).val
        ∧ (ix4 b c i j (a.cast h.1.symm)).val * (![1, 1, 1, 1] : Fin 4 → ℕ) a + (w a).val - (![0, 0, 63, 0] : Fin 4 → ℕ) a < SW.size a
      then x (fun a => ⟨(ix4 b c i j (a.cast h.1.symm)).val * (![1, 1, 1, 1] : Fin 4 → ℕ) a + (w a).val - (![0, 0, 63, 0] : Fin 4 → ℕ) a, (hin a).2⟩) else 0) = F w := by
    intro w
    have w0 : (w 0).val = 0 := by have : (w 0).val < 1 := (w 0).isLt; omega
    have w1 : (w 1).val = 0 := by have : (w 1).val < 1 := (w 1).isLt; omega
    have w2 : (w 2).val < 64 := (w 2).isLt
    have w3 : (w 3).val = 0 := by have : (w 3).val < 1 := (w 3).isLt; omega
    show _ = if h : 63 ≤ i.val + (w 2).val then _ else _
    by_cases hc : 63 ≤ i.val + (w 2).val
    · rw [dif_pos hc, dif_pos (fun a => by
        match a with
        | 0 => exact ⟨Nat.zero_le _, show b.val * 1 + (w 0).val - 0 < 8 by omega⟩
        | 1 => exact ⟨Nat.zero_le _, show c.val * 1 + (w 1).val - 0 < 64 by omega⟩
        | 2 => exact ⟨show 63 ≤ i.val * 1 + (w 2).val by omega, show i.val * 1 + (w 2).val - 63 < 64 by omega⟩
        | 3 => exact ⟨Nat.zero_le _, show j.val * 1 + (w 3).val - 0 < 512 by omega⟩)]
      refine congrArg x (funext fun a => ?_)
      match a with
      | 0 => exact Fin.ext (show b.val * 1 + (w 0).val - 0 = b.val by omega)
      | 1 => exact Fin.ext (show c.val * 1 + (w 1).val - 0 = c.val by omega)
      | 2 => exact Fin.ext (show i.val * 1 + (w 2).val - 63 = i.val + (w 2).val - 63 by omega)
      | 3 => exact Fin.ext (show j.val * 1 + (w 3).val - 0 = j.val by omega)
    · rw [dif_neg hc, dif_neg]
      intro hin
      have := (hin 2).1
      have : 63 ≤ i.val * 1 + (w 2).val := this
      omega
  refine (Finset.sum_congr rfl fun k _ => hF (W64.rowMajor.symm k)).trans ?_
  rw [Equiv.sum_comp W64.rowMajor.symm F, ← Equiv.sum_comp winEq F, ← Finset.sum_range_reflect, Finset.sum_range]
  refine Finset.sum_congr rfl fun k _ => ?_
  have hk := k.isLt
  show (if h : 63 ≤ i.val + k.val then _ else _) = _
  by_cases hc : 63 ≤ i.val + k.val
  · rw [dif_pos hc, if_pos (by omega)]
    exact congrArg (fun q => x (ix4 b c q j)) (Fin.ext (show i.val + k.val - 63 = i.val - (64 - 1 - k.val) by omega))
  · rw [dif_neg hc, if_neg (by omega)]

/-- The window sum over a sequence cut into chunks. -/
theorem win_cum {u : Shape} (x : SW.Idx → EReal) (init : u.Idx → EReal) (h : SW.ReduceWindows ![1, 1, 64, 1] ![1, 1, 1, 1] ![0, 0, 63, 0] ![0, 0, 0, 0] SW)
    (hu : 0 < u.numel) (hi : init (Shape.Idx.first hu) = 0) (b : Fin 8) (j : Fin 512) (a : Fin 4096 → EReal)
    (ha : ∀ c i : Fin 64, x (ix4 b c i j) = a ⟨c.val * 64 + i.val, by omega⟩) (l : Fin 4096) (c i : Fin 64) (hc : c.val = l.val / 64) (hi' : i.val = l.val % 64) :
    Host.reduceWindow (s := SW) (t := SW) (· + ·) ![1, 1, 64, 1] ![1, 1, 1, 1] ![0, 0, 63, 0] ![0, 0, 0, 0] x init h hu (ix4 b c i j) = cumF a l := by
  refine (win x init h hu hi b c i j).trans ?_
  unfold cumF
  refine Finset.sum_congr rfl fun k _ => ?_
  refine ite_congr (by rw [hi']) (fun hk => ?_) (fun _ => rfl)
  rw [ha]
  exact congrArg a (Fin.ext (by simp only; omega))

/-- The rotation from a head's four quarters. -/
theorem rot_half (p : Fin 128 → EReal) (l : Fin 4096) (A B C D cR sR cC sC : Fin 32 → EReal) (hA : ∀ j, A j = p ⟨j.val, by omega⟩)
    (hB : ∀ j, B j = p ⟨32 + j.val, by omega⟩) (hC : ∀ j, C j = p ⟨64 + j.val, by omega⟩) (hD : ∀ j, D j = p ⟨96 + j.val, by omega⟩)
    (h1 : ∀ j, cR j = Ideal.cos (rowA l j)) (h2 : ∀ j, sR j = Ideal.sin (rowA l j)) (h3 : ∀ j, cC j = Ideal.cos (colA l j))
    (h4 : ∀ j, sC j = Ideal.sin (colA l j)) (n : ℕ) (hn : n < 128) :
    (if h : n < 64 then
      if h1 : n < 32 then A ⟨n, h1⟩ * cR ⟨n, h1⟩ - B ⟨n, h1⟩ * sR ⟨n, h1⟩
      else A ⟨n - 32, by omega⟩ * sR ⟨n - 32, by omega⟩ + B ⟨n - 32, by omega⟩ * cR ⟨n - 32, by omega⟩
    else
      if h1 : n - 64 < 32 then C ⟨n - 64, h1⟩ * cC ⟨n - 64, h1⟩ - D ⟨n - 64, h1⟩ * sC ⟨n - 64, h1⟩
      else C ⟨n - 64 - 32, by omega⟩ * sC ⟨n - 64 - 32, by omega⟩ + D ⟨n - 64 - 32, by omega⟩ * cC ⟨n - 64 - 32, by omega⟩)
      = rot p l ⟨n, hn⟩ := by
  have pe : ∀ (x y : Fin 128), x.val = y.val → p x = p y := fun x y e => congrArg p (Fin.ext e)
  unfold rot ang
  simp only [hA, hB, hC, hD, h1, h2, h3, h4]
  by_cases c1 : n < 64
  · by_cases c2 : n < 32
    · rw [dif_pos c1, dif_pos c2, dif_pos (by omega), dif_pos c2]
      exact congrArg₂ (fun x y => x * _ - y * _) rfl (pe _ _ (by simp only; omega))
    · rw [dif_pos c1, dif_neg c2, dif_neg (by omega), dif_neg c2, dif_pos (by omega)]
      exact congrArg₂ (fun x y => x * _ + y * _) rfl (pe _ _ (by simp only; omega))
  · by_cases c2 : n - 64 < 32
    · rw [dif_neg c1, dif_pos c2, dif_pos (by omega), dif_neg (by omega), dif_neg (by omega), dif_pos (by omega)]
      have e : (⟨n - 64, c2⟩ : Fin 32) = ⟨n - 32 - 32, by omega⟩ := Fin.ext (by simp only; omega)
      exact congrArg₂ (· - ·) (congrArg₂ (· * ·) (pe _ _ (by simp only; omega)) (congrArg (fun q => Ideal.cos (colA l q)) e))
        (congrArg₂ (· * ·) (pe _ _ (by simp only; omega)) (congrArg (fun q => Ideal.sin (colA l q)) e))
    · rw [dif_neg c1, dif_neg c2, dif_neg (by omega), dif_neg (by omega), dif_neg (by omega), dif_neg (by omega)]
      have e : (⟨n - 64 - 32, by omega⟩ : Fin 32) = ⟨n - 32 - 32 - 32, by omega⟩ := Fin.ext (by simp only; omega)
      exact congrArg₂ (· + ·) (congrArg₂ (· * ·) (pe _ _ (by simp only; omega)) (congrArg (fun q => Ideal.sin (colA l q)) e))
        (congrArg₂ (· * ·) (pe _ _ (by simp only; omega)) (congrArg (fun q => Ideal.cos (colA l q)) e))

end Cert.Proof.Prj

end
-- ==== Proof.PGeo.lean ====
module

public import proofs.«01_k».proof.Proof.PEntry
public import proofs.«01_k».proof.Proof.PCum

/-!
# The projection's result arrays

Where each block lies in its array, what the input blocks hold, and what the ten result arrays end holding.
-/

@[expose] public section

set_option maxRecDepth 16384

noncomputable section

namespace Cert.Proof.Prj

open Cert.ProjectIdeal Cert.ProjectIdeal.Gen
open Idealize.ShloMosaic Idealize.ShloMosaic.TcCoe
open Idealize.ShloMosaic.Pipeline (Dat Cfg Window)

theorem ixp0 : ∀ t : Fin grid0.N, cc0_transform_0 (grid0.coords t) = ![t.val / 16, t.val % 16, 0] := by decide +kernel
theorem ixp1 : ∀ t : Fin grid0.N, cc0_transform_1 (grid0.coords t) = ![t.val / 16, 0, 0] := by decide +kernel
theorem ixp2 : ∀ t : Fin grid0.N, cc0_transform_2 (grid0.coords t) = ![t.val / 16, 0, 1] := by decide +kernel
theorem ixp3 : ∀ t : Fin grid0.N, cc0_transform_3 (grid0.coords t) = ![0, 0] := by decide +kernel
theorem ixp4 : ∀ t : Fin grid0.N, cc0_transform_4 (grid0.coords t) = ![0, t.val % 16, 0] := by decide +kernel
theorem ixp5 : ∀ t : Fin grid0.N, cc0_transform_5 (grid0.coords t) = ![0, 0] := by decide +kernel
theorem ixp6 : ∀ t : Fin grid0.N, cc0_transform_6 (grid0.coords t) = ![0, 0] := by decide +kernel
theorem ixp7 : ∀ t : Fin grid0.N, cc0_transform_7 (grid0.coords t) = ![0, 0] := by decide +kernel
theorem ixp8 : ∀ t : Fin grid0.N, cc0_transform_8 (grid0.coords t) = ![0, 0] := by decide +kernel
theorem ixp9 : ∀ t : Fin grid0.N, cc0_transform_9 (grid0.coords t) = ![t.val / 16, t.val % 16, 0] := by decide +kernel
theorem ixp10 : ∀ t : Fin grid0.N, cc0_transform_10 (grid0.coords t) = ![t.val / 16, t.val % 16, 0] := by decide +kernel
theorem ixp11 : ∀ t : Fin grid0.N, cc0_transform_11 (grid0.coords t) = ![t.val / 16, t.val % 16, 0] := by decide +kernel
theorem ixp12 : ∀ t : Fin grid0.N, cc0_transform_12 (grid0.coords t) = ![t.val / 16, t.val % 16, 0] := by decide +kernel
theorem ixp13 : ∀ t : Fin grid0.N, cc0_transform_13 (grid0.coords t) = ![t.val / 16, t.val % 16, 0] := by decide +kernel
theorem ixp14 : ∀ t : Fin grid0.N, cc0_transform_14 (grid0.coords t) = ![t.val / 16, t.val % 16, 0] := by decide +kernel
theorem ixp15 : ∀ t : Fin grid0.N, cc0_transform_15 (grid0.coords t) = ![t.val / 16, t.val % 16, 0] := by decide +kernel
theorem ixp16 : ∀ t : Fin grid0.N, cc0_transform_16 (grid0.coords t) = ![t.val / 16, t.val % 16, 0] := by decide +kernel
theorem ixp17 : ∀ t : Fin grid0.N, cc0_transform_17 (grid0.coords t) = ![t.val / 16, t.val % 16, 0] := by decide +kernel
theorem ixp18 : ∀ t : Fin grid0.N, cc0_transform_18 (grid0.coords t) = ![t.val / 16, t.val % 16, 0] := by decide +kernel

variable (m : (ℓ : Loc nD τ sig) → Buf (Elt Ideal) ℓ) (ρ : Dev nD → PrngReg) (c : Dev nD)

theorem t_lt (t : Fin cfg0.N) : t.val < 128 := lt_of_lt_of_eq t.isLt N_0

/-- The batch of a point. -/
def bt (t : Fin cfg0.N) : Fin 8 := ⟨t.val / 16, by have := t_lt t; omega⟩
/-- Row `r` of a point's tile, in the sequence. -/
def tk (t : Fin cfg0.N) (r : Fin 256) : Fin 4096 := ⟨256 * (t.val % 16) + r.val, by omega⟩

abbrev aX : T3 8 4096 1024 := m (c, Proc.tc.devRef main_arg0)
abbrev aM : T3 16 1 3072 := m (c, Proc.tc.devRef main_arg1)
abbrev aN : T2 1 1024 := m (c, Proc.tc.devRef main_arg2)
abbrev aW : T3 1 1024 7200 := m (c, Proc.tc.devRef main_arg3)
abbrev aU1 : T3 1 16 512 := m (c, Proc.tc.devRef main_arg4)
abbrev aB1 : T2 1 512 := m (c, Proc.tc.devRef main_arg5)
abbrev aU2 : T3 1 16 512 := m (c, Proc.tc.devRef main_arg6)
abbrev aB2 : T2 1 512 := m (c, Proc.tc.devRef main_arg7)

theorem bl3 {a b d k0 k1 k2 : ℕ} (A : T3 a b d) (f g : Fin 3 → ℕ) (hf : f = g) (p q : (⟨3, ![a, b, d]⟩ : Shape).Idx) (y0 y1 y2 : ℕ)
    (h0 : (p 0).val = f 0 * k0 + 1 * y0) (h1 : (p 1).val = f 1 * k1 + 1 * y1) (h2 : (p 2).val = f 2 * k2 + 1 * y2)
    (e0 : (q 0).val = g 0 * k0 + y0) (e1 : (q 1).val = g 1 * k1 + y1) (e2 : (q 2).val = g 2 * k2 + y2) : A p = A q := by
  subst hf
  exact congrArg A (ext3 _ _ (by omega) (by omega) (by omega))

theorem bl2 {a b k0 k1 : ℕ} (A : T2 a b) (f g : Fin 2 → ℕ) (hf : f = g) (hg : g = ![0, 0]) (p q : (⟨2, ![a, b]⟩ : Shape).Idx)
    (h0 : (p 0).val = f 0 * k0 + 1 * (q 0).val) (h1 : (p 1).val = f 1 * k1 + 1 * (q 1).val) : A p = A q := by
  subst hf
  subst hg
  refine congrArg A (funext fun i => ?_)
  match i with
  | 0 => exact Fin.ext (h0.trans (show 0 * k0 + 1 * (q 0).val = (q 0).val by omega))
  | 1 => exact Fin.ext (h1.trans (show 0 * k1 + 1 * (q 1).val = (q 1).val by omega))

theorem blk0 (t : Fin cfg0.N) (r : Fin 256) (d : Fin 1024) : (iblk m c 0 t : Vec Ideal S1x256x1024 .f32) (ix3 0 r d) = aX m c (ix3 (bt t) (tk t r) d) :=
  (bl3 (k0 := 1) (k1 := 256) (k2 := 1024) (V m c main_arg0) _ _ (ixp0 t) _ (ix3 (bt t) (tk t r) d) 0 r.val d.val rfl rfl rfl
    (show t.val / 16 = t.val / 16 * 1 + 0 by omega) (show 256 * (t.val % 16) + r.val = t.val % 16 * 256 + r.val by omega)
    (show d.val = 0 * 1024 + d.val by omega)).trans (congrFun (V_main_arg0 m c) _)

theorem blk1 (t : Fin cfg0.N) (d : Fin 1024) : (iblk m c 1 t : Vec Ideal S1x1x1024 .f32) (ix3 0 0 d)
    = aM m c (ix3 ⟨(bt t).val, by have := (bt t).isLt; omega⟩ 0 ⟨d.val, by omega⟩) :=
  (bl3 (k0 := 1) (k1 := 1) (k2 := 1024) (V m c main_arg1) _ _ (ixp1 t) _ (ix3 ⟨(bt t).val, by have := (bt t).isLt; omega⟩ 0 ⟨d.val, by omega⟩) 0 0 d.val rfl rfl rfl
    (show t.val / 16 = t.val / 16 * 1 + 0 by omega) (show 0 = 0 * 1 + 0 by omega)
    (show d.val = 0 * 1024 + d.val by omega)).trans (congrFun (V_main_arg1 m c) _)

theorem blk2 (t : Fin cfg0.N) (d : Fin 1024) : (iblk m c 2 t : Vec Ideal S1x1x1024 .f32) (ix3 0 0 d)
    = aM m c (ix3 ⟨(bt t).val, by have := (bt t).isLt; omega⟩ 0 ⟨1024 + d.val, by omega⟩) :=
  (bl3 (k0 := 1) (k1 := 1) (k2 := 1024) (V m c main_arg1) _ _ (ixp2 t) _ (ix3 ⟨(bt t).val, by have := (bt t).isLt; omega⟩ 0 ⟨1024 + d.val, by omega⟩) 0 0 d.val rfl rfl rfl
    (show t.val / 16 = t.val / 16 * 1 + 0 by omega) (show 0 = 0 * 1 + 0 by omega)
    (show 1024 + d.val = 1 * 1024 + d.val by omega)).trans (congrFun (V_main_arg1 m c) _)

theorem blk4 (t : Fin cfg0.N) (k : Fin 6) (r : Fin 256) (j : Fin 128) : (iblk m c 4 t : Vec Ideal S6x256x128 .f32) (ix3 k r j)
    = (show T3 6 4096 128 from V m c main_v69) (ix3 k (tk t r) j) :=
  bl3 (k0 := 6) (k1 := 256) (k2 := 128) (V m c main_v69) _ _ (ixp4 t) _ (ix3 k (tk t r) j) k.val r.val j.val rfl rfl rfl
    (show k.val = 0 * 6 + k.val by omega) (show 256 * (t.val % 16) + r.val = t.val % 16 * 256 + r.val by omega)
    (show j.val = 0 * 128 + j.val by omega)

theorem blk3 (t : Fin cfg0.N) (r : Fin 1) (j : Fin 1024) : (iblk m c 3 t : Vec Ideal S1x1024 .f32) (ix2 r j) = (show T2 1 1024 from V m c main_v25) (ix2 r j) :=
  bl2 (k0 := 1) (k1 := 1024) (V m c main_v25) _ _ (ixp3 t) rfl _ (ix2 r j) rfl rfl

theorem blk5 (t : Fin cfg0.N) (r : Fin 1024) (j : Fin 7168) : (iblk m c 5 t : Vec Ideal S1024x7168 .bf16) (ix2 r j) = (show T2 1024 7168 from V m c main_v4) (ix2 r j) :=
  bl2 (k0 := 1024) (k1 := 7168) (V m c main_v4) _ _ (ixp5 t) rfl _ (ix2 r j) rfl rfl

theorem blk6 (t : Fin cfg0.N) (r : Fin 1024) (j : Fin 128) : (iblk m c 6 t : Vec Ideal S1024x128 .bf16) (ix2 r j) = (show T2 1024 128 from V m c main_v7) (ix2 r j) :=
  bl2 (k0 := 1024) (k1 := 128) (V m c main_v7) _ _ (ixp6 t) rfl _ (ix2 r j) rfl rfl

theorem blk7 (t : Fin cfg0.N) (r : Fin 128) (j : Fin 1024) : (iblk m c 7 t : Vec Ideal S128x1024 .bf16) (ix2 r j) = (show T2 128 1024 from V m c main_v19) (ix2 r j) :=
  bl2 (k0 := 128) (k1 := 1024) (V m c main_v19) _ _ (ixp7 t) rfl _ (ix2 r j) rfl rfl

theorem blk8 (t : Fin cfg0.N) (r : Fin 1) (j : Fin 1024) : (iblk m c 8 t : Vec Ideal S1x1024 .f32) (ix2 r j) = (show T2 1 1024 from V m c main_v23) (ix2 r j) :=
  bl2 (k0 := 1) (k1 := 1024) (V m c main_v23) _ _ (ixp8 t) rfl _ (ix2 r j) rfl rfl

/-- What the input blocks hold at a point. -/
theorem blks (t : Fin cfg0.N) : Blk (aX m c) (aM m c) (aN m c) (aW m c) (aU1 m c) (aU2 m c) (aB1 m c) (aB2 m c)
    (iblk m c 0 t) (iblk m c 1 t) (iblk m c 2 t) (iblk m c 3 t) (iblk m c 4 t) (iblk m c 5 t) (iblk m c 6 t) (iblk m c 7 t) (iblk m c 8 t) (bt t) (tk t) where
  x := blk0 m c t
  sh := blk1 m c t
  sc := blk2 m c t
  g d := (blk3 m c t 0 d).trans (nG m c d)
  t0 r j := (blk4 m c t 0 r j).trans (tab0 m c (tk t r) j)
  t1 r j := (blk4 m c t 1 r j).trans (tab1 m c (tk t r) j)
  t2 r j := (blk4 m c t 2 r j).trans (tab2 m c (tk t r) j)
  t3 r j := (blk4 m c t 3 r j).trans (tab3 m c (tk t r) j)
  t4 r j := (blk4 m c t 4 r j).trans (tab4 m c (tk t r) j)
  t5 r j := (blk4 m c t 5 r j).trans (tab5 m c (tk t r) j)
  wm d j := (blk5 m c t d j).trans (wMain m c d j)
  wl d x := (blk6 m c t d x).trans (wLr m c d x)
  wu x j := (blk7 m c t x j).trans (wUp m c x j)
  bu j := (blk8 m c t 0 j).trans (bUp m c j)

/-- The point whose tile a token lies in. -/
def ptOf (b : Fin 8) (l : Fin 4096) : Fin cfg0.N := ⟨16 * b.val + l.val / 256, lt_of_lt_of_eq (by omega) N_0.symm⟩

theorem emb_at {a b d w : ℕ} (f g : Fin 3 → ℕ) (hf : f = g) (p q : (⟨3, ![a, b, d]⟩ : Shape).Idx) (y0 y1 y2 : ℕ)
    (h0 : (p 0).val = f 0 * 1 + 1 * y0) (h1 : (p 1).val = f 1 * 256 + 1 * y1) (h2 : (p 2).val = f 2 * w + 1 * y2)
    (e0 : (q 0).val = g 0 * 1 + y0) (e1 : (q 1).val = g 1 * 256 + y1) (e2 : (q 2).val = g 2 * w + y2) : p = q := by
  subst hf
  exact ext3 _ _ (by omega) (by omega) (by omega)

/-- What result 0 ends holding. -/
def G9 : T3 8 4096 512 := fun i => qv (aX m c) (aM m c) (aN m c) (aW m c) (i 0) (i 1) (i 2)

theorem emb9 (t : Fin cfg0.N) (y : S1x256x512.Idx) : (((cfg0.win 9).blk t).view.emb y : S8x4096x512.Idx) = ix3 (bt t) (tk t (y 1)) (y 2) := by
  have hy : (y 0).val < 1 := (y 0).isLt
  exact emb_at (w := 512) _ _ (ixp9 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 512 + (y 2).val by omega)

theorem block9 (t : Fin cfg0.N) (y : S1x256x512.Idx) :
    out0_9 (iblk m c 0 t) (iblk m c 1 t) (iblk m c 2 t) (iblk m c 3 t) (iblk m c 4 t) (iblk m c 5 t) (iblk m c 6 t) (iblk m c 7 t) (iblk m c 8 t) y
      = G9 m c (((cfg0.win 9).blk t).view.emb y : S8x4096x512.Idx) := by
  refine Eq.trans ?_ (congrArg (G9 m c) (emb9 t y)).symm
  exact (o9 (blks m c t) y)

theorem flushed9 (t : Fin cfg0.N) : (dats m 0 c).flushed 9 t = ((cfg0.win 9).blk t).view.read (Elt Ideal) (G9 m c) := by
  rw [Value.flushed9]
  exact funext fun y => block9 m c t y

theorem final9 : (dats m 0 c).arrAt 9 cfg0.N = G9 m c :=
  (dats m 0 c).arrAt_eq_of_cover 9 _ (fun t _ => flushed9 m c t) (fun i => by
    have h0 : (i 0).val < 8 := (i 0).isLt
    have h1 : (i 1).val < 4096 := (i 1).isLt
    refine ⟨ptOf (i 0) (i 1), flush0_9 _, List.mem_map.mpr ⟨(ix3 0 ⟨(i 1).val % 256, Nat.mod_lt _ (by decide)⟩ (i 2) : S1x256x512.Idx), Shape.mem_idxList _ _, ?_⟩⟩
    refine (emb9 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 1 ends holding. -/
def G10 : T3 8 4096 512 := fun i => kv (aX m c) (aM m c) (aN m c) (aW m c) (i 0) (i 1) (i 2)

theorem emb10 (t : Fin cfg0.N) (y : S1x256x512.Idx) : (((cfg0.win 10).blk t).view.emb y : S8x4096x512.Idx) = ix3 (bt t) (tk t (y 1)) (y 2) := by
  have hy : (y 0).val < 1 := (y 0).isLt
  exact emb_at (w := 512) _ _ (ixp10 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 512 + (y 2).val by omega)

theorem block10 (t : Fin cfg0.N) (y : S1x256x512.Idx) :
    out0_10 (iblk m c 0 t) (iblk m c 1 t) (iblk m c 2 t) (iblk m c 3 t) (iblk m c 4 t) (iblk m c 5 t) (iblk m c 6 t) (iblk m c 7 t) (iblk m c 8 t) y
      = G10 m c (((cfg0.win 10).blk t).view.emb y : S8x4096x512.Idx) := by
  refine Eq.trans ?_ (congrArg (G10 m c) (emb10 t y)).symm
  exact (o10 (blks m c t) y)

theorem flushed10 (t : Fin cfg0.N) : (dats m 0 c).flushed 10 t = ((cfg0.win 10).blk t).view.read (Elt Ideal) (G10 m c) := by
  rw [Value.flushed10]
  exact funext fun y => block10 m c t y

theorem final10 : (dats m 0 c).arrAt 10 cfg0.N = G10 m c :=
  (dats m 0 c).arrAt_eq_of_cover 10 _ (fun t _ => flushed10 m c t) (fun i => by
    have h0 : (i 0).val < 8 := (i 0).isLt
    have h1 : (i 1).val < 4096 := (i 1).isLt
    refine ⟨ptOf (i 0) (i 1), flush0_10 _, List.mem_map.mpr ⟨(ix3 0 ⟨(i 1).val % 256, Nat.mod_lt _ (by decide)⟩ (i 2) : S1x256x512.Idx), Shape.mem_idxList _ _, ?_⟩⟩
    refine (emb10 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 2 ends holding. -/
def G11 : T3 8 4096 1024 := fun i => pj (aX m c) (aM m c) (aN m c) (aW m c) (i 0) (i 1) ⟨1024 + (i 2).val, by have : (i 2).val < 1024 := (i 2).isLt; omega⟩

theorem emb11 (t : Fin cfg0.N) (y : S1x256x1024.Idx) : (((cfg0.win 11).blk t).view.emb y : S8x4096x1024.Idx) = ix3 (bt t) (tk t (y 1)) (y 2) := by
  have hy : (y 0).val < 1 := (y 0).isLt
  exact emb_at (w := 1024) _ _ (ixp11 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 1024 + (y 2).val by omega)

theorem block11 (t : Fin cfg0.N) (y : S1x256x1024.Idx) :
    out0_11 (iblk m c 0 t) (iblk m c 1 t) (iblk m c 2 t) (iblk m c 3 t) (iblk m c 4 t) (iblk m c 5 t) (iblk m c 6 t) (iblk m c 7 t) (iblk m c 8 t) y
      = G11 m c (((cfg0.win 11).blk t).view.emb y : S8x4096x1024.Idx) := by
  refine Eq.trans ?_ (congrArg (G11 m c) (emb11 t y)).symm
  exact (o11 (blks m c t) y)

theorem flushed11 (t : Fin cfg0.N) : (dats m 0 c).flushed 11 t = ((cfg0.win 11).blk t).view.read (Elt Ideal) (G11 m c) := by
  rw [Value.flushed11]
  exact funext fun y => block11 m c t y

theorem final11 : (dats m 0 c).arrAt 11 cfg0.N = G11 m c :=
  (dats m 0 c).arrAt_eq_of_cover 11 _ (fun t _ => flushed11 m c t) (fun i => by
    have h0 : (i 0).val < 8 := (i 0).isLt
    have h1 : (i 1).val < 4096 := (i 1).isLt
    refine ⟨ptOf (i 0) (i 1), flush0_11 _, List.mem_map.mpr ⟨(ix3 0 ⟨(i 1).val % 256, Nat.mod_lt _ (by decide)⟩ (i 2) : S1x256x1024.Idx), Shape.mem_idxList _ _, ?_⟩⟩
    refine (emb11 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 3 ends holding. -/
def G12 : T3 8 4096 1024 := fun i => pj (aX m c) (aM m c) (aN m c) (aW m c) (i 0) (i 1) ⟨2048 + (i 2).val, by have : (i 2).val < 1024 := (i 2).isLt; omega⟩

theorem emb12 (t : Fin cfg0.N) (y : S1x256x1024.Idx) : (((cfg0.win 12).blk t).view.emb y : S8x4096x1024.Idx) = ix3 (bt t) (tk t (y 1)) (y 2) := by
  have hy : (y 0).val < 1 := (y 0).isLt
  exact emb_at (w := 1024) _ _ (ixp12 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 1024 + (y 2).val by omega)

theorem block12 (t : Fin cfg0.N) (y : S1x256x1024.Idx) :
    out0_12 (iblk m c 0 t) (iblk m c 1 t) (iblk m c 2 t) (iblk m c 3 t) (iblk m c 4 t) (iblk m c 5 t) (iblk m c 6 t) (iblk m c 7 t) (iblk m c 8 t) y
      = G12 m c (((cfg0.win 12).blk t).view.emb y : S8x4096x1024.Idx) := by
  refine Eq.trans ?_ (congrArg (G12 m c) (emb12 t y)).symm
  exact (o12 (blks m c t) y)

theorem flushed12 (t : Fin cfg0.N) : (dats m 0 c).flushed 12 t = ((cfg0.win 12).blk t).view.read (Elt Ideal) (G12 m c) := by
  rw [Value.flushed12]
  exact funext fun y => block12 m c t y

theorem final12 : (dats m 0 c).arrAt 12 cfg0.N = G12 m c :=
  (dats m 0 c).arrAt_eq_of_cover 12 _ (fun t _ => flushed12 m c t) (fun i => by
    have h0 : (i 0).val < 8 := (i 0).isLt
    have h1 : (i 1).val < 4096 := (i 1).isLt
    refine ⟨ptOf (i 0) (i 1), flush0_12 _, List.mem_map.mpr ⟨(ix3 0 ⟨(i 1).val % 256, Nat.mod_lt _ (by decide)⟩ (i 2) : S1x256x1024.Idx), Shape.mem_idxList _ _, ?_⟩⟩
    refine (emb12 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 4 ends holding. -/
def G13 : T3 8 4096 1024 := fun i => pj (aX m c) (aM m c) (aN m c) (aW m c) (i 0) (i 1) ⟨3104 + (i 2).val, by have : (i 2).val < 1024 := (i 2).isLt; omega⟩

theorem emb13 (t : Fin cfg0.N) (y : S1x256x1024.Idx) : (((cfg0.win 13).blk t).view.emb y : S8x4096x1024.Idx) = ix3 (bt t) (tk t (y 1)) (y 2) := by
  have hy : (y 0).val < 1 := (y 0).isLt
  exact emb_at (w := 1024) _ _ (ixp13 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 1024 + (y 2).val by omega)

theorem block13 (t : Fin cfg0.N) (y : S1x256x1024.Idx) :
    out0_13 (iblk m c 0 t) (iblk m c 1 t) (iblk m c 2 t) (iblk m c 3 t) (iblk m c 4 t) (iblk m c 5 t) (iblk m c 6 t) (iblk m c 7 t) (iblk m c 8 t) y
      = G13 m c (((cfg0.win 13).blk t).view.emb y : S8x4096x1024.Idx) := by
  refine Eq.trans ?_ (congrArg (G13 m c) (emb13 t y)).symm
  exact (o13 (blks m c t) y)

theorem flushed13 (t : Fin cfg0.N) : (dats m 0 c).flushed 13 t = ((cfg0.win 13).blk t).view.read (Elt Ideal) (G13 m c) := by
  rw [Value.flushed13]
  exact funext fun y => block13 m c t y

theorem final13 : (dats m 0 c).arrAt 13 cfg0.N = G13 m c :=
  (dats m 0 c).arrAt_eq_of_cover 13 _ (fun t _ => flushed13 m c t) (fun i => by
    have h0 : (i 0).val < 8 := (i 0).isLt
    have h1 : (i 1).val < 4096 := (i 1).isLt
    refine ⟨ptOf (i 0) (i 1), flush0_13 _, List.mem_map.mpr ⟨(ix3 0 ⟨(i 1).val % 256, Nat.mod_lt _ (by decide)⟩ (i 2) : S1x256x1024.Idx), Shape.mem_idxList _ _, ?_⟩⟩
    refine (emb13 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 5 ends holding. -/
def G14 : T3 8 4096 1024 := fun i => pj (aX m c) (aM m c) (aN m c) (aW m c) (i 0) (i 1) ⟨4128 + (i 2).val, by have : (i 2).val < 1024 := (i 2).isLt; omega⟩

theorem emb14 (t : Fin cfg0.N) (y : S1x256x1024.Idx) : (((cfg0.win 14).blk t).view.emb y : S8x4096x1024.Idx) = ix3 (bt t) (tk t (y 1)) (y 2) := by
  have hy : (y 0).val < 1 := (y 0).isLt
  exact emb_at (w := 1024) _ _ (ixp14 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 1024 + (y 2).val by omega)

theorem block14 (t : Fin cfg0.N) (y : S1x256x1024.Idx) :
    out0_14 (iblk m c 0 t) (iblk m c 1 t) (iblk m c 2 t) (iblk m c 3 t) (iblk m c 4 t) (iblk m c 5 t) (iblk m c 6 t) (iblk m c 7 t) (iblk m c 8 t) y
      = G14 m c (((cfg0.win 14).blk t).view.emb y : S8x4096x1024.Idx) := by
  refine Eq.trans ?_ (congrArg (G14 m c) (emb14 t y)).symm
  exact (o14 (blks m c t) y)

theorem flushed14 (t : Fin cfg0.N) : (dats m 0 c).flushed 14 t = ((cfg0.win 14).blk t).view.read (Elt Ideal) (G14 m c) := by
  rw [Value.flushed14]
  exact funext fun y => block14 m c t y

theorem final14 : (dats m 0 c).arrAt 14 cfg0.N = G14 m c :=
  (dats m 0 c).arrAt_eq_of_cover 14 _ (fun t _ => flushed14 m c t) (fun i => by
    have h0 : (i 0).val < 8 := (i 0).isLt
    have h1 : (i 1).val < 4096 := (i 1).isLt
    refine ⟨ptOf (i 0) (i 1), flush0_14 _, List.mem_map.mpr ⟨(ix3 0 ⟨(i 1).val % 256, Nat.mod_lt _ (by decide)⟩ (i 2) : S1x256x1024.Idx), Shape.mem_idxList _ _, ?_⟩⟩
    refine (emb14 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 6 ends holding. -/
def G15 : T3 8 4096 1024 := fun i => pj (aX m c) (aM m c) (aN m c) (aW m c) (i 0) (i 1) ⟨5152 + (i 2).val, by have : (i 2).val < 1024 := (i 2).isLt; omega⟩

theorem emb15 (t : Fin cfg0.N) (y : S1x256x1024.Idx) : (((cfg0.win 15).blk t).view.emb y : S8x4096x1024.Idx) = ix3 (bt t) (tk t (y 1)) (y 2) := by
  have hy : (y 0).val < 1 := (y 0).isLt
  exact emb_at (w := 1024) _ _ (ixp15 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 1024 + (y 2).val by omega)

theorem block15 (t : Fin cfg0.N) (y : S1x256x1024.Idx) :
    out0_15 (iblk m c 0 t) (iblk m c 1 t) (iblk m c 2 t) (iblk m c 3 t) (iblk m c 4 t) (iblk m c 5 t) (iblk m c 6 t) (iblk m c 7 t) (iblk m c 8 t) y
      = G15 m c (((cfg0.win 15).blk t).view.emb y : S8x4096x1024.Idx) := by
  refine Eq.trans ?_ (congrArg (G15 m c) (emb15 t y)).symm
  exact (o15 (blks m c t) y)

theorem flushed15 (t : Fin cfg0.N) : (dats m 0 c).flushed 15 t = ((cfg0.win 15).blk t).view.read (Elt Ideal) (G15 m c) := by
  rw [Value.flushed15]
  exact funext fun y => block15 m c t y

theorem final15 : (dats m 0 c).arrAt 15 cfg0.N = G15 m c :=
  (dats m 0 c).arrAt_eq_of_cover 15 _ (fun t _ => flushed15 m c t) (fun i => by
    have h0 : (i 0).val < 8 := (i 0).isLt
    have h1 : (i 1).val < 4096 := (i 1).isLt
    refine ⟨ptOf (i 0) (i 1), flush0_15 _, List.mem_map.mpr ⟨(ix3 0 ⟨(i 1).val % 256, Nat.mod_lt _ (by decide)⟩ (i 2) : S1x256x1024.Idx), Shape.mem_idxList _ _, ?_⟩⟩
    refine (emb15 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 7 ends holding. -/
def G16 : T3 8 4096 1024 := fun i => pj (aX m c) (aM m c) (aN m c) (aW m c) (i 0) (i 1) ⟨6176 + (i 2).val, by have : (i 2).val < 1024 := (i 2).isLt; omega⟩

theorem emb16 (t : Fin cfg0.N) (y : S1x256x1024.Idx) : (((cfg0.win 16).blk t).view.emb y : S8x4096x1024.Idx) = ix3 (bt t) (tk t (y 1)) (y 2) := by
  have hy : (y 0).val < 1 := (y 0).isLt
  exact emb_at (w := 1024) _ _ (ixp16 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 1024 + (y 2).val by omega)

theorem block16 (t : Fin cfg0.N) (y : S1x256x1024.Idx) :
    out0_16 (iblk m c 0 t) (iblk m c 1 t) (iblk m c 2 t) (iblk m c 3 t) (iblk m c 4 t) (iblk m c 5 t) (iblk m c 6 t) (iblk m c 7 t) (iblk m c 8 t) y
      = G16 m c (((cfg0.win 16).blk t).view.emb y : S8x4096x1024.Idx) := by
  refine Eq.trans ?_ (congrArg (G16 m c) (emb16 t y)).symm
  exact (o16 (blks m c t) y)

theorem flushed16 (t : Fin cfg0.N) : (dats m 0 c).flushed 16 t = ((cfg0.win 16).blk t).view.read (Elt Ideal) (G16 m c) := by
  rw [Value.flushed16]
  exact funext fun y => block16 m c t y

theorem final16 : (dats m 0 c).arrAt 16 cfg0.N = G16 m c :=
  (dats m 0 c).arrAt_eq_of_cover 16 _ (fun t _ => flushed16 m c t) (fun i => by
    have h0 : (i 0).val < 8 := (i 0).isLt
    have h1 : (i 1).val < 4096 := (i 1).isLt
    refine ⟨ptOf (i 0) (i 1), flush0_16 _, List.mem_map.mpr ⟨(ix3 0 ⟨(i 1).val % 256, Nat.mod_lt _ (by decide)⟩ (i 2) : S1x256x1024.Idx), Shape.mem_idxList _ _, ?_⟩⟩
    refine (emb16 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 8 ends holding. -/
def G17 : T3 8 4096 512 := fun i => cumF (fun l => la (aX m c) (aM m c) (aN m c) (aW m c) 3072 (by omega) (aU1 m c) (aB1 m c) (i 0) l (i 2)) (i 1)

theorem emb17 (t : Fin cfg0.N) (y : S1x256x512.Idx) : (((cfg0.win 17).blk t).view.emb y : S8x4096x512.Idx) = ix3 (bt t) (tk t (y 1)) (y 2) := by
  have hy : (y 0).val < 1 := (y 0).isLt
  exact emb_at (w := 512) _ _ (ixp17 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 512 + (y 2).val by omega)

theorem block17 (t : Fin cfg0.N) (y : S1x256x512.Idx) :
    out0_17 (iblk m c 0 t) (iblk m c 1 t) (iblk m c 2 t) (iblk m c 3 t) (iblk m c 4 t) (iblk m c 5 t) (iblk m c 6 t) (iblk m c 7 t) (iblk m c 8 t) y
      = G17 m c (((cfg0.win 17).blk t).view.emb y : S8x4096x512.Idx) := by
  refine Eq.trans ?_ (congrArg (G17 m c) (emb17 t y)).symm
  exact (o17 (blks m c t) y).trans (pre_cum (fun l => la (aX m c) (aM m c) (aN m c) (aW m c) 3072 (by omega) (aU1 m c) (aB1 m c) (bt t) l (y 2)) ⟨t.val % 16, by omega⟩ (tk t) (fun _ => rfl) (y 1))

theorem flushed17 (t : Fin cfg0.N) : (dats m 0 c).flushed 17 t = ((cfg0.win 17).blk t).view.read (Elt Ideal) (G17 m c) := by
  rw [Value.flushed17]
  exact funext fun y => block17 m c t y

theorem final17 : (dats m 0 c).arrAt 17 cfg0.N = G17 m c :=
  (dats m 0 c).arrAt_eq_of_cover 17 _ (fun t _ => flushed17 m c t) (fun i => by
    have h0 : (i 0).val < 8 := (i 0).isLt
    have h1 : (i 1).val < 4096 := (i 1).isLt
    refine ⟨ptOf (i 0) (i 1), flush0_17 _, List.mem_map.mpr ⟨(ix3 0 ⟨(i 1).val % 256, Nat.mod_lt _ (by decide)⟩ (i 2) : S1x256x512.Idx), Shape.mem_idxList _ _, ?_⟩⟩
    refine (emb17 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- What result 9 ends holding. -/
def G18 : T3 8 4096 512 := fun i => cumB (fun l => la (aX m c) (aM m c) (aN m c) (aW m c) 3088 (by omega) (aU2 m c) (aB2 m c) (i 0) l (i 2)) (i 1)

theorem emb18 (t : Fin cfg0.N) (y : S1x256x512.Idx) : (((cfg0.win 18).blk t).view.emb y : S8x4096x512.Idx) = ix3 (bt t) (tk t (y 1)) (y 2) := by
  have hy : (y 0).val < 1 := (y 0).isLt
  exact emb_at (w := 512) _ _ (ixp18 t) _ _ (y 0).val (y 1).val (y 2).val rfl rfl rfl
    (show t.val / 16 = t.val / 16 * 1 + (y 0).val by omega) (show 256 * (t.val % 16) + (y 1).val = t.val % 16 * 256 + (y 1).val by omega)
    (show (y 2).val = 0 * 512 + (y 2).val by omega)

theorem block18 (t : Fin cfg0.N) (y : S1x256x512.Idx) :
    out0_18 (iblk m c 0 t) (iblk m c 1 t) (iblk m c 2 t) (iblk m c 3 t) (iblk m c 4 t) (iblk m c 5 t) (iblk m c 6 t) (iblk m c 7 t) (iblk m c 8 t) y
      = G18 m c (((cfg0.win 18).blk t).view.emb y : S8x4096x512.Idx) := by
  refine Eq.trans ?_ (congrArg (G18 m c) (emb18 t y)).symm
  exact (o18 (blks m c t) y).trans (suf_cum (fun l => la (aX m c) (aM m c) (aN m c) (aW m c) 3088 (by omega) (aU2 m c) (aB2 m c) (bt t) l (y 2)) ⟨t.val % 16, by omega⟩ (tk t) (fun _ => rfl) (y 1))

theorem flushed18 (t : Fin cfg0.N) : (dats m 0 c).flushed 18 t = ((cfg0.win 18).blk t).view.read (Elt Ideal) (G18 m c) := by
  rw [Value.flushed18]
  exact funext fun y => block18 m c t y

theorem final18 : (dats m 0 c).arrAt 18 cfg0.N = G18 m c :=
  (dats m 0 c).arrAt_eq_of_cover 18 _ (fun t _ => flushed18 m c t) (fun i => by
    have h0 : (i 0).val < 8 := (i 0).isLt
    have h1 : (i 1).val < 4096 := (i 1).isLt
    refine ⟨ptOf (i 0) (i 1), flush0_18 _, List.mem_map.mpr ⟨(ix3 0 ⟨(i 1).val % 256, Nat.mod_lt _ (by decide)⟩ (i 2) : S1x256x512.Idx), Shape.mem_idxList _ _, ?_⟩⟩
    refine (emb18 (ptOf (i 0) (i 1)) _).trans (ext3 _ _ ?_ ?_ rfl)
    · show (16 * (i 0).val + (i 1).val / 256) / 16 = (i 0).val; omega
    · show 256 * ((16 * (i 0).val + (i 1).val / 256) % 16) + (i 1).val % 256 = (i 1).val; omega)

/-- The run: the results' contents, and the arguments unchanged. -/
theorem run_value : θ_run defs (onTc (τ := τ) (main (F := Ideal))) ⟨m, fun _ => 0, ρ⟩ (fun r => ∀ c : Dev nD,
      r.2.mem ((c.tc : Thread nD τ).loc main_v70_0) = G9 m c
      ∧ r.2.mem ((c.tc : Thread nD τ).loc main_v70_1) = G10 m c
      ∧ r.2.mem ((c.tc : Thread nD τ).loc main_v70_2) = G11 m c
      ∧ r.2.mem ((c.tc : Thread nD τ).loc main_v70_3) = G12 m c
      ∧ r.2.mem ((c.tc : Thread nD τ).loc main_v70_4) = G13 m c
      ∧ r.2.mem ((c.tc : Thread nD τ).loc main_v70_5) = G14 m c
      ∧ r.2.mem ((c.tc : Thread nD τ).loc main_v70_6) = G15 m c
      ∧ r.2.mem ((c.tc : Thread nD τ).loc main_v70_7) = G16 m c
      ∧ r.2.mem ((c.tc : Thread nD τ).loc main_v70_8) = G17 m c
      ∧ r.2.mem ((c.tc : Thread nD τ).loc main_v70_9) = G18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final9 m c), (h c).2.1.trans (final10 m c), (h c).2.2.1.trans (final11 m c), (h c).2.2.2.1.trans (final12 m c), (h c).2.2.2.2.1.trans (final13 m c), (h c).2.2.2.2.2.1.trans (final14 m c), (h c).2.2.2.2.2.2.1.trans (final15 m c), (h c).2.2.2.2.2.2.2.1.trans (final16 m c), (h c).2.2.2.2.2.2.2.2.1.trans (final17 m c), (h c).2.2.2.2.2.2.2.2.2.1.trans (final18 m c), (h c).2.2.2.2.2.2.2.2.2.2.2⟩) (Value.run_blocks (F := Ideal) m ρ)

end Cert.Proof.Prj

end
-- ==== Proof.PRefA.lean ====
module

public import Idealize.ShloMosaic.Lib.Pointwise
public import proofs.«01_k».proof.Proof.Gen.ProjectReferenceIdeal.Run
public import proofs.«01_k».proof.Proof.PCum

/-!
# The reference projection's results
-/

@[expose] public section

set_option maxRecDepth 16384

noncomputable section

namespace Cert.Proof.Prj.Ref

open Cert.ProjectReferenceIdeal Cert.ProjectReferenceIdeal.Gen Cert.ProjectReferenceIdeal.Value
open Idealize.ShloMosaic Idealize.ShloMosaic.StableHlo Idealize.ShloMosaic.TcCoe

section
variable (V0 : Valuation τ sig (Elt Ideal))

/-- The projection. -/
theorem v30 (b : Fin 8) (l : Fin 4096) (j : Fin 7200) :
    res_main_v30 V0 (ix3 b l j) = pj (V0 (Proc.devRef .tc main_arg0)) (V0 (Proc.devRef .tc main_arg1)) (V0 (Proc.devRef .tc main_arg2)) (V0 (Proc.devRef .tc main_arg3)) b l j := by
  pointwise [res_main_v30, res_main_v5]
  rfl

theorem c57 (l : Fin 4096) (j : Fin 32) : res_main_v57 V0 (ix4 0 l 0 j) = Ideal.cos (rowA l j) := by
  pointwise [res_main_v57, res_main_v55, res_main_v46, res_main_v2, res_main_v0, res_main_call0_v0, res_main_call0_v2]
  rfl

theorem s59 (l : Fin 4096) (j : Fin 32) : res_main_v59 V0 (ix4 0 l 0 j) = Ideal.sin (rowA l j) := by
  pointwise [res_main_v59, res_main_v55, res_main_v46, res_main_v2, res_main_v0, res_main_call0_v0, res_main_call0_v2]
  rfl

theorem c80 (l : Fin 4096) (j : Fin 32) : res_main_v80 V0 (ix4 0 l 0 j) = Ideal.cos (colA l j) := by
  pointwise [res_main_v80, res_main_v78, res_main_v46, res_main_v4, res_main_call1_v4, res_main_call1_v2, res_main_v0]
  rfl

theorem s82 (l : Fin 4096) (j : Fin 32) : res_main_v82 V0 (ix4 0 l 0 j) = Ideal.sin (colA l j) := by
  pointwise [res_main_v82, res_main_v78, res_main_v46, res_main_v4, res_main_call1_v4, res_main_call1_v2, res_main_v0]
  rfl

theorem c106 (l : Fin 4096) (j : Fin 32) : res_main_v106 V0 (ix4 0 l 0 j) = Ideal.cos (rowA l j) := by
  pointwise [res_main_v106, res_main_v104, res_main_v46, res_main_v2, res_main_v0, res_main_call0_v0, res_main_call0_v2]
  rfl

theorem s108 (l : Fin 4096) (j : Fin 32) : res_main_v108 V0 (ix4 0 l 0 j) = Ideal.sin (rowA l j) := by
  pointwise [res_main_v108, res_main_v104, res_main_v46, res_main_v2, res_main_v0, res_main_call0_v0, res_main_call0_v2]
  rfl

theorem c129 (l : Fin 4096) (j : Fin 32) : res_main_v129 V0 (ix4 0 l 0 j) = Ideal.cos (colA l j) := by
  pointwise [res_main_v129, res_main_v127, res_main_v46, res_main_v4, res_main_call1_v4, res_main_call1_v2, res_main_v0]
  rfl

theorem s131 (l : Fin 4096) (j : Fin 32) : res_main_v131 V0 (ix4 0 l 0 j) = Ideal.sin (colA l j) := by
  pointwise [res_main_v131, res_main_v127, res_main_v46, res_main_v4, res_main_call1_v4, res_main_call1_v2, res_main_v0]
  rfl

theorem q60 (b : Fin 8) (l : Fin 4096) (h : Fin 4) (j : Fin 32) :
    res_main_v60 V0 (ix4 b l h j) = pj (V0 (Proc.devRef .tc main_arg0)) (V0 (Proc.devRef .tc main_arg1)) (V0 (Proc.devRef .tc main_arg2)) (V0 (Proc.devRef .tc main_arg3)) b l ⟨128 * h.val + (0 + j.val), by omega⟩ * qs := by
  pointwise [res_main_v60, res_main_v50, res_main_v49]
  refine congrArg (· * qs) ((v30 V0 b l _).trans ?_)
  exact congrArg (pj _ _ _ _ b l) (Fin.ext (by simp only; omega))

theorem q61 (b : Fin 8) (l : Fin 4096) (h : Fin 4) (j : Fin 32) :
    res_main_v61 V0 (ix4 b l h j) = pj (V0 (Proc.devRef .tc main_arg0)) (V0 (Proc.devRef .tc main_arg1)) (V0 (Proc.devRef .tc main_arg2)) (V0 (Proc.devRef .tc main_arg3)) b l ⟨128 * h.val + (32 + j.val), by omega⟩ * qs := by
  pointwise [res_main_v61, res_main_v50, res_main_v49]
  refine congrArg (· * qs) ((v30 V0 b l _).trans ?_)
  exact congrArg (pj _ _ _ _ b l) (Fin.ext (by simp only; omega))

theorem q83 (b : Fin 8) (l : Fin 4096) (h : Fin 4) (j : Fin 32) :
    res_main_v83 V0 (ix4 b l h j) = pj (V0 (Proc.devRef .tc main_arg0)) (V0 (Proc.devRef .tc main_arg1)) (V0 (Proc.devRef .tc main_arg2)) (V0 (Proc.devRef .tc main_arg3)) b l ⟨128 * h.val + (64 + j.val), by omega⟩ * qs := by
  pointwise [res_main_v83, res_main_v73, res_main_v49]
  refine congrArg (· * qs) ((v30 V0 b l _).trans ?_)
  exact congrArg (pj _ _ _ _ b l) (Fin.ext (by simp only; omega))

theorem q84 (b : Fin 8) (l : Fin 4096) (h : Fin 4) (j : Fin 32) :
    res_main_v84 V0 (ix4 b l h j) = pj (V0 (Proc.devRef .tc main_arg0)) (V0 (Proc.devRef .tc main_arg1)) (V0 (Proc.devRef .tc main_arg2)) (V0 (Proc.devRef .tc main_arg3)) b l ⟨128 * h.val + (96 + j.val), by omega⟩ * qs := by
  pointwise [res_main_v84, res_main_v73, res_main_v49]
  refine congrArg (· * qs) ((v30 V0 b l _).trans ?_)
  exact congrArg (pj _ _ _ _ b l) (Fin.ext (by simp only; omega))

theorem k109 (b : Fin 8) (l : Fin 4096) (h : Fin 4) (j : Fin 32) :
    res_main_v109 V0 (ix4 b l h j) = pj (V0 (Proc.devRef .tc main_arg0)) (V0 (Proc.devRef .tc main_arg1)) (V0 (Proc.devRef .tc main_arg2)) (V0 (Proc.devRef .tc main_arg3)) b l ⟨512 + (128 * h.val + (0 + j.val)), by omega⟩ := by
  pointwise [res_main_v109, res_main_v99, res_main_v98]
  refine (v30 V0 b l _).trans ?_
  exact congrArg (pj _ _ _ _ b l) (Fin.ext (by simp only; omega))

theorem k110 (b : Fin 8) (l : Fin 4096) (h : Fin 4) (j : Fin 32) :
    res_main_v110 V0 (ix4 b l h j) = pj (V0 (Proc.devRef .tc main_arg0)) (V0 (Proc.devRef .tc main_arg1)) (V0 (Proc.devRef .tc main_arg2)) (V0 (Proc.devRef .tc main_arg3)) b l ⟨512 + (128 * h.val + (32 + j.val)), by omega⟩ := by
  pointwise [res_main_v110, res_main_v99, res_main_v98]
  refine (v30 V0 b l _).trans ?_
  exact congrArg (pj _ _ _ _ b l) (Fin.ext (by simp only; omega))

theorem k132 (b : Fin 8) (l : Fin 4096) (h : Fin 4) (j : Fin 32) :
    res_main_v132 V0 (ix4 b l h j) = pj (V0 (Proc.devRef .tc main_arg0)) (V0 (Proc.devRef .tc main_arg1)) (V0 (Proc.devRef .tc main_arg2)) (V0 (Proc.devRef .tc main_arg3)) b l ⟨512 + (128 * h.val + (64 + j.val)), by omega⟩ := by
  pointwise [res_main_v132, res_main_v122, res_main_v98]
  refine (v30 V0 b l _).trans ?_
  exact congrArg (pj _ _ _ _ b l) (Fin.ext (by simp only; omega))

theorem k133 (b : Fin 8) (l : Fin 4096) (h : Fin 4) (j : Fin 32) :
    res_main_v133 V0 (ix4 b l h j) = pj (V0 (Proc.devRef .tc main_arg0)) (V0 (Proc.devRef .tc main_arg1)) (V0 (Proc.devRef .tc main_arg2)) (V0 (Proc.devRef .tc main_arg3)) b l ⟨512 + (128 * h.val + (96 + j.val)), by omega⟩ := by
  pointwise [res_main_v133, res_main_v122, res_main_v98]
  refine (v30 V0 b l _).trans ?_
  exact congrArg (pj _ _ _ _ b l) (Fin.ext (by simp only; omega))

theorem g2 (b : Fin 8) (l : Fin 4096) (j : Fin 512) :
    res_main_call2_v0 V0 (ix3 b l j) = -((∑ x : Fin 16, pj (V0 (Proc.devRef .tc main_arg0)) (V0 (Proc.devRef .tc main_arg1)) (V0 (Proc.devRef .tc main_arg2)) (V0 (Proc.devRef .tc main_arg3)) b l ⟨3072 + x.val, by omega⟩
      * (show T3 1 16 512 from V0 (Proc.devRef .tc main_arg4)) (ix3 0 x j)) + (show T2 1 512 from V0 (Proc.devRef .tc main_arg5)) (ix2 0 j)) := by
  pointwise [res_main_call2_v0]
  refine congrArg (fun z : EReal => -(z + (show T2 1 512 from V0 (Proc.devRef .tc main_arg5)) (ix2 0 j))) (Finset.sum_congr rfl fun x _ => ?_)
  exact congrArg (· * (show T3 1 16 512 from V0 (Proc.devRef .tc main_arg4)) (ix3 0 x j)) (v30 V0 b l _)

theorem lg2 (b : Fin 8) (l : Fin 4096) (j : Fin 512) :
    Host.divf (F := Ideal) (s := S8x4096x512) (φ := .f32) (Host.negf (select (cmpf .une (res_main_call2_call0_v3 V0) (res_main_call2_call0_v3 V0))
      (addf (res_main_call2_v0 V0) (broadcastInDim S8x4096x512 ![] bcast_S_S8x4096x512 (res_main_call2_call0_cst V0)))
      (addf (maximumf (res_main_call2_v0 V0) (broadcastInDim S8x4096x512 ![] bcast_S_S8x4096x512 (res_main_call2_call0_cst V0)))
        (Host.log1p (Host.exp (Host.negf (Host.absf (res_main_call2_call0_v3 V0))))))))
      (broadcastInDim S8x4096x512 ![] bcast_S_S8x4096x512 (constant S_ FTy.f32 1098907648#32)) (ix3 b l j)
      = la (V0 (Proc.devRef .tc main_arg0)) (V0 (Proc.devRef .tc main_arg1)) (V0 (Proc.devRef .tc main_arg2)) (V0 (Proc.devRef .tc main_arg3)) 3072 (by omega) (V0 (Proc.devRef .tc main_arg4)) (V0 (Proc.devRef .tc main_arg5)) b l j := by
  refine Eq.trans ?_ (lsg_eq _)
  pointwise [res_main_call2_call0_v3, res_main_call2_call0_cst]
  rw [g2]
  rw [if_neg (not_not.mpr rfl)]
  rfl

theorem g4 (b : Fin 8) (l : Fin 4096) (j : Fin 512) :
    res_main_call4_v0 V0 (ix3 b l j) = -((∑ x : Fin 16, pj (V0 (Proc.devRef .tc main_arg0)) (V0 (Proc.devRef .tc main_arg1)) (V0 (Proc.devRef .tc main_arg2)) (V0 (Proc.devRef .tc main_arg3)) b l ⟨3088 + x.val, by omega⟩
      * (show T3 1 16 512 from V0 (Proc.devRef .tc main_arg6)) (ix3 0 x j)) + (show T2 1 512 from V0 (Proc.devRef .tc main_arg7)) (ix2 0 j)) := by
  pointwise [res_main_call4_v0]
  refine congrArg (fun z : EReal => -(z + (show T2 1 512 from V0 (Proc.devRef .tc main_arg7)) (ix2 0 j))) (Finset.sum_congr rfl fun x _ => ?_)
  exact congrArg (· * (show T3 1 16 512 from V0 (Proc.devRef .tc main_arg6)) (ix3 0 x j)) (v30 V0 b l _)

theorem lg4 (b : Fin 8) (l : Fin 4096) (j : Fin 512) :
    Host.divf (F := Ideal) (s := S8x4096x512) (φ := .f32) (Host.negf (select (cmpf .une (res_main_call4_call0_v3 V0) (res_main_call4_call0_v3 V0))
      (addf (res_main_call4_v0 V0) (broadcastInDim S8x4096x512 ![] bcast_S_S8x4096x512 (res_main_call4_call0_cst V0)))
      (addf (maximumf (res_main_call4_v0 V0) (broadcastInDim S8x4096x512 ![] bcast_S_S8x4096x512 (res_main_call4_call0_cst V0)))
        (Host.log1p (Host.exp (Host.negf (Host.absf (res_main_call4_call0_v3 V0))))))))
      (broadcastInDim S8x4096x512 ![] bcast_S_S8x4096x512 (constant S_ FTy.f32 1098907648#32)) (ix3 b l j)
      = la (V0 (Proc.devRef .tc main_arg0)) (V0 (Proc.devRef .tc main_arg1)) (V0 (Proc.devRef .tc main_arg2)) (V0 (Proc.devRef .tc main_arg3)) 3088 (by omega) (V0 (Proc.devRef .tc main_arg6)) (V0 (Proc.devRef .tc main_arg7)) b l j := by
  refine Eq.trans ?_ (lsg_eq _)
  pointwise [res_main_call4_call0_v3, res_main_call4_call0_cst]
  rw [g4]
  rw [if_neg (not_not.mpr rfl)]
  rfl

end

end Cert.Proof.Prj.Ref

end
-- ==== Proof.PRefB.lean ====
module

public import proofs.«01_k».proof.Proof.PRefA

/-!
# The reference projection's run
-/

@[expose] public section

set_option maxRecDepth 16384

noncomputable section

namespace Cert.Proof.Prj.Ref

open Cert.ProjectReferenceIdeal Cert.ProjectReferenceIdeal.Gen Cert.ProjectReferenceIdeal.Value
open Idealize.ShloMosaic Idealize.ShloMosaic.StableHlo Idealize.ShloMosaic.TcCoe

theorem idx3 {a b d : ℕ} (i : (⟨3, ![a, b, d]⟩ : Shape).Idx) : i = ix3 (i 0) (i 1) (i 2) := ext3 _ _ rfl rfl rfl

/-- A half of each head's vector rotated, from its two quarters and the angles' cosines and sines. -/
def halfv (A B : FVec Ideal S8x4096x4x32 .f32) (co si : FVec Ideal S1x4096x1x32 .f32) : FVec Ideal S8x4096x4x64 .f32 :=
  concatenate S8x4096x4x64 3 [⟨S8x4096x4x32, (subf (mulf A (broadcastInDim S8x4096x4x32 ![0, 1, 2, 3] bcast_S1x4096x1x32_S8x4096x4x32_0_1_2_3 co)) (mulf B (broadcastInDim S8x4096x4x32 ![0, 1, 2, 3] bcast_S1x4096x1x32_S8x4096x4x32_0_1_2_3 si)))⟩,
    ⟨S8x4096x4x32, (addf (mulf A (broadcastInDim S8x4096x4x32 ![0, 1, 2, 3] bcast_S1x4096x1x32_S8x4096x4x32_0_1_2_3 si)) (mulf B (broadcastInDim S8x4096x4x32 ![0, 1, 2, 3] bcast_S1x4096x1x32_S8x4096x4x32_0_1_2_3 co)))⟩] concatenates_S8x4096x4x32_S8x4096x4x32_S8x4096x4x64_d3

theorem halfv_apply (A B : FVec Ideal S8x4096x4x32 .f32) (co si : FVec Ideal S1x4096x1x32 .f32) (b : Fin 8) (l : Fin 4096) (h : Fin 4) (j : Fin 64) :
    halfv A B co si (ix4 b l h j)
      = if h1 : j.val < 32 then A (ix4 b l h ⟨j.val, h1⟩) * co (ix4 0 l 0 ⟨j.val, h1⟩) - B (ix4 b l h ⟨j.val, h1⟩) * si (ix4 0 l 0 ⟨j.val, h1⟩)
        else A (ix4 b l h ⟨j.val - 32, by omega⟩) * si (ix4 0 l 0 ⟨j.val - 32, by omega⟩) + B (ix4 b l h ⟨j.val - 32, by omega⟩) * co (ix4 0 l 0 ⟨j.val - 32, by omega⟩) := by
  unfold halfv
  pointwise

/-- A head's halves side by side. -/
def headv (P Q : FVec Ideal S8x4096x4x64 .f32) : FVec Ideal S8x4096x4x128 .f32 :=
  concatenate S8x4096x4x128 3 [⟨S8x4096x4x64, P⟩, ⟨S8x4096x4x64, Q⟩] concatenates_S8x4096x4x64_S8x4096x4x64_S8x4096x4x128_d3

theorem headv_apply (P Q : FVec Ideal S8x4096x4x64 .f32) (b : Fin 8) (l : Fin 4096) (h : Fin 4) (j : Fin 128) :
    headv P Q (ix4 b l h j) = if h1 : j.val < 64 then P (ix4 b l h ⟨j.val, h1⟩) else Q (ix4 b l h ⟨j.val - 64, by omega⟩) := by
  unfold headv
  pointwise

/-- The heads side by side. -/
def fullv (P : FVec Ideal S8x4096x4x128 .f32) : FVec Ideal S8x4096x512 .bf16 :=
  truncf .bf16 (shapeCast _ P shapeCasts_S8x4096x4x128_S8x4096x512) bitsLt_bf16_f32

theorem fullv_apply (P : FVec Ideal S8x4096x4x128 .f32) (b : Fin 8) (l : Fin 4096) (j : Fin 512) :
    fullv P (ix3 b l j) = P (ix4 b l ⟨j.val / 128, by omega⟩ ⟨j.val % 128, by omega⟩) := by
  unfold fullv
  pointwise

theorem win_add (x : FVec Ideal S8x64x64x512 .f32) (init : FVec Ideal S_ .f32) (hi : init (Shape.Idx.first h_S_) = (0 : EReal)) (b : Fin 8) (j : Fin 512) (a : Fin 4096 → EReal)
    (ha : ∀ c i : Fin 64, x (ix4 b c i j) = a ⟨c.val * 64 + i.val, by omega⟩) (l : Fin 4096) :
    Host.reduceWindowAdd ![1, 1, 64, 1] ![1, 1, 1, 1] ![0, 0, 63, 0] ![0, 0, 0, 0] x init
      reduceWindows_S8x64x64x512_S8x64x64x512_w1s1p0_0_w1s1p0_0_w64s1p63_0_w1s1p0_0 h_S_ (ix4 b ⟨l.val / 64, by omega⟩ ⟨l.val % 64, by omega⟩ j) = cumF a l :=
  win_cum x (fun _ : (⟨0, ![]⟩ : Shape).Idx => init (Shape.Idx.first h_S_)) reduceWindows_S8x64x64x512_S8x64x64x512_w1s1p0_0_w1s1p0_0_w64s1p63_0_w1s1p0_0 h_S_ hi b j a ha l _ _ rfl rfl

variable (m : (ℓ : Loc nD τ sig) → Buf (Elt Ideal) ℓ) (ρ : Dev nD → PrngReg)

theorem run0 : θ_run defs (onTc (τ := τ) (main (F := Ideal))) ⟨m, fun _ => 0, ρ⟩ (fun r => ∀ c : Dev nD,
    r.2.mem ((c.tc : Thread nD τ).loc main_v173) = (fun i : (⟨3, ![8, 4096, 512]⟩ : Shape).Idx => qv (m ((c.tc : Thread nD τ).loc main_arg0)) (m ((c.tc : Thread nD τ).loc main_arg1)) (m ((c.tc : Thread nD τ).loc main_arg2)) (m ((c.tc : Thread nD τ).loc main_arg3)) (i 0) (i 1) (i 2))) :=
  (θ_run defs _ _).mono (fun r h c => (h c).1.trans (funext fun (i : (⟨3, ![8, 4096, 512]⟩ : Shape).Idx) => by
    clear h
    obtain ⟨b, l, j, rfl⟩ : ∃ b l j, i = ix3 b l j := ⟨_, _, _, idx3 i⟩
    refine (fullv_apply (headv (halfv (res_main_v60 (launchContents m c)) (res_main_v61 (launchContents m c)) (res_main_v57 (launchContents m c)) (res_main_v59 (launchContents m c))) (halfv (res_main_v83 (launchContents m c)) (res_main_v84 (launchContents m c)) (res_main_v80 (launchContents m c)) (res_main_v82 (launchContents m c)))) b l j).trans ?_
    rw [headv_apply]
    simp only [halfv_apply]
    exact rot_half _ l (fun q => res_main_v60 (launchContents m c) (ix4 b l ⟨j.val / 128, by omega⟩ q)) (fun q => res_main_v61 (launchContents m c) (ix4 b l ⟨j.val / 128, by omega⟩ q)) (fun q => res_main_v83 (launchContents m c) (ix4 b l ⟨j.val / 128, by omega⟩ q)) (fun q => res_main_v84 (launchContents m c) (ix4 b l ⟨j.val / 128, by omega⟩ q))
      (fun q => res_main_v57 (launchContents m c) (ix4 0 l 0 q)) (fun q => res_main_v59 (launchContents m c) (ix4 0 l 0 q)) (fun q => res_main_v80 (launchContents m c) (ix4 0 l 0 q)) (fun q => res_main_v82 (launchContents m c) (ix4 0 l 0 q))
      (fun q => (q60 (launchContents m c) b l _ q).trans (by simp only [Nat.zero_add]; rfl)) (fun q => q61 (launchContents m c) b l _ q) (fun q => q83 (launchContents m c) b l _ q) (fun q => q84 (launchContents m c) b l _ q)
      (c57 (launchContents m c) l) (s59 (launchContents m c) l) (c80 (launchContents m c) l) (s82 (launchContents m c) l) _ _
  )) (Value.run m ρ)

theorem run1 : θ_run defs (onTc (τ := τ) (main (F := Ideal))) ⟨m, fun _ => 0, ρ⟩ (fun r => ∀ c : Dev nD,
    r.2.mem ((c.tc : Thread nD τ).loc main_v174) = (fun i : (⟨3, ![8, 4096, 512]⟩ : Shape).Idx => kv (m ((c.tc : Thread nD τ).loc main_arg0)) (m ((c.tc : Thread nD τ).loc main_arg1)) (m ((c.tc : Thread nD τ).loc main_arg2)) (m ((c.tc : Thread nD τ).loc main_arg3)) (i 0) (i 1) (i 2))) :=
  (θ_run defs _ _).mono (fun r h c => (h c).2.1.trans (funext fun (i : (⟨3, ![8, 4096, 512]⟩ : Shape).Idx) => by
    clear h
    obtain ⟨b, l, j, rfl⟩ : ∃ b l j, i = ix3 b l j := ⟨_, _, _, idx3 i⟩
    refine (fullv_apply (headv (halfv (res_main_v109 (launchContents m c)) (res_main_v110 (launchContents m c)) (res_main_v106 (launchContents m c)) (res_main_v108 (launchContents m c))) (halfv (res_main_v132 (launchContents m c)) (res_main_v133 (launchContents m c)) (res_main_v129 (launchContents m c)) (res_main_v131 (launchContents m c)))) b l j).trans ?_
    rw [headv_apply]
    simp only [halfv_apply]
    exact rot_half _ l (fun q => res_main_v109 (launchContents m c) (ix4 b l ⟨j.val / 128, by omega⟩ q)) (fun q => res_main_v110 (launchContents m c) (ix4 b l ⟨j.val / 128, by omega⟩ q)) (fun q => res_main_v132 (launchContents m c) (ix4 b l ⟨j.val / 128, by omega⟩ q)) (fun q => res_main_v133 (launchContents m c) (ix4 b l ⟨j.val / 128, by omega⟩ q))
      (fun q => res_main_v106 (launchContents m c) (ix4 0 l 0 q)) (fun q => res_main_v108 (launchContents m c) (ix4 0 l 0 q)) (fun q => res_main_v129 (launchContents m c) (ix4 0 l 0 q)) (fun q => res_main_v131 (launchContents m c) (ix4 0 l 0 q))
      (fun q => (k109 (launchContents m c) b l _ q).trans (by simp only [Nat.zero_add]; rfl)) (fun q => k110 (launchContents m c) b l _ q) (fun q => k132 (launchContents m c) b l _ q) (fun q => k133 (launchContents m c) b l _ q)
      (c106 (launchContents m c) l) (s108 (launchContents m c) l) (c129 (launchContents m c) l) (s131 (launchContents m c) l) _ _
  )) (Value.run m ρ)

theorem run2 : θ_run defs (onTc (τ := τ) (main (F := Ideal))) ⟨m, fun _ => 0, ρ⟩ (fun r => ∀ c : Dev nD,
    r.2.mem ((c.tc : Thread nD τ).loc main_v175) = (fun i : (⟨3, ![8, 4096, 1024]⟩ : Shape).Idx => pj (m ((c.tc : Thread nD τ).loc main_arg0)) (m ((c.tc : Thread nD τ).loc main_arg1)) (m ((c.tc : Thread nD τ).loc main_arg2)) (m ((c.tc : Thread nD τ).loc main_arg3)) (i 0) (i 1) ⟨1024 + (i 2).val, by have : (i 2).val < 1024 := (i 2).isLt; omega⟩)) :=
  (θ_run defs _ _).mono (fun r h c => (h c).2.2.1.trans (funext fun (i : (⟨3, ![8, 4096, 1024]⟩ : Shape).Idx) => by
    clear h
    obtain ⟨b, l, j, rfl⟩ : ∃ b l j, i = ix3 b l j := ⟨_, _, _, idx3 i⟩
    pointwise
    exact v30 (launchContents m c) b l _
  )) (Value.run m ρ)

theorem run3 : θ_run defs (onTc (τ := τ) (main (F := Ideal))) ⟨m, fun _ => 0, ρ⟩ (fun r => ∀ c : Dev nD,
    r.2.mem ((c.tc : Thread nD τ).loc main_v176) = (fun i : (⟨3, ![8, 4096, 1024]⟩ : Shape).Idx => pj (m ((c.tc : Thread nD τ).loc main_arg0)) (m ((c.tc : Thread nD τ).loc main_arg1)) (m ((c.tc : Thread nD τ).loc main_arg2)) (m ((c.tc : Thread nD τ).loc main_arg3)) (i 0) (i 1) ⟨2048 + (i 2).val, by have : (i 2).val < 1024 := (i 2).isLt; omega⟩)) :=
  (θ_run defs _ _).mono (fun r h c => (h c).2.2.2.1.trans (funext fun (i : (⟨3, ![8, 4096, 1024]⟩ : Shape).Idx) => by
    clear h
    obtain ⟨b, l, j, rfl⟩ : ∃ b l j, i = ix3 b l j := ⟨_, _, _, idx3 i⟩
    pointwise
    exact v30 (launchContents m c) b l _
  )) (Value.run m ρ)

theorem run4 : θ_run defs (onTc (τ := τ) (main (F := Ideal))) ⟨m, fun _ => 0, ρ⟩ (fun r => ∀ c : Dev nD,
    r.2.mem ((c.tc : Thread nD τ).loc main_v177) = (fun i : (⟨3, ![8, 4096, 1024]⟩ : Shape).Idx => pj (m ((c.tc : Thread nD τ).loc main_arg0)) (m ((c.tc : Thread nD τ).loc main_arg1)) (m ((c.tc : Thread nD τ).loc main_arg2)) (m ((c.tc : Thread nD τ).loc main_arg3)) (i 0) (i 1) ⟨3104 + (i 2).val, by have : (i 2).val < 1024 := (i 2).isLt; omega⟩)) :=
  (θ_run defs _ _).mono (fun r h c => (h c).2.2.2.2.1.trans (funext fun (i : (⟨3, ![8, 4096, 1024]⟩ : Shape).Idx) => by
    clear h
    obtain ⟨b, l, j, rfl⟩ : ∃ b l j, i = ix3 b l j := ⟨_, _, _, idx3 i⟩
    pointwise
    exact v30 (launchContents m c) b l _
  )) (Value.run m ρ)

theorem run5 : θ_run defs (onTc (τ := τ) (main (F := Ideal))) ⟨m, fun _ => 0, ρ⟩ (fun r => ∀ c : Dev nD,
    r.2.mem ((c.tc : Thread nD τ).loc main_v178) = (fun i : (⟨3, ![8, 4096, 1024]⟩ : Shape).Idx => pj (m ((c.tc : Thread nD τ).loc main_arg0)) (m ((c.tc : Thread nD τ).loc main_arg1)) (m ((c.tc : Thread nD τ).loc main_arg2)) (m ((c.tc : Thread nD τ).loc main_arg3)) (i 0) (i 1) ⟨4128 + (i 2).val, by have : (i 2).val < 1024 := (i 2).isLt; omega⟩)) :=
  (θ_run defs _ _).mono (fun r h c => (h c).2.2.2.2.2.1.trans (funext fun (i : (⟨3, ![8, 4096, 1024]⟩ : Shape).Idx) => by
    clear h
    obtain ⟨b, l, j, rfl⟩ : ∃ b l j, i = ix3 b l j := ⟨_, _, _, idx3 i⟩
    pointwise
    exact v30 (launchContents m c) b l _
  )) (Value.run m ρ)

theorem run6 : θ_run defs (onTc (τ := τ) (main (F := Ideal))) ⟨m, fun _ => 0, ρ⟩ (fun r => ∀ c : Dev nD,
    r.2.mem ((c.tc : Thread nD τ).loc main_v179) = (fun i : (⟨3, ![8, 4096, 1024]⟩ : Shape).Idx => pj (m ((c.tc : Thread nD τ).loc main_arg0)) (m ((c.tc : Thread nD τ).loc main_arg1)) (m ((c.tc : Thread nD τ).loc main_arg2)) (m ((c.tc : Thread nD τ).loc main_arg3)) (i 0) (i 1) ⟨5152 + (i 2).val, by have : (i 2).val < 1024 := (i 2).isLt; omega⟩)) :=
  (θ_run defs _ _).mono (fun r h c => (h c).2.2.2.2.2.2.1.trans (funext fun (i : (⟨3, ![8, 4096, 1024]⟩ : Shape).Idx) => by
    clear h
    obtain ⟨b, l, j, rfl⟩ : ∃ b l j, i = ix3 b l j := ⟨_, _, _, idx3 i⟩
    pointwise
    exact v30 (launchContents m c) b l _
  )) (Value.run m ρ)

theorem run7 : θ_run defs (onTc (τ := τ) (main (F := Ideal))) ⟨m, fun _ => 0, ρ⟩ (fun r => ∀ c : Dev nD,
    r.2.mem ((c.tc : Thread nD τ).loc main_v180) = (fun i : (⟨3, ![8, 4096, 1024]⟩ : Shape).Idx => pj (m ((c.tc : Thread nD τ).loc main_arg0)) (m ((c.tc : Thread nD τ).loc main_arg1)) (m ((c.tc : Thread nD τ).loc main_arg2)) (m ((c.tc : Thread nD τ).loc main_arg3)) (i 0) (i 1) ⟨6176 + (i 2).val, by have : (i 2).val < 1024 := (i 2).isLt; omega⟩)) :=
  (θ_run defs _ _).mono (fun r h c => (h c).2.2.2.2.2.2.2.1.trans (funext fun (i : (⟨3, ![8, 4096, 1024]⟩ : Shape).Idx) => by
    clear h
    obtain ⟨b, l, j, rfl⟩ : ∃ b l j, i = ix3 b l j := ⟨_, _, _, idx3 i⟩
    pointwise
    exact v30 (launchContents m c) b l _
  )) (Value.run m ρ)

theorem run8 : θ_run defs (onTc (τ := τ) (main (F := Ideal))) ⟨m, fun _ => 0, ρ⟩ (fun r => ∀ c : Dev nD,
    r.2.mem ((c.tc : Thread nD τ).loc main_v158) = (fun i : (⟨3, ![8, 4096, 512]⟩ : Shape).Idx => cumF (fun l => la (m ((c.tc : Thread nD τ).loc main_arg0)) (m ((c.tc : Thread nD τ).loc main_arg1)) (m ((c.tc : Thread nD τ).loc main_arg2)) (m ((c.tc : Thread nD τ).loc main_arg3)) 3072 (by omega) (m ((c.tc : Thread nD τ).loc main_arg4)) (m ((c.tc : Thread nD τ).loc main_arg5)) (i 0) l (i 2)) (i 1))) :=
  (θ_run defs _ _).mono (fun r h c => (h c).2.2.2.2.2.2.2.2.1.trans (funext fun (i : (⟨3, ![8, 4096, 512]⟩ : Shape).Idx) => by
    clear h
    obtain ⟨b, l, j, rfl⟩ : ∃ b l j, i = ix3 b l j := ⟨_, _, _, idx3 i⟩
    pointwise
    refine win_add _ _ ?_ b j (fun l => la (m ((c.tc : Thread nD τ).loc main_arg0)) (m ((c.tc : Thread nD τ).loc main_arg1)) (m ((c.tc : Thread nD τ).loc main_arg2)) (m ((c.tc : Thread nD τ).loc main_arg3)) 3072 (by omega) (m ((c.tc : Thread nD τ).loc main_arg4)) (m ((c.tc : Thread nD τ).loc main_arg5)) b l j) (fun p q => ?_) l
    · pointwise
    · refine Eq.trans ?_ (lsg_eq _)
      pointwise [res_main_call2_call0_v3, res_main_call2_call0_cst]
      rw [g2]
      rw [if_neg (not_not.mpr rfl)]
      rfl
  )) (Value.run m ρ)

theorem run9 : θ_run defs (onTc (τ := τ) (main (F := Ideal))) ⟨m, fun _ => 0, ρ⟩ (fun r => ∀ c : Dev nD,
    r.2.mem ((c.tc : Thread nD τ).loc main_v172) = (fun i : (⟨3, ![8, 4096, 512]⟩ : Shape).Idx => cumB (fun l => la (m ((c.tc : Thread nD τ).loc main_arg0)) (m ((c.tc : Thread nD τ).loc main_arg1)) (m ((c.tc : Thread nD τ).loc main_arg2)) (m ((c.tc : Thread nD τ).loc main_arg3)) 3088 (by omega) (m ((c.tc : Thread nD τ).loc main_arg6)) (m ((c.tc : Thread nD τ).loc main_arg7)) (i 0) l (i 2)) (i 1))) :=
  (θ_run defs _ _).mono (fun r h c => (h c).2.2.2.2.2.2.2.2.2.1.trans (funext fun (i : (⟨3, ![8, 4096, 512]⟩ : Shape).Idx) => by
    clear h
    obtain ⟨b, l, j, rfl⟩ : ∃ b l j, i = ix3 b l j := ⟨_, _, _, idx3 i⟩
    pointwise
    refine Eq.trans ?_ (cumF_rev (fun l => la (m ((c.tc : Thread nD τ).loc main_arg0)) (m ((c.tc : Thread nD τ).loc main_arg1)) (m ((c.tc : Thread nD τ).loc main_arg2)) (m ((c.tc : Thread nD τ).loc main_arg3)) 3088 (by omega) (m ((c.tc : Thread nD τ).loc main_arg6)) (m ((c.tc : Thread nD τ).loc main_arg7)) b l j) l)
    refine win_add _ _ ?_ b j (fun l => la (m ((c.tc : Thread nD τ).loc main_arg0)) (m ((c.tc : Thread nD τ).loc main_arg1)) (m ((c.tc : Thread nD τ).loc main_arg2)) (m ((c.tc : Thread nD τ).loc main_arg3)) 3088 (by omega) (m ((c.tc : Thread nD τ).loc main_arg6)) (m ((c.tc : Thread nD τ).loc main_arg7)) b (Fin.rev l) j) (fun p q => ?_) (Fin.rev l)
    · pointwise
    · refine Eq.trans ?_ (lsg_eq _)
      pointwise [res_main_call4_call0_v3, res_main_call4_call0_cst]
      simp only [List.mem_singleton, Fin.reduceEq, if_true, if_false, reduceIte]
      rw [g4]
      rw [if_neg (not_not.mpr rfl)]
      rfl
  )) (Value.run m ρ)

end Cert.Proof.Prj.Ref

end
-- ==== Proof.PEq.lean ====
module

public import proofs.«01_k».proof.Defs
public import proofs.«01_k».proof.Proof.PGeo
public import proofs.«01_k».proof.Proof.PRefB
public import proofs.«01_k».proof.Proof.Gen.Project.Frame

/-!
# The projection's claims
-/

@[expose] public section

set_option maxRecDepth 16384

noncomputable section

namespace Cert.Proof.Prj

open Idealize.ShloMosaic Idealize.SL.Sem

theorem frame_p : @Cert.quiescent_Project Cert.Project.Gen.facts := fun m ρ _ => Cert.Project.Gen.frame m ρ

theorem frame_pi : @Cert.quiescent_ProjectIdeal Cert.ProjectIdeal.Gen.facts := fun m ρ _ => Cert.ProjectIdeal.Gen.frame m ρ

theorem frame_ri : @Cert.quiescent_ProjectReferenceIdeal Cert.ProjectReferenceIdeal.Gen.facts := fun m ρ _ =>
  (θ_run Cert.ProjectReferenceIdeal.defs _ _).mono (fun r h => ⟨fun c => (h c).2.2.2.2.2.2.2.2.2.2, Idealize.ShloMosaic.sem_eq_zero_of_no_sems (by decide) r.2⟩)
    (Cert.ProjectReferenceIdeal.Value.run (F := Ideal) m ρ)

theorem c4 {α β γ δ ε : Sort _} (f : α → β → γ → δ → ε) {a a' : α} {b b' : β} {d d' : γ} {e e' : δ} (h0 : a = a') (h1 : b = b') (h2 : d = d') (h3 : e = e') :
    f a b d e = f a' b' d' e' := by
  subst h0 h1 h2 h3
  rfl

theorem c6 {α β γ δ ε ζ η : Sort _} (f : α → β → γ → δ → ζ → η → ε) {a a' : α} {b b' : β} {d d' : γ} {e e' : δ} {u u' : ζ} {v v' : η}
    (h0 : a = a') (h1 : b = b') (h2 : d = d') (h3 : e = e') (h4 : u = u') (h5 : v = v') : f a b d e u v = f a' b' d' e' u' v' := by
  subst h0 h1 h2 h3 h4 h5
  rfl

theorem equal : @Cert.algebraic_ProjectIdeal_ProjectReferenceIdeal Cert.ProjectIdeal.Gen.facts Cert.ProjectReferenceIdeal.Gen.facts := by
  intro m g m' g' _ hagree
  refine ⟨fun c => G9 m c, fun c => G10 m c, fun c => G11 m c, fun c => G12 m c, fun c => G13 m c, fun c => G14 m c, fun c => G15 m c, fun c => G16 m c, fun c => G17 m c, fun c => G18 m c, run_value m g, ?_⟩
  refine (θ_run Cert.ProjectReferenceIdeal.defs _ _).mono (fun r h c => ?_)
    (θ_run_and (Ref.run0 m' g') (θ_run_and (Ref.run1 m' g') (θ_run_and (Ref.run2 m' g') (θ_run_and (Ref.run3 m' g') (θ_run_and (Ref.run4 m' g') (θ_run_and (Ref.run5 m' g') (θ_run_and (Ref.run6 m' g') (θ_run_and (Ref.run7 m' g') (θ_run_and (Ref.run8 m' g') (θ_run_and (Ref.run9 m' g') (Cert.ProjectReferenceIdeal.Value.run (F := Ideal) m' g')))))))))))
  obtain ⟨e0, e1, e2, e3, e4, e5, e6, e7⟩ := hagree c
  have h0 : (show T3 8 4096 1024 from (m' ((c.tc : Thread Cert.ProjectReferenceIdeal.nD Cert.ProjectReferenceIdeal.τ).loc Cert.ProjectReferenceIdeal.main_arg0))) = aX m c := e0
  have h1 : (show T3 16 1 3072 from (m' ((c.tc : Thread Cert.ProjectReferenceIdeal.nD Cert.ProjectReferenceIdeal.τ).loc Cert.ProjectReferenceIdeal.main_arg1))) = aM m c := e1
  have h2 : (show T2 1 1024 from (m' ((c.tc : Thread Cert.ProjectReferenceIdeal.nD Cert.ProjectReferenceIdeal.τ).loc Cert.ProjectReferenceIdeal.main_arg2))) = aN m c := e2
  have h3 : (show T3 1 1024 7200 from (m' ((c.tc : Thread Cert.ProjectReferenceIdeal.nD Cert.ProjectReferenceIdeal.τ).loc Cert.ProjectReferenceIdeal.main_arg3))) = aW m c := e3
  have h4 : (show T3 1 16 512 from (m' ((c.tc : Thread Cert.ProjectReferenceIdeal.nD Cert.ProjectReferenceIdeal.τ).loc Cert.ProjectReferenceIdeal.main_arg4))) = aU1 m c := e4
  have h5 : (show T2 1 512 from (m' ((c.tc : Thread Cert.ProjectReferenceIdeal.nD Cert.ProjectReferenceIdeal.τ).loc Cert.ProjectReferenceIdeal.main_arg5))) = aB1 m c := e5
  have h6 : (show T3 1 16 512 from (m' ((c.tc : Thread Cert.ProjectReferenceIdeal.nD Cert.ProjectReferenceIdeal.τ).loc Cert.ProjectReferenceIdeal.main_arg6))) = aU2 m c := e6
  have h7 : (show T2 1 512 from (m' ((c.tc : Thread Cert.ProjectReferenceIdeal.nD Cert.ProjectReferenceIdeal.τ).loc Cert.ProjectReferenceIdeal.main_arg7))) = aB2 m c := e7
  exact ⟨(h.1 c).trans (c4 (fun (X : T3 8 4096 1024) (M : T3 16 1 3072) (N : T2 1 1024) (W : T3 1 1024 7200) => fun (i : (⟨3, ![8, 4096, 512]⟩ : Shape).Idx) => qv X M N W (i 0) (i 1) (i 2)) h0 h1 h2 h3),
    (h.2.1 c).trans (c4 (fun (X : T3 8 4096 1024) (M : T3 16 1 3072) (N : T2 1 1024) (W : T3 1 1024 7200) => fun (i : (⟨3, ![8, 4096, 512]⟩ : Shape).Idx) => kv X M N W (i 0) (i 1) (i 2)) h0 h1 h2 h3),
    (h.2.2.1 c).trans (c4 (fun (X : T3 8 4096 1024) (M : T3 16 1 3072) (N : T2 1 1024) (W : T3 1 1024 7200) => fun (i : (⟨3, ![8, 4096, 1024]⟩ : Shape).Idx) => pj X M N W (i 0) (i 1) ⟨1024 + (i 2).val, by have : (i 2).val < 1024 := (i 2).isLt; omega⟩) h0 h1 h2 h3),
    (h.2.2.2.1 c).trans (c4 (fun (X : T3 8 4096 1024) (M : T3 16 1 3072) (N : T2 1 1024) (W : T3 1 1024 7200) => fun (i : (⟨3, ![8, 4096, 1024]⟩ : Shape).Idx) => pj X M N W (i 0) (i 1) ⟨2048 + (i 2).val, by have : (i 2).val < 1024 := (i 2).isLt; omega⟩) h0 h1 h2 h3),
    (h.2.2.2.2.1 c).trans (c4 (fun (X : T3 8 4096 1024) (M : T3 16 1 3072) (N : T2 1 1024) (W : T3 1 1024 7200) => fun (i : (⟨3, ![8, 4096, 1024]⟩ : Shape).Idx) => pj X M N W (i 0) (i 1) ⟨3104 + (i 2).val, by have : (i 2).val < 1024 := (i 2).isLt; omega⟩) h0 h1 h2 h3),
    (h.2.2.2.2.2.1 c).trans (c4 (fun (X : T3 8 4096 1024) (M : T3 16 1 3072) (N : T2 1 1024) (W : T3 1 1024 7200) => fun (i : (⟨3, ![8, 4096, 1024]⟩ : Shape).Idx) => pj X M N W (i 0) (i 1) ⟨4128 + (i 2).val, by have : (i 2).val < 1024 := (i 2).isLt; omega⟩) h0 h1 h2 h3),
    (h.2.2.2.2.2.2.1 c).trans (c4 (fun (X : T3 8 4096 1024) (M : T3 16 1 3072) (N : T2 1 1024) (W : T3 1 1024 7200) => fun (i : (⟨3, ![8, 4096, 1024]⟩ : Shape).Idx) => pj X M N W (i 0) (i 1) ⟨5152 + (i 2).val, by have : (i 2).val < 1024 := (i 2).isLt; omega⟩) h0 h1 h2 h3),
    (h.2.2.2.2.2.2.2.1 c).trans (c4 (fun (X : T3 8 4096 1024) (M : T3 16 1 3072) (N : T2 1 1024) (W : T3 1 1024 7200) => fun (i : (⟨3, ![8, 4096, 1024]⟩ : Shape).Idx) => pj X M N W (i 0) (i 1) ⟨6176 + (i 2).val, by have : (i 2).val < 1024 := (i 2).isLt; omega⟩) h0 h1 h2 h3),
    (h.2.2.2.2.2.2.2.2.1 c).trans (c6 (fun (X : T3 8 4096 1024) (M : T3 16 1 3072) (N : T2 1 1024) (W : T3 1 1024 7200) (U : T3 1 16 512) (B : T2 1 512) => fun (i : (⟨3, ![8, 4096, 512]⟩ : Shape).Idx) => cumF (fun l => la X M N W 3072 (by omega) U B (i 0) l (i 2)) (i 1)) h0 h1 h2 h3 h4 h5),
    (h.2.2.2.2.2.2.2.2.2.1 c).trans (c6 (fun (X : T3 8 4096 1024) (M : T3 16 1 3072) (N : T2 1 1024) (W : T3 1 1024 7200) (U : T3 1 16 512) (B : T2 1 512) => fun (i : (⟨3, ![8, 4096, 512]⟩ : Shape).Idx) => cumB (fun l => la X M N W 3088 (by omega) U B (i 0) l (i 2)) (i 1)) h0 h1 h2 h3 h6 h7),
    (h.2.2.2.2.2.2.2.2.2.2 c).2.2.2.2.2.2.2.2.2.2⟩

end Cert.Proof.Prj

end
-- ==== Proof.lean ====
module

public import proofs.«01_k».proof.Defs
public import proofs.«01_k».proof.Proof.Same
public import proofs.«01_k».proof.Proof.KArr
public import proofs.«01_k».proof.Proof.RMath
public import proofs.«01_k».proof.Proof.Gen.ReferenceIdeal.Run
public import proofs.«01_k».proof.Proof.PEq

@[expose] public section

/-! The claims together. The scan's kernel and reference are both read as the gated linear attention of Row.lean, whose arrays
are the arguments they agree on. The projection's claims are PEq.lean's. -/

noncomputable section

namespace Cert.Proof

open Idealize.ShloMosaic Idealize.SL.Sem

theorem reference_frame : @Cert.quiescent_ReferenceIdeal Cert.ReferenceIdeal.Gen.facts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- An index of the output as a token of a chunk and a lane of a head. -/
theorem split_idx (i : (⟨3, ![8, 4096, 1024]⟩ : Shape).Idx) : ∃ (β : Fin 8) (n : Fin 64) (h : Fin 4) (j : Fin 64) (w : Fin 256),
    i = ix3 β ⟨64 * n.val + j.val, by omega⟩ ⟨256 * h.val + w.val, by omega⟩ := by
  have h1 : (i 1).val < 4096 := (i 1).isLt
  have h2 : (i 2).val < 1024 := (i 2).isLt
  refine ⟨i 0, ⟨(i 1).val / 64, by omega⟩, ⟨(i 2).val / 256, by omega⟩, ⟨(i 1).val % 64, by omega⟩, ⟨(i 2).val % 256, by omega⟩,
    KernelIdeal.ext3 _ _ rfl ?_ ?_⟩
  · show (i 1).val = 64 * ((i 1).val / 64) + (i 1).val % 64; omega
  · show (i 2).val = 256 * ((i 2).val / 256) + (i 2).val % 256; omega

theorem equal : @Cert.algebraic_KernelIdeal_ReferenceIdeal_pre_decays_fall Cert.KernelIdeal.Gen.facts Cert.ReferenceIdeal.Gen.facts
    Cert.Proof.KernelIdeal.factsPre := by
  intro m g m' g' hpre hagree
  refine ⟨fun c => KernelIdeal.G8 m trivial c, KernelIdeal.run_value m g trivial, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8⟩ := hagree c
  have hb := KernelIdeal.falls_of_pre _ _ _ _ _ _ _ _ _ (hpre c)
  refine funext fun (i : (⟨3, ![8, 4096, 1024]⟩ : Shape).Idx) => ?_
  obtain ⟨β, n, hd, j, w, rfl⟩ := split_idx i
  refine (RefIdeal.out_apply m' c β n hd j w).trans (Eq.trans ?_ (KernelIdeal.G8_apply m trivial c hb β n hd j w).symm)
  have hG : RefIdeal.aG m' c = KernelIdeal.aG m c := funext fun w => congrFun e8 (ix2 0 w)
  have hQ : RefIdeal.aQ m' c = KernelIdeal.aQ m c := e1
  have hK : RefIdeal.aK m' c = KernelIdeal.aK m c := e2
  have hV : RefIdeal.aV m' c = KernelIdeal.aV m c := e3
  have hB : RefIdeal.aB m' c = KernelIdeal.aB m c := e4
  have hS : RefIdeal.aS m' c = KernelIdeal.aS m c := e5
  have hO : RefIdeal.aO m' c = KernelIdeal.aO m c := e6
  have hZ : RefIdeal.aZ m' c = KernelIdeal.aZ m c := e7
  rw [hQ, hK, hV, hB, hS, hO, hZ, hG]

theorem claim : Cert.Claim := ⟨Cert.Kernel.Gen.facts, Cert.KernelIdeal.Gen.facts, Cert.ReferenceIdeal.Gen.facts, Cert.Project.Gen.facts,
  Cert.ProjectIdeal.Gen.facts, Cert.ProjectReferenceIdeal.Gen.facts, Cert.Proof.KernelIdeal.factsPre,
  kernel_frame, ideal_frame, fun m ρ _ => ideal_frame m ρ trivial, reference_frame, fun m ρ _ => reference_frame m ρ trivial,
  Prj.frame_p, Prj.frame_pi, Prj.frame_ri, trivial, equal, trivial, Prj.equal⟩

end Cert.Proof

end
